-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![512, 256]⟩ ⟨2, ![512, 1024]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨4, ![2, 128, 16, 64]⟩ ⟨4, ![2, 512, 16, 64]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 128, 16, 64]⟩ ⟨4, ![2, 512, 16, 64]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![256, 512]⟩ ⟨2, ![1024, 512]⟩ 0 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v45) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x128x512 : Shape := ⟨3, ![2, 128, 512]⟩
abbrev S512x256 : Shape := ⟨2, ![512, 256]⟩
abbrev S2x128x16x64 : Shape := ⟨4, ![2, 128, 16, 64]⟩
abbrev S256x512 : Shape := ⟨2, ![256, 512]⟩
abbrev S_ : Shape := ⟨0, ![]⟩

class Facts : Prop where
  bitsLt_bf16_f32 : FTy.bits .bf16 < FTy.bits .f32
  bcast_S_S2x128x512 : S_.BroadcastsInDim S2x128x512 (![] : Fin 0 → Fin S2x128x512.rank)
  reducesTo_S2x128x512_S_d0_1_2 : S2x128x512.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_
  bcast_S_S2x128x16x64 : S_.BroadcastsInDim S2x128x16x64 (![] : Fin 0 → Fin S2x128x16x64.rank)
  reducesTo_S2x128x16x64_S_d0_1_2_3 : S2x128x16x64.ReducesTo [0, 1, 2, 3] S_

variable [Facts]

def fn {F : FTy → Type} [FloatOps F] (main_arg0 : FVec F S2x128x512 .bf16) (main_arg1 : FVec F S512x256 .bf16) (main_arg2 : FVec F S2x128x16x64 .bf16) (main_arg3 : FVec F S2x128x16x64 .bf16) (main_arg4 : FVec F S256x512 .bf16) : IVec S_ 1 :=
  let main_v0 : FVec F S2x128x512 .f32 := (extf .f32 · bitsLt_bf16_f32) main_arg0
  let main_v1 : FVec F S2x128x512 .f32 := Host.absf main_v0
  let main_cst : FVec F S_ .f32 := constant S_ .f32 0x7F800000#32
  let main_v2 : FVec F S2x128x512 .f32 := broadcastInDim S2x128x512 ![] bcast_S_S2x128x512 main_cst
  let main_v3 : IVec S2x128x512 1 := cmpf .olt main_v1 main_v2
  let main_c : IVec S_ 1 := constantI S_ 1 1#1
  let main_v4 : IVec S_ 1 := (fun x v => Host.reduce IntOp.andi x v reducesTo_S2x128x512_S_d0_1_2 h_S_) main_v3 main_c
  let main_v5 : FVec F S512x256 .f32 := (extf .f32 · bitsLt_bf16_f32) main_arg1
  let main_v6 : FVec F S512x256 .f32 := Host.absf main_v5
  let main_cst_0 : FVec F S_ .f32 := constant S_ .f32 0x7F800000#32
  let main_v7 : FVec F S512x256 .f32 := broadcastInDim S512x256 ![] bcast_S_S512x256 main_cst_0
  let main_v8 : IVec S512x256 1 := cmpf .olt main_v6 main_v7
  let main_c_1 : IVec S_ 1 := constantI S_ 1 1#1
  let main_v9 : IVec S_ 1 := (fun x v => Host.reduce IntOp.andi x v reducesTo_S512x256_S_d0_1 h_S_) main_v8 main_c_1
  let main_v10 : IVec S_ 1 := andi main_v4 main_v9
  let main_v11 : FVec F S2x128x16x64 .f32 := (extf .f32 · bitsLt_bf16_f32) main_arg2
  let main_v12 : FVec F S2x128x16x64 .f32 := Host.absf main_v11
  let main_cst_2 : FVec F S_ .f32 := constant S_ .f32 0x7F800000#32
  let main_v13 : FVec F S2x128x16x64 .f32 := broadcastInDim S2x128x16x64 ![] bcast_S_S2x128x16x64 main_cst_2
  let main_v14 : IVec S2x128x16x64 1 := cmpf .olt main_v12 main_v13
  let main_c_3 : IVec S_ 1 := constantI S_ 1 1#1
  let main_v15 : IVec S_ 1 := (fun x v => Host.reduce IntOp.andi x v reducesTo_S2x128x16x64_S_d0_1_2_3 h_S_) main_v14 main_c_3
  let main_v16 : IVec S_ 1 := andi main_v10 main_v15
  main_v16
-- ==== Pre_finite_ReferenceIdeal.lean ====
abbrev S2x128x512 : Shape := ⟨3, ![2, 128, 512]⟩
abbrev S512x1024 : Shape := ⟨2, ![512, 1024]⟩
abbrev S2x512x16x64 : Shape := ⟨4, ![2, 512, 16, 64]⟩
abbrev S1024x512 : Shape := ⟨2, ![1024, 512]⟩
abbrev S_ : Shape := ⟨0, ![]⟩

class Facts : Prop where
  bitsLt_bf16_f32 : FTy.bits .bf16 < FTy.bits .f32
  bcast_S_S2x128x512 : S_.BroadcastsInDim S2x128x512 (![] : Fin 0 → Fin S2x128x512.rank)
  reducesTo_S2x128x512_S_d0_1_2 : S2x128x512.ReducesTo [0, 1, 2] S_
  h_S_ : 0 < S_.numel
  bcast_S_S512x1024 : S_.BroadcastsInDim S512x1024 (![] : Fin 0 → Fin S512x1024.rank)
  reducesTo_S512x1024_S_d0_1 : S512x1024.ReducesTo [0, 1] S_
  bcast_S_S2x512x16x64 : S_.BroadcastsInDim S2x512x16x64 (![] : Fin 0 → Fin S2x512x16x64.rank)
  reducesTo_S2x512x16x64_S_d0_1_2_3 : S2x512x16x64.ReducesTo [0, 1, 2, 3] S_

variable [Facts]

def fn {F : FTy → Type} [FloatOps F] (main_arg0 : FVec F S2x128x512 .bf16) (main_arg1 : FVec F S512x1024 .bf16) (main_arg2 : FVec F S2x512x16x64 .bf16) (main_arg3 : FVec F S2x512x16x64 .bf16) (main_arg4 : FVec F S1024x512 .bf16) : IVec S_ 1 :=
  let main_v0 : FVec F S2x128x512 .f32 := (extf .f32 · bitsLt_bf16_f32) main_arg0
  let main_v1 : FVec F S2x128x512 .f32 := Host.absf main_v0
  let main_cst : FVec F S_ .f32 := constant S_ .f32 0x7F800000#32
  let main_v2 : FVec F S2x128x512 .f32 := broadcastInDim S2x128x512 ![] bcast_S_S2x128x512 main_cst
  let main_v3 : IVec S2x128x512 1 := cmpf .olt main_v1 main_v2
  let main_c : IVec S_ 1 := constantI S_ 1 1#1
  let main_v4 : IVec S_ 1 := (fun x v => Host.reduce IntOp.andi x v reducesTo_S2x128x512_S_d0_1_2 h_S_) main_v3 main_c
  let main_v5 : FVec F S512x1024 .f32 := (extf .f32 · bitsLt_bf16_f32) main_arg1
  let main_v6 : FVec F S512x1024 .f32 := Host.absf main_v5
  let main_cst_0 : FVec F S_ .f32 := constant S_ .f32 0x7F800000#32
  let main_v7 : FVec F S512x1024 .f32 := broadcastInDim S512x1024 ![] bcast_S_S512x1024 main_cst_0
  let main_v8 : IVec S512x1024 1 := cmpf .olt main_v6 main_v7
  let main_c_1 : IVec S_ 1 := constantI S_ 1 1#1
  let main_v9 : IVec S_ 1 := (fun x v => Host.reduce IntOp.andi x v reducesTo_S512x1024_S_d0_1 h_S_) main_v8 main_c_1
  let main_v10 : IVec S_ 1 := andi main_v4 main_v9
  let main_v11 : FVec F S2x512x16x64 .f32 := (extf .f32 · bitsLt_bf16_f32) main_arg2
  let main_v12 : FVec F S2x512x16x64 .f32 := Host.absf main_v11
  let main_cst_2 : FVec F S_ .f32 := constant S_ .f32 0x7F800000#32
  let main_v13 : FVec F S2x512x16x64 .f32 := broadcastInDim S2x512x16x64 ![] bcast_S_S2x512x16x64 main_cst_2
  let main_v14 : IVec S2x512x16x64 1 := cmpf .olt main_v12 main_v13
  let main_c_3 : IVec S_ 1 := constantI S_ 1 1#1
  let main_v15 : IVec S_ 1 := (fun x v => Host.reduce IntOp.andi x v reducesTo_S2x512x16x64_S_d0_1_2_3 h_S_) main_v14 main_c_3
  let main_v16 : IVec S_ 1 := andi main_v10 main_v15
  main_v16
-- ==== Kernel.lean ====
abbrev S2x128x512 : Shape := ⟨3, ![2, 128, 512]⟩
abbrev S512x256 : Shape := ⟨2, ![512, 256]⟩
abbrev S2x128x16x64 : Shape := ⟨4, ![2, 128, 16, 64]⟩
abbrev S256x512 : Shape := ⟨2, ![256, 512]⟩
abbrev S2x128x1024 : Shape := ⟨3, ![2, 128, 1024]⟩
abbrev S4x2x2x2x64x256 : Shape := ⟨6, ![4, 2, 2, 2, 64, 256]⟩
abbrev S2x2x2x128x256 : Shape := ⟨5, ![2, 2, 2, 128, 256]⟩
abbrev S2x2x2x64x512 : Shape := ⟨5, ![2, 2, 2, 64, 512]⟩
abbrev S4x2x2 : Shape := ⟨3, ![4, 2, 2]⟩
abbrev S2x2x2 : Shape := ⟨3, ![2, 2, 2]⟩
abbrev S2x2 : Shape := ⟨2, ![2, 2]⟩
abbrev S_ : Shape := ⟨0, ![]⟩
abbrev S2x64x256 : Shape := ⟨3, ![2, 64, 256]⟩
abbrev S1x1x1x2x64x256 : Shape := ⟨6, ![1, 1, 1, 2, 64, 256]⟩
abbrev S1x1x1 : Shape := ⟨3, ![1, 1, 1]⟩
abbrev S1x1x2x64x256 : Shape := ⟨5, ![1, 1, 2, 64, 256]⟩
abbrev S2x128x256 : Shape := ⟨3, ![2, 128, 256]⟩
abbrev S1x1x2x128x256 : Shape := ⟨5, ![1, 1, 2, 128, 256]⟩
abbrev S2x64x64 : Shape := ⟨3, ![2, 64, 64]⟩
abbrev S2x128x64 : Shape := ⟨3, ![2, 128, 64]⟩
abbrev S2x64x128 : Shape := ⟨3, ![2, 64, 128]⟩
abbrev S2x64 : Shape := ⟨2, ![2, 64]⟩
abbrev S2x64x1 : Shape := ⟨3, ![2, 64, 1]⟩
abbrev S2x64x512 : Shape := ⟨3, ![2, 64, 512]⟩
abbrev S1x1x2x64x512 : Shape := ⟨5, ![1, 1, 2, 64, 512]⟩
abbrev S1x1 : Shape := ⟨2, ![1, 1]⟩

abbrev nBuf : Space → Nat
  | .hbm => 8
  | .vmem => 10
  | .smem => 0
  | _ => 0

abbrev bufTy : (tb : Table) → Fin (tcTables nBuf tb) → BufTy
  | .hbm, ⟨0, _⟩ => ⟨S2x128x512, .bf16⟩
  | .hbm, ⟨1, _⟩ => ⟨S512x256, .bf16⟩
  | .hbm, ⟨2, _⟩ => ⟨S2x128x16x64, .bf16⟩
  | .hbm, ⟨3, _⟩ => ⟨S2x128x16x64, .bf16⟩
  | .hbm, ⟨4, _⟩ => ⟨S256x512, .bf16⟩
  | .hbm, ⟨5, _⟩ => ⟨S2x128x1024, .bf16⟩
  | .hbm, ⟨6, _⟩ => ⟨S2x128x1024, .bf16⟩
  | .hbm, ⟨7, _⟩ => ⟨S2x128x512, .bf16⟩
  | .local _ .vmem, ⟨0, _⟩ => ⟨S2x128x512, .bf16⟩
  | .local _ .vmem, ⟨1, _⟩ => ⟨S512x256, .bf16⟩
  | .local _ .vmem, ⟨2, _⟩ => ⟨S2x128x1024, .bf16⟩
  | .local _ .vmem, ⟨3, _⟩ => ⟨S2x128x1024, .bf16⟩
  | .local _ .vmem, ⟨4, _⟩ => ⟨S256x512, .bf16⟩
  | .local _ .vmem, ⟨5, _⟩ => ⟨S2x128x512, .bf16⟩
  | .local _ .vmem, ⟨6, _⟩ => ⟨S4x2x2x2x64x256, .bf16⟩
  | .local _ .vmem, ⟨7, _⟩ => ⟨S2x2x2x128x256, .bf16⟩
  | .local _ .vmem, ⟨8, _⟩ => ⟨S2x2x2x64x512, .bf16⟩
  | .local _ .vmem, ⟨9, _⟩ => ⟨S2x2x2x64x512, .bf16⟩
  | _, _ => ⟨S2x128x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 2 → Bool
  | ⟨0, _⟩ => false
  | ⟨1, _⟩ => true
  | _ => false

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  (ofTc nBuf bufTy 2 38 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v4 : BitVec 1 := Scalar.cmpi .eq v2 c0_i32
  let v5 : BitVec 32 := Scalar.extui v4
  let c0_i32_0 : BitVec 32 := 0#32
  let v6 : BitVec 1 := Scalar.cmpi .ne v5 c0_i32_0
  v6

def k0_dev1 : Nat :=
  let c0_i32_336 : BitVec 32 := 0#32
  let c1_i32_334 : BitVec 32 := 1#32
  let c1_i32_335 : BitVec 32 := 1#32
  let v340 : BitVec 32 := Scalar.muli c1_i32_334 c1_i32_335
  let v341 : BitVec 32 := Scalar.addi c0_i32_336 v340
  v341.toNat
def k0_dev2 : Nat :=
  let c0_i32_340 : BitVec 32 := 0#32
  let c2_i32_338 : BitVec 32 := 2#32
  let c1_i32_339 : BitVec 32 := 1#32
  let v342 : BitVec 32 := Scalar.muli c2_i32_338 c1_i32_339
  let v343 : BitVec 32 := Scalar.addi c0_i32_340 v342
  v343.toNat
def k0_dev3 : Nat :=
  let c0_i32_344 : BitVec 32 := 0#32
  let c3_i32_342 : BitVec 32 := 3#32
  let c1_i32_343 : BitVec 32 := 1#32
  let v344 : BitVec 32 := Scalar.muli c3_i32_342 c1_i32_343
  let v345 : BitVec 32 := Scalar.addi c0_i32_344 v344
  v345.toNat
def k0_cond2 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v7 : BitVec 1 := Scalar.cmpi .eq v2 c1_i32_1
  let v8 : BitVec 32 := Scalar.extui v7
  let c0_i32_2 : BitVec 32 := 0#32
  let v9 : BitVec 1 := Scalar.cmpi .ne v8 c0_i32_2
  v9

def k0_dev4 : Nat :=
  let c0_i32_336 : BitVec 32 := 0#32
  let c0_i32_334 : BitVec 32 := 0#32
  let c1_i32_335 : BitVec 32 := 1#32
  let v340 : BitVec 32 := Scalar.muli c0_i32_334 c1_i32_335
  let v341 : BitVec 32 := Scalar.addi c0_i32_336 v340
  v341.toNat
def k0_dev5 : Nat :=
  let c0_i32_340 : BitVec 32 := 0#32
  let c2_i32_338 : BitVec 32 := 2#32
  let c1_i32_339 : BitVec 32 := 1#32
  let v342 : BitVec 32 := Scalar.muli c2_i32_338 c1_i32_339
  let v343 : BitVec 32 := Scalar.addi c0_i32_340 v342
  v343.toNat
def k0_cond3 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v10 : BitVec 1 := Scalar.cmpi .eq v2 c2_i32
  let v11 : BitVec 32 := Scalar.extui v10
  let c0_i32_3 : BitVec 32 := 0#32
  let v12 : BitVec 1 := Scalar.cmpi .ne v11 c0_i32_3
  v12

def k0_dev6 : Nat :=
  let c0_i32_336 : BitVec 32 := 0#32
  let c0_i32_334 : BitVec 32 := 0#32
  let c1_i32_335 : BitVec 32 := 1#32
  let v340 : BitVec 32 := Scalar.muli c0_i32_334 c1_i32_335
  let v341 : BitVec 32 := Scalar.addi c0_i32_336 v340
  v341.toNat
def k0_dev7 : Nat :=
  let c0_i32_340 : BitVec 32 := 0#32
  let c1_i32_338 : BitVec 32 := 1#32
  let c1_i32_339 : BitVec 32 := 1#32
  let v342 : BitVec 32 := Scalar.muli c1_i32_338 c1_i32_339
  let v343 : BitVec 32 := Scalar.addi c0_i32_340 v342
  v343.toNat
def k0_dev8 : Nat :=
  let c0_i32_344 : BitVec 32 := 0#32
  let c3_i32_342 : BitVec 32 := 3#32
  let c1_i32_343 : BitVec 32 := 1#32
  let v344 : BitVec 32 := Scalar.muli c3_i32_342 c1_i32_343
  let v345 : BitVec 32 := Scalar.addi c0_i32_344 v344
  v345.toNat
def k0_cond4 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v13 : BitVec 1 := Scalar.cmpi .eq v2 c3_i32
  let v14 : BitVec 32 := Scalar.extui v13
  let c0_i32_4 : BitVec 32 := 0#32
  let v15 : BitVec 1 := Scalar.cmpi .ne v14 c0_i32_4
  v15

def k0_dev9 : Nat :=
  let c0_i32_336 : BitVec 32 := 0#32
  let c0_i32_334 : BitVec 32 := 0#32
  let c1_i32_335 : BitVec 32 := 1#32
  let v340 : BitVec 32 := Scalar.muli c0_i32_334 c1_i32_335
  let v341 : BitVec 32 := Scalar.addi c0_i32_336 v340
  v341.toNat
def k0_dev10 : Nat :=
  let c0_i32_340 : BitVec 32 := 0#32
  let c2_i32_338 : BitVec 32 := 2#32
  let c1_i32_339 : BitVec 32 := 1#32
  let v342 : BitVec 32 := Scalar.muli c2_i32_338 c1_i32_339
  let v343 : BitVec 32 := Scalar.addi c0_i32_340 v342
  v343.toNat
def k0_cond5 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_5 : BitVec 32 := 0#32
  let v16 : BitVec 1 := Scalar.cmpi .eq v2 c0_i32_5
  let v17 : BitVec 32 := Scalar.extui v16
  let c0_i32_6 : BitVec 32 := 0#32
  let v18 : BitVec 1 := Scalar.cmpi .ne v17 c0_i32_6
  v18

def k0_dev11 : Nat :=
  let c0_i32_353 : BitVec 32 := 0#32
  let c2_i32_351 : BitVec 32 := 2#32
  let c1_i32_352 : BitVec 32 := 1#32
  let v345 : BitVec 32 := Scalar.muli c2_i32_351 c1_i32_352
  let v346 : BitVec 32 := Scalar.addi c0_i32_353 v345
  v346.toNat
def k0_dev12 : Nat :=
  let c0_i32_381 : BitVec 32 := 0#32
  let c1_i32_379 : BitVec 32 := 1#32
  let c1_i32_380 : BitVec 32 := 1#32
  let v360 : BitVec 32 := Scalar.muli c1_i32_379 c1_i32_380
  let v361 : BitVec 32 := Scalar.addi c0_i32_381 v360
  v361.toNat
def k0_dev13 : Nat :=
  let c0_i32_408 : BitVec 32 := 0#32
  let c3_i32_406 : BitVec 32 := 3#32
  let c1_i32_407 : BitVec 32 := 1#32
  let v375 : BitVec 32 := Scalar.muli c3_i32_406 c1_i32_407
  let v376 : BitVec 32 := Scalar.addi c0_i32_408 v375
  v376.toNat
def k0_dev14 : Nat :=
  let c0_i32_437 : BitVec 32 := 0#32
  let c2_i32_435 : BitVec 32 := 2#32
  let c1_i32_436 : BitVec 32 := 1#32
  let v390 : BitVec 32 := Scalar.muli c2_i32_435 c1_i32_436
  let v391 : BitVec 32 := Scalar.addi c0_i32_437 v390
  v391.toNat
def k0_dev15 : Nat :=
  let c0_i32_466 : BitVec 32 := 0#32
  let c1_i32_464 : BitVec 32 := 1#32
  let c1_i32_465 : BitVec 32 := 1#32
  let v405 : BitVec 32 := Scalar.muli c1_i32_464 c1_i32_465
  let v406 : BitVec 32 := Scalar.addi c0_i32_466 v405
  v406.toNat
def k0_dev16 : Nat :=
  let c0_i32_495 : BitVec 32 := 0#32
  let c3_i32_493 : BitVec 32 := 3#32
  let c1_i32_494 : BitVec 32 := 1#32
  let v420 : BitVec 32 := Scalar.muli c3_i32_493 c1_i32_494
  let v421 : BitVec 32 := Scalar.addi c0_i32_495 v420
  v421.toNat
def k0_dev17 : Nat :=
  let c0_i32_524 : BitVec 32 := 0#32
  let c2_i32_522 : BitVec 32 := 2#32
  let c1_i32_523 : BitVec 32 := 1#32
  let v435 : BitVec 32 := Scalar.muli c2_i32_522 c1_i32_523
  let v436 : BitVec 32 := Scalar.addi c0_i32_524 v435
  v436.toNat
def k0_dev18 : Nat :=
  let c0_i32_553 : BitVec 32 := 0#32
  let c1_i32_551 : BitVec 32 := 1#32
  let c1_i32_552 : BitVec 32 := 1#32
  let v450 : BitVec 32 := Scalar.muli c1_i32_551 c1_i32_552
  let v451 : BitVec 32 := Scalar.addi c0_i32_553 v450
  v451.toNat
def k0_dev19 : Nat :=
  let c0_i32_582 : BitVec 32 := 0#32
  let c3_i32_580 : BitVec 32 := 3#32
  let c1_i32_581 : BitVec 32 := 1#32
  let v465 : BitVec 32 := Scalar.muli c3_i32_580 c1_i32_581
  let v466 : BitVec 32 := Scalar.addi c0_i32_582 v465
  v466.toNat
def k0_dev20 : Nat :=
  let c0_i32_611 : BitVec 32 := 0#32
  let c2_i32_609 : BitVec 32 := 2#32
  let c1_i32_610 : BitVec 32 := 1#32
  let v480 : BitVec 32 := Scalar.muli c2_i32_609 c1_i32_610
  let v481 : BitVec 32 := Scalar.addi c0_i32_611 v480
  v481.toNat
def k0_dev21 : Nat :=
  let c0_i32_640 : BitVec 32 := 0#32
  let c1_i32_638 : BitVec 32 := 1#32
  let c1_i32_639 : BitVec 32 := 1#32
  let v495 : BitVec 32 := Scalar.muli c1_i32_638 c1_i32_639
  let v496 : BitVec 32 := Scalar.addi c0_i32_640 v495
  v496.toNat
def k0_dev22 : Nat :=
  let c0_i32_669 : BitVec 32 := 0#32
  let c3_i32_667 : BitVec 32 := 3#32
  let c1_i32_668 : BitVec 32 := 1#32
  let v510 : BitVec 32 := Scalar.muli c3_i32_667 c1_i32_668
  let v511 : BitVec 32 := Scalar.addi c0_i32_669 v510
  v511.toNat
def k0_cond6 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_7 : BitVec 32 := 2#32
  let v19 : BitVec 1 := Scalar.cmpi .eq v2 c2_i32_7
  let v20 : BitVec 32 := Scalar.extui v19
  let c0_i32_8 : BitVec 32 := 0#32
  let v21 : BitVec 1 := Scalar.cmpi .ne v20 c0_i32_8
  v21

def k0_dev23 : Nat :=
  let c0_i32_355 : BitVec 32 := 0#32
  let c0_i32_353 : BitVec 32 := 0#32
  let c1_i32_354 : BitVec 32 := 1#32
  let v345 : BitVec 32 := Scalar.muli c0_i32_353 c1_i32_354
  let v346 : BitVec 32 := Scalar.addi c0_i32_355 v345
  v346.toNat
def k0_dev24 : Nat :=
  let c0_i32_382 : BitVec 32 := 0#32
  let c1_i32_380 : BitVec 32 := 1#32
  let c1_i32_381 : BitVec 32 := 1#32
  let v360 : BitVec 32 := Scalar.muli c1_i32_380 c1_i32_381
  let v361 : BitVec 32 := Scalar.addi c0_i32_382 v360
  v361.toNat
def k0_dev25 : Nat :=
  let c0_i32_409 : BitVec 32 := 0#32
  let c3_i32_407 : BitVec 32 := 3#32
  let c1_i32_408 : BitVec 32 := 1#32
  let v375 : BitVec 32 := Scalar.muli c3_i32_407 c1_i32_408
  let v376 : BitVec 32 := Scalar.addi c0_i32_409 v375
  v376.toNat
def k0_dev26 : Nat :=
  let c0_i32_438 : BitVec 32 := 0#32
  let c0_i32_436 : BitVec 32 := 0#32
  let c1_i32_437 : BitVec 32 := 1#32
  let v390 : BitVec 32 := Scalar.muli c0_i32_436 c1_i32_437
  let v391 : BitVec 32 := Scalar.addi c0_i32_438 v390
  v391.toNat
def k0_dev27 : Nat :=
  let c0_i32_467 : BitVec 32 := 0#32
  let c1_i32_465 : BitVec 32 := 1#32
  let c1_i32_466 : BitVec 32 := 1#32
  let v405 : BitVec 32 := Scalar.muli c1_i32_465 c1_i32_466
  let v406 : BitVec 32 := Scalar.addi c0_i32_467 v405
  v406.toNat
def k0_dev28 : Nat :=
  let c0_i32_496 : BitVec 32 := 0#32
  let c3_i32_494 : BitVec 32 := 3#32
  let c1_i32_495 : BitVec 32 := 1#32
  let v420 : BitVec 32 := Scalar.muli c3_i32_494 c1_i32_495
  let v421 : BitVec 32 := Scalar.addi c0_i32_496 v420
  v421.toNat
def k0_dev29 : Nat :=
  let c0_i32_525 : BitVec 32 := 0#32
  let c0_i32_523 : BitVec 32 := 0#32
  let c1_i32_524 : BitVec 32 := 1#32
  let v435 : BitVec 32 := Scalar.muli c0_i32_523 c1_i32_524
  let v436 : BitVec 32 := Scalar.addi c0_i32_525 v435
  v436.toNat
def k0_dev30 : Nat :=
  let c0_i32_554 : BitVec 32 := 0#32
  let c1_i32_552 : BitVec 32 := 1#32
  let c1_i32_553 : BitVec 32 := 1#32
  let v450 : BitVec 32 := Scalar.muli c1_i32_552 c1_i32_553
  let v451 : BitVec 32 := Scalar.addi c0_i32_554 v450
  v451.toNat
def k0_dev31 : Nat :=
  let c0_i32_583 : BitVec 32 := 0#32
  let c3_i32_581 : BitVec 32 := 3#32
  let c1_i32_582 : BitVec 32 := 1#32
  let v465 : BitVec 32 := Scalar.muli c3_i32_581 c1_i32_582
  let v466 : BitVec 32 := Scalar.addi c0_i32_583 v465
  v466.toNat
def k0_dev32 : Nat :=
  let c0_i32_612 : BitVec 32 := 0#32
  let c0_i32_610 : BitVec 32 := 0#32
  let c1_i32_611 : BitVec 32 := 1#32
  let v480 : BitVec 32 := Scalar.muli c0_i32_610 c1_i32_611
  let v481 : BitVec 32 := Scalar.addi c0_i32_612 v480
  v481.toNat
def k0_dev33 : Nat :=
  let c0_i32_641 : BitVec 32 := 0#32
  let c1_i32_639 : BitVec 32 := 1#32
  let c1_i32_640 : BitVec 32 := 1#32
  let v495 : BitVec 32 := Scalar.muli c1_i32_639 c1_i32_640
  let v496 : BitVec 32 := Scalar.addi c0_i32_641 v495
  v496.toNat
def k0_dev34 : Nat :=
  let c0_i32_670 : BitVec 32 := 0#32
  let c3_i32_668 : BitVec 32 := 3#32
  let c1_i32_669 : BitVec 32 := 1#32
  let v510 : BitVec 32 := Scalar.muli c3_i32_668 c1_i32_669
  let v511 : BitVec 32 := Scalar.addi c0_i32_670 v510
  v511.toNat
def k0_dev35 (d0 : Dev nD) : Nat :=
  let c0_i32_69 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_13 : BitVec 32 := 1#32
  let v28 : BitVec 32 := Scalar.xori v2 c1_i32_13
  let c1_i32_68 : BitVec 32 := 1#32
  let v124 : BitVec 32 := Scalar.muli v28 c1_i32_68
  let v125 : BitVec 32 := Scalar.addi c0_i32_69 v124
  v125.toNat
def k0_dev36 (d0 : Dev nD) : Nat :=
  let c0_i32_131 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_13 : BitVec 32 := 1#32
  let v28 : BitVec 32 := Scalar.xori v2 c1_i32_13
  let c1_i32_130 : BitVec 32 := 1#32
  let v228 : BitVec 32 := Scalar.muli v28 c1_i32_130
  let v229 : BitVec 32 := Scalar.addi c0_i32_131 v228
  v229.toNat
def k0_dev37 (d0 : Dev nD) : Nat :=
  let c0_i32_173 : BitVec 32 := 0#32
  let c3_i32_14 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v29 : BitVec 32 := Scalar.subi c3_i32_14 v2
  let c1_i32_172 : BitVec 32 := 1#32
  let v252 : BitVec 32 := Scalar.muli v29 c1_i32_172
  let v253 : BitVec 32 := Scalar.addi c0_i32_173 v252
  v253.toNat
def k0_dev38 (d0 : Dev nD) : Nat :=
  let c0_i32_215 : BitVec 32 := 0#32
  let c3_i32_14 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v29 : BitVec 32 := Scalar.subi c3_i32_14 v2
  let c1_i32_214 : BitVec 32 := 1#32
  let v276 : BitVec 32 := Scalar.muli v29 c1_i32_214
  let v277 : BitVec 32 := Scalar.addi c0_i32_215 v276
  v277.toNat
def k0_cond17 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_333_r0 : BitVec 32 := 0#32
  let v341_r0 : BitVec 1 := Scalar.cmpi .eq v2 c0_i32_333_r0
  let v342_r0 : BitVec 32 := Scalar.extui v341_r0
  let c0_i32_334_r0 : BitVec 32 := 0#32
  let v343_r0 : BitVec 1 := Scalar.cmpi .ne v342_r0 c0_i32_334_r0
  v343_r0

def k0_dev39 : Nat :=
  let c0_i32_344_r0 : BitVec 32 := 0#32
  let c1_i32_342_r0 : BitVec 32 := 1#32
  let c1_i32_343_r0 : BitVec 32 := 1#32
  let v353_r0 : BitVec 32 := Scalar.muli c1_i32_342_r0 c1_i32_343_r0
  let v354_r0 : BitVec 32 := Scalar.addi c0_i32_344_r0 v353_r0
  v354_r0.toNat
def k0_dev40 : Nat :=
  let c0_i32_348_r0 : BitVec 32 := 0#32
  let c2_i32_346_r0 : BitVec 32 := 2#32
  let c1_i32_347_r0 : BitVec 32 := 1#32
  let v355_r0 : BitVec 32 := Scalar.muli c2_i32_346_r0 c1_i32_347_r0
  let v356_r0 : BitVec 32 := Scalar.addi c0_i32_348_r0 v355_r0
  v356_r0.toNat
def k0_dev41 : Nat :=
  let c0_i32_352_r0 : BitVec 32 := 0#32
  let c3_i32_350_r0 : BitVec 32 := 3#32
  let c1_i32_351_r0 : BitVec 32 := 1#32
  let v357_r0 : BitVec 32 := Scalar.muli c3_i32_350_r0 c1_i32_351_r0
  let v358_r0 : BitVec 32 := Scalar.addi c0_i32_352_r0 v357_r0
  v358_r0.toNat
def k0_cond18 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_335_r0 : BitVec 32 := 1#32
  let v344_r0 : BitVec 1 := Scalar.cmpi .eq v2 c1_i32_335_r0
  let v345_r0 : BitVec 32 := Scalar.extui v344_r0
  let c0_i32_336_r0 : BitVec 32 := 0#32
  let v346_r0 : BitVec 1 := Scalar.cmpi .ne v345_r0 c0_i32_336_r0
  v346_r0

def k0_dev42 : Nat :=
  let c0_i32_344_r0 : BitVec 32 := 0#32
  let c0_i32_342_r0 : BitVec 32 := 0#32
  let c1_i32_343_r0 : BitVec 32 := 1#32
  let v353_r0 : BitVec 32 := Scalar.muli c0_i32_342_r0 c1_i32_343_r0
  let v354_r0 : BitVec 32 := Scalar.addi c0_i32_344_r0 v353_r0
  v354_r0.toNat
def k0_dev43 : Nat :=
  let c0_i32_348_r0 : BitVec 32 := 0#32
  let c2_i32_346_r0 : BitVec 32 := 2#32
  let c1_i32_347_r0 : BitVec 32 := 1#32
  let v355_r0 : BitVec 32 := Scalar.muli c2_i32_346_r0 c1_i32_347_r0
  let v356_r0 : BitVec 32 := Scalar.addi c0_i32_348_r0 v355_r0
  v356_r0.toNat
def k0_cond19 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_337_r0 : BitVec 32 := 2#32
  let v347_r0 : BitVec 1 := Scalar.cmpi .eq v2 c2_i32_337_r0
  let v348_r0 : BitVec 32 := Scalar.extui v347_r0
  let c0_i32_338_r0 : BitVec 32 := 0#32
  let v349_r0 : BitVec 1 := Scalar.cmpi .ne v348_r0 c0_i32_338_r0
  v349_r0

def k0_dev44 : Nat :=
  let c0_i32_344_r0 : BitVec 32 := 0#32
  let c0_i32_342_r0 : BitVec 32 := 0#32
  let c1_i32_343_r0 : BitVec 32 := 1#32
  let v353_r0 : BitVec 32 := Scalar.muli c0_i32_342_r0 c1_i32_343_r0
  let v354_r0 : BitVec 32 := Scalar.addi c0_i32_344_r0 v353_r0
  v354_r0.toNat
def k0_dev45 : Nat :=
  let c0_i32_348_r0 : BitVec 32 := 0#32
  let c1_i32_346_r0 : BitVec 32 := 1#32
  let c1_i32_347_r0 : BitVec 32 := 1#32
  let v355_r0 : BitVec 32 := Scalar.muli c1_i32_346_r0 c1_i32_347_r0
  let v356_r0 : BitVec 32 := Scalar.addi c0_i32_348_r0 v355_r0
  v356_r0.toNat
def k0_dev46 : Nat :=
  let c0_i32_352_r0 : BitVec 32 := 0#32
  let c3_i32_350_r0 : BitVec 32 := 3#32
  let c1_i32_351_r0 : BitVec 32 := 1#32
  let v357_r0 : BitVec 32 := Scalar.muli c3_i32_350_r0 c1_i32_351_r0
  let v358_r0 : BitVec 32 := Scalar.addi c0_i32_352_r0 v357_r0
  v358_r0.toNat
def k0_cond20 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_339_r0 : BitVec 32 := 3#32
  let v350_r0 : BitVec 1 := Scalar.cmpi .eq v2 c3_i32_339_r0
  let v351_r0 : BitVec 32 := Scalar.extui v350_r0
  let c0_i32_340_r0 : BitVec 32 := 0#32
  let v352_r0 : BitVec 1 := Scalar.cmpi .ne v351_r0 c0_i32_340_r0
  v352_r0

def k0_dev47 : Nat :=
  let c0_i32_344_r0 : BitVec 32 := 0#32
  let c0_i32_342_r0 : BitVec 32 := 0#32
  let c1_i32_343_r0 : BitVec 32 := 1#32
  let v353_r0 : BitVec 32 := Scalar.muli c0_i32_342_r0 c1_i32_343_r0
  let v354_r0 : BitVec 32 := Scalar.addi c0_i32_344_r0 v353_r0
  v354_r0.toNat
def k0_dev48 : Nat :=
  let c0_i32_348_r0 : BitVec 32 := 0#32
  let c2_i32_346_r0 : BitVec 32 := 2#32
  let c1_i32_347_r0 : BitVec 32 := 1#32
  let v355_r0 : BitVec 32 := Scalar.muli c2_i32_346_r0 c1_i32_347_r0
  let v356_r0 : BitVec 32 := Scalar.addi c0_i32_348_r0 v355_r0
  v356_r0.toNat
abbrev stage0_0 : Fin 1 → Memref sig .tc .vmem S2x128x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x128x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x128x512 : Shape := ⟨3, ![2, 128, 512]⟩
abbrev S512x1024 : Shape := ⟨2, ![512, 1024]⟩
abbrev S2x512x16x64 : Shape := ⟨4, ![2, 512, 16, 64]⟩
abbrev S1024x512 : Shape := ⟨2, ![1024, 512]⟩
abbrev S2x128x1024 : Shape := ⟨3, ![2, 128, 1024]⟩
abbrev S2x128x16x64 : Shape := ⟨4, ![2, 128, 16, 64]⟩
abbrev S128 : Shape := ⟨1, ![128]⟩
abbrev S_ : Shape := ⟨0, ![]⟩
abbrev S128x1 : Shape := ⟨2, ![128, 1]⟩
abbrev S512 : Shape := ⟨1, ![512]⟩
abbrev S1x512 : Shape := ⟨2, ![1, 512]⟩
abbrev S128x512 : Shape := ⟨2, ![128, 512]⟩
abbrev S2x16x128x512 : Shape := ⟨4, ![2, 16, 128, 512]⟩
abbrev S1x1x128x512 : Shape := ⟨4, ![1, 1, 128, 512]⟩
abbrev S2x16x128 : Shape := ⟨3, ![2, 16, 128]⟩
abbrev S2x16x128x1 : Shape := ⟨4, ![2, 16, 128, 1]⟩
abbrev S1x1x128x1 : Shape := ⟨4, ![1, 1, 128, 1]⟩
abbrev S2x16x64x128 : Shape := ⟨4, ![2, 16, 64, 128]⟩

abbrev nBuf : Space → Nat
  | .hbm => 143
  | .vmem => 0
  | .smem => 0
  | _ => 0

abbrev hbmTy0_0 (i : Nat) : BufTy := match i % 128 with
  | 0 => ⟨S2x128x512, .bf16⟩
  | 1 => ⟨S512x1024, .bf16⟩
  | 2 => ⟨S2x512x16x64, .bf16⟩
  | 3 => ⟨S2x512x16x64, .bf16⟩
  | 4 => ⟨S1024x512, .bf16⟩
  | 5 => ⟨S2x128x512, .f32⟩
  | 6 => ⟨S512x1024, .f32⟩
  | 7 => ⟨S2x512x16x64, .f32⟩
  | 8 => ⟨S2x512x16x64, .f32⟩
  | 9 => ⟨S1024x512, .f32⟩
  | 10 => ⟨S2x128x1024, .f32⟩
  | 11 => ⟨S2x128x16x64, .f32⟩
  | 12 => ⟨S128, .i32⟩
  | 13 => ⟨S_, .i32⟩
  | 14 => ⟨S_, .i32⟩
  | 15 => ⟨S128, .i32⟩
  | 16 => ⟨S128, .i32⟩
  | 17 => ⟨S128, .i32⟩
  | 18 => ⟨S_, .i32⟩
  | 19 => ⟨S128, .i32⟩
  | 20 => ⟨S128, .i1⟩
  | 21 => ⟨S128, .i32⟩
  | 22 => ⟨S128, .i32⟩
  | 23 => ⟨S_, .i32⟩
  | 24 => ⟨S128, .i32⟩
  | 25 => ⟨S128, .i1⟩
  | 26 => ⟨S128, .i1⟩
  | 27 => ⟨S_, .i32⟩
  | 28 => ⟨S128, .i32⟩
  | 29 => ⟨S128, .i32⟩
  | 30 => ⟨S128, .i32⟩
  | 31 => ⟨S128x1, .i32⟩
  | 32 => ⟨S512, .i32⟩
  | 33 => ⟨S_, .i32⟩
  | 34 => ⟨S_, .i32⟩
  | 35 => ⟨S512, .i32⟩
  | 36 => ⟨S512, .i32⟩
  | 37 => ⟨S512, .i32⟩
  | 38 => ⟨S_, .i32⟩
  | 39 => ⟨S512, .i32⟩
  | 40 => ⟨S512, .i1⟩
  | 41 => ⟨S512, .i32⟩
  | 42 => ⟨S512, .i32⟩
  | 43 => ⟨S_, .i32⟩
  | 44 => ⟨S512, .i32⟩
  | 45 => ⟨S512, .i1⟩
  | 46 => ⟨S512, .i1⟩
  | 47 => ⟨S_, .i32⟩
  | 48 => ⟨S512, .i32⟩
  | 49 => ⟨S512, .i32⟩
  | 50 => ⟨S512, .i32⟩
  | 51 => ⟨S1x512, .i32⟩
  | 52 => ⟨S128x512, .i32⟩
  | 53 => ⟨S128x512, .i32⟩
  | 54 => ⟨S128x512, .i1⟩
  | 55 => ⟨S_, .i32⟩
  | 56 => ⟨S_, .i32⟩
  | 57 => ⟨S_, .i32⟩
  | 58 => ⟨S_, .i1⟩
  | 59 => ⟨S_, .i32⟩
  | 60 => ⟨S_, .i32⟩
  | 61 => ⟨S1x512, .i32⟩
  | 62 => ⟨S1x512, .i32⟩
  | 63 => ⟨S_, .i32⟩
  | 64 => ⟨S1x512, .i32⟩
  | 65 => ⟨S1x512, .i1⟩
  | 66 => ⟨S_, .i32⟩
  | 67 => ⟨S1x512, .i32⟩
  | 68 => ⟨S1x512, .i1⟩
  | 69 => ⟨S_, .i32⟩
  | 70 => ⟨S_, .i1⟩
  | 71 => ⟨S1x512, .i1⟩
  | 72 => ⟨S1x512, .i1⟩
  | 73 => ⟨S1x512, .i1⟩
  | 74 => ⟨S1x512, .i32⟩
  | 75 => ⟨S1x512, .i32⟩
  | 76 => ⟨S1x512, .i32⟩
  | 77 => ⟨S_, .i32⟩
  | 78 => ⟨S_, .i32⟩
  | 79 => ⟨S_, .i32⟩
  | 80 => ⟨S_, .i1⟩
  | 81 => ⟨S_, .i32⟩
  | 82 => ⟨S_, .i32⟩
  | 83 => ⟨S128x1, .i32⟩
  | 84 => ⟨S128x1, .i32⟩
  | 85 => ⟨S_, .i32⟩
  | 86 => ⟨S128x1, .i32⟩
  | 87 => ⟨S128x1, .i1⟩
  | 88 => ⟨S_, .i32⟩
  | 89 => ⟨S128x1, .i32⟩
  | 90 => ⟨S128x1, .i1⟩
  | 91 => ⟨S_, .i32⟩
  | 92 => ⟨S_, .i1⟩
  | 93 => ⟨S128x1, .i1⟩
  | 94 => ⟨S128x1, .i1⟩
  | 95 => ⟨S128x1, .i1⟩
  | 96 => ⟨S128x1, .i32⟩
  | 97 => ⟨S128x1, .i32⟩
  | 98 => ⟨S128x1, .i32⟩
  | 99 => ⟨S128x512, .i32⟩
  | 100 => ⟨S128x512, .i32⟩
  | 101 => ⟨S128x512, .i1⟩
  | 102 => ⟨S128x512, .i1⟩
  | 103 => ⟨S2x16x128x512, .f32⟩
  | 104 => ⟨S_, .f32⟩
  | 105 => ⟨S2x16x128x512, .f32⟩
  | 106 => ⟨S2x16x128x512, .f32⟩
  | 107 => ⟨S1x1x128x512, .i1⟩
  | 108 => ⟨S_, .f32⟩
  | 109 => ⟨S_, .f32⟩
  | 110 => ⟨S2x16x128x512, .i1⟩
  | 111 => ⟨S2x16x128x512, .f32⟩
  | 112 => ⟨S2x16x128x512, .f32⟩
  | 113 => ⟨S_, .f32⟩
  | 114 => ⟨S2x16x128, .f32⟩
  | 115 => ⟨S2x16x128x1, .f32⟩
  | 116 => ⟨S2x16x128x512, .f32⟩
  | 117 => ⟨S2x16x128x512, .f32⟩
  | 118 => ⟨S2x16x128x512, .f32⟩
  | 119 => ⟨S_, .i1⟩
  | 120 => ⟨S128, .i1⟩
  | 121 => ⟨S1x1x128x1, .i1⟩
  | 122 => ⟨S_, .f32⟩
  | 123 => ⟨S2x16x128, .f32⟩
  | 124 => ⟨S2x16x128x1, .f32⟩
  | 125 => ⟨S_, .f32⟩
  | 126 => ⟨S_, .f32⟩
  | 127 => ⟨S2x16x128x1, .i1⟩
  | _ => ⟨S2x128x512, .bf16⟩

abbrev hbmTy0_1 (i : Nat) : BufTy := match i % 128 with
  | 0 => ⟨S2x16x128x1, .f32⟩
  | 1 => ⟨S2x16x128x1, .f32⟩
  | 2 => ⟨S2x16x128x512, .f32⟩
  | 3 => ⟨S2x16x128x512, .f32⟩
  | 4 => ⟨S1x1x128x1, .i1⟩
  | 5 => ⟨S_, .f32⟩
  | 6 => ⟨S_, .f32⟩
  | 7 => ⟨S2x16x128x512, .i1⟩
  | 8 => ⟨S2x16x128x512, .f32⟩
  | 9 => ⟨S2x16x128x512, .f32⟩
  | 10 => ⟨S2x16x64x128, .f32⟩
  | 11 => ⟨S2x128x16x64, .f32⟩
  | 12 => ⟨S2x128x1024, .f32⟩
  | 13 => ⟨S2x128x512, .f32⟩
  | 14 => ⟨S2x128x512, .bf16⟩
  | _ => ⟨S2x128x512, .bf16⟩

abbrev hbmTy (i : Nat) : BufTy := match i / 128 with
  | 0 => hbmTy0_0 i
  | 1 => hbmTy0_1 i
  | _ => ⟨S2x128x512, .bf16⟩

abbrev bufTy : (tb : Table) → Fin (tcTables nBuf tb) → BufTy
  | .hbm, ⟨i, _⟩ => hbmTy i
  | _, _ => ⟨S2x128x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_c : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_0 : Ref sig .tc := ⟨.hbm, 27, rfl⟩
abbrev main_call0_v12 : Ref sig .tc := ⟨.hbm, 28, rfl⟩
abbrev main_call0_v13 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_c_0 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_c : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_0 : Ref sig .tc := ⟨.hbm, 47, rfl⟩
abbrev main_call1_v12 : Ref sig .tc := ⟨.hbm, 48, rfl⟩
abbrev main_call1_v13 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_c_1 : Ref sig .tc := ⟨.hbm, 55, rfl⟩
abbrev main_call2_v0 : Ref sig .tc := ⟨.hbm, 56, rfl⟩
abbrev main_call2_c : Ref sig .tc := ⟨.hbm, 57, rfl⟩
abbrev main_call2_v1 : Ref sig .tc := ⟨.hbm, 58, rfl⟩
abbrev main_call2_c_0 : Ref sig .tc := ⟨.hbm, 59, rfl⟩
abbrev main_call2_v2 : Ref sig .tc := ⟨.hbm, 60, rfl⟩
abbrev main_call2_v3 : Ref sig .tc := ⟨.hbm, 61, rfl⟩
abbrev main_call2_v4 : Ref sig .tc := ⟨.hbm, 62, rfl⟩
abbrev main_call2_c_1 : Ref sig .tc := ⟨.hbm, 63, rfl⟩
abbrev main_call2_v5 : Ref sig .tc := ⟨.hbm, 64, rfl⟩
abbrev main_call2_v6 : Ref sig .tc := ⟨.hbm, 65, rfl⟩
abbrev main_call2_c_2 : Ref sig .tc := ⟨.hbm, 66, rfl⟩
abbrev main_call2_v7 : Ref sig .tc := ⟨.hbm, 67, rfl⟩
abbrev main_call2_v8 : Ref sig .tc := ⟨.hbm, 68, rfl⟩
abbrev main_call2_c_3 : Ref sig .tc := ⟨.hbm, 69, rfl⟩
abbrev main_call2_v9 : Ref sig .tc := ⟨.hbm, 70, rfl⟩
abbrev main_call2_v10 : Ref sig .tc := ⟨.hbm, 71, rfl⟩
abbrev main_call2_v11 : Ref sig .tc := ⟨.hbm, 72, rfl⟩
abbrev main_call2_v12 : Ref sig .tc := ⟨.hbm, 73, rfl⟩
abbrev main_call2_v13 : Ref sig .tc := ⟨.hbm, 74, rfl⟩
abbrev main_call2_v14 : Ref sig .tc := ⟨.hbm, 75, rfl⟩
abbrev main_v16 : Ref sig .tc := ⟨.hbm, 76, rfl⟩
abbrev main_c_2 : Ref sig .tc := ⟨.hbm, 77, rfl⟩
abbrev main_call3_v0 : Ref sig .tc := ⟨.hbm, 78, rfl⟩
abbrev main_call3_c : Ref sig .tc := ⟨.hbm, 79, rfl⟩
abbrev main_call3_v1 : Ref sig .tc := ⟨.hbm, 80, rfl⟩
abbrev main_call3_c_0 : Ref sig .tc := ⟨.hbm, 81, rfl⟩
abbrev main_call3_v2 : Ref sig .tc := ⟨.hbm, 82, rfl⟩
abbrev main_call3_v3 : Ref sig .tc := ⟨.hbm, 83, rfl⟩
abbrev main_call3_v4 : Ref sig .tc := ⟨.hbm, 84, rfl⟩
abbrev main_call3_c_1 : Ref sig .tc := ⟨.hbm, 85, rfl⟩
abbrev main_call3_v5 : Ref sig .tc := ⟨.hbm, 86, rfl⟩
abbrev main_call3_v6 : Ref sig .tc := ⟨.hbm, 87, rfl⟩
abbrev main_call3_c_2 : Ref sig .tc := ⟨.hbm, 88, rfl⟩
abbrev main_call3_v7 : Ref sig .tc := ⟨.hbm, 89, rfl⟩
abbrev main_call3_v8 : Ref sig .tc := ⟨.hbm, 90, rfl⟩
abbrev main_call3_c_3 : Ref sig .tc := ⟨.hbm, 91, rfl⟩
abbrev main_call3_v9 : Ref sig .tc := ⟨.hbm, 92, rfl⟩
abbrev main_call3_v10 : Ref sig .tc := ⟨.hbm, 93, rfl⟩
abbrev main_call3_v11 : Ref sig .tc := ⟨.hbm, 94, rfl⟩
abbrev main_call3_v12 : Ref sig .tc := ⟨.hbm, 95, rfl⟩
abbrev main_call3_v13 : Ref sig .tc := ⟨.hbm, 96, rfl⟩
abbrev main_call3_v14 : Ref sig .tc := ⟨.hbm, 97, rfl⟩
abbrev main_v17 : Ref sig .tc := ⟨.hbm, 98, rfl⟩
abbrev main_v18 : Ref sig .tc := ⟨.hbm, 99, rfl⟩
abbrev main_v19 : Ref sig .tc := ⟨.hbm, 100, rfl⟩
abbrev main_v20 : Ref sig .tc := ⟨.hbm, 101, rfl⟩
abbrev main_v21 : Ref sig .tc := ⟨.hbm, 102, rfl⟩
abbrev main_v22 : Ref sig .tc := ⟨.hbm, 103, rfl⟩
abbrev main_cst : Ref sig .tc := ⟨.hbm, 104, rfl⟩
abbrev main_v23 : Ref sig .tc := ⟨.hbm, 105, rfl⟩
abbrev main_v24 : Ref sig .tc := ⟨.hbm, 106, rfl⟩
abbrev main_v25 : Ref sig .tc := ⟨.hbm, 107, rfl⟩
abbrev main_cst_3 : Ref sig .tc := ⟨.hbm, 108, rfl⟩
abbrev main_call4_v0 : Ref sig .tc := ⟨.hbm, 109, rfl⟩
abbrev main_call4_v1 : Ref sig .tc := ⟨.hbm, 110, rfl⟩
abbrev main_call4_v2 : Ref sig .tc := ⟨.hbm, 111, rfl⟩
abbrev main_v26 : Ref sig .tc := ⟨.hbm, 112, rfl⟩
abbrev main_cst_4 : Ref sig .tc := ⟨.hbm, 113, rfl⟩
abbrev main_v27 : Ref sig .tc := ⟨.hbm, 114, rfl⟩
abbrev main_v28 : Ref sig .tc := ⟨.hbm, 115, rfl⟩
abbrev main_v29 : Ref sig .tc := ⟨.hbm, 116, rfl⟩
abbrev main_v30 : Ref sig .tc := ⟨.hbm, 117, rfl⟩
abbrev main_v31 : Ref sig .tc := ⟨.hbm, 118, rfl⟩
abbrev main_c_5 : Ref sig .tc := ⟨.hbm, 119, rfl⟩
abbrev main_v32 : Ref sig .tc := ⟨.hbm, 120, rfl⟩
abbrev main_v33 : Ref sig .tc := ⟨.hbm, 121, rfl⟩
abbrev main_cst_6 : Ref sig .tc := ⟨.hbm, 122, rfl⟩
abbrev main_v34 : Ref sig .tc := ⟨.hbm, 123, rfl⟩
abbrev main_v35 : Ref sig .tc := ⟨.hbm, 124, rfl⟩
abbrev main_cst_7 : Ref sig .tc := ⟨.hbm, 125, rfl⟩
abbrev main_call5_v0 : Ref sig .tc := ⟨.hbm, 126, rfl⟩
abbrev main_call5_v1 : Ref sig .tc := ⟨.hbm, 127, rfl⟩
abbrev main_call5_v2 : Ref sig .tc := ⟨.hbm, 128, rfl⟩
abbrev main_v36 : Ref sig .tc := ⟨.hbm, 129, rfl⟩
abbrev main_v37 : Ref sig .tc := ⟨.hbm, 130, rfl⟩
abbrev main_v38 : Ref sig .tc := ⟨.hbm, 131, rfl⟩
abbrev main_v39 : Ref sig .tc := ⟨.hbm, 132, rfl⟩
abbrev main_cst_8 : Ref sig .tc := ⟨.hbm, 133, rfl⟩
abbrev main_call6_v0 : Ref sig .tc := ⟨.hbm, 134, rfl⟩
abbrev main_call6_v1 : Ref sig .tc := ⟨.hbm, 135, rfl⟩
abbrev main_call6_v2 : Ref sig .tc := ⟨.hbm, 136, rfl⟩
abbrev main_v40 : Ref sig .tc := ⟨.hbm, 137, rfl⟩
abbrev main_v41 : Ref sig .tc := ⟨.hbm, 138, rfl⟩
abbrev main_v42 : Ref sig .tc := ⟨.hbm, 139, rfl⟩
abbrev main_v43 : Ref sig .tc := ⟨.hbm, 140, rfl⟩
abbrev main_v44 : Ref sig .tc := ⟨.hbm, 141, rfl⟩
abbrev main_v45 : Ref sig .tc := ⟨.hbm, 142, rfl⟩

abbrev nD : Nat := 1
abbrev τ : Topo := Topo.v7x

variable {F : FTy → Type} [FloatOps F]
-- ==== Proof.Vals.lean ====
/-
  What the kernel's four devices hold and exchange, as functions of the staged inputs: the send buffer, the gathered
  key/value buffer, the partial projections, the two stages of the sum over the devices, the result.
-/
module

public import proofs.«01_k».proof.Proof.Gen.KernelIdeal.Frame
public import proofs.«01_k».proof.Proof.Gen.KernelIdeal.Skeleton
public import Idealize.ShloMosaic.Lib.ValueIdxRank6

@[expose] public section

set_option maxRecDepth 16384

noncomputable section

namespace Cert.KernelIdeal.Mesh

open Cert.KernelIdeal Cert.KernelIdeal.Gen
open Idealize.ShloMosaic Idealize.ShloMosaic.TcCoe
open Idealize.ShloMosaic.ValueIdx

variable {F : FTy → Type} [FloatOps F]

/-- The staged inputs of every device: the queries' source, the two projections, the local keys and values. -/
structure Inp (F : FTy → Type) where
  x : Dev nD → Vec F S2x128x512 .bf16
  wq : Dev nD → Vec F S512x256 .bf16
  k : Dev nD → Vec F S2x128x1024 .bf16
  v : Dev nD → Vec F S2x128x1024 .bf16
  wo : Dev nD → Vec F S256x512 .bf16

/-- The device that sends slot `a` of the key/value buffer. -/
def snd (a : Fin 2) : Dev nD := if a = 0 then 0 else 2
/-- The device that a device exchanges with in stage `st` of the sum. -/
def par (st : Fin 2) (c : Dev nD) : Dev nD := if st = 0 then ![1, 0, 3, 2] c else ![3, 2, 1, 0] c

theorem par_par (st : Fin 2) (c : Dev nD) : par st (par st c) = c := by revert st c; decide

variable (I : Inp F)

/-- Keys (`t = 0`) or values (`t = 1`) of device `s`. -/
def kvAt (s : Dev nD) (t : Fin 2) : Vec F S2x128x1024 .bf16 := if t = 0 then I.k s else I.v s

/-- The send buffer of device `s` once filled: for device `j`, half `p`, keys or values `t`. -/
def sndB (s : Dev nD) : Vec F S4x2x2x2x64x256 .bf16 := fun i =>
  kvAt I s (i 2) (ix3 (i 3) ⟨64 * (i 1).val + (i 4).val, by have := (i 1).isLt; have := (i 4).isLt; simp [Shape.size] at *; omega⟩
    ⟨256 * (i 0).val + (i 5).val, by have := (i 0).isLt; have := (i 5).isLt; simp [Shape.size] at *; omega⟩)

/-- The key/value buffer of device `c` once gathered. -/
def kvB (c : Dev nD) : Vec F S2x2x2x128x256 .bf16 := fun i =>
  kvAt I (snd ⟨(i 3).val / 64, by have := (i 3).isLt; simp [Shape.size] at *; omega⟩) (i 1)
    (ix3 (i 2) ⟨64 * (i 0).val + (i 3).val % 64, by have := (i 0).isLt; simp [Shape.size] at *; omega⟩
      ⟨256 * c.val + (i 4).val, by have hc : c.val < 4 := c.isLt; have h4 : (i 4).val < 256 := (i 4).isLt; omega⟩)

/-- The box of the key/value buffer that half `p` reads at once. -/
def kvBox (c : Dev nD) (p t : Fin 2) : Vec F S1x1x2x128x256 .bf16 := fun i => kvB I c (ix5 p t (i 2) (i 3) (i 4))

/-- A stage's block as the box of the exchange buffer that holds it. -/
def asBox (a : Vec F S2x64x512 .bf16) : Vec F S1x1x2x64x512 .bf16 := fun i => a (ix3 (i 2) (i 3) (i 4))

/-- The queries of device `c`. -/
def qry (c : Dev nD) : FVec F S2x128x256 .bf16 := k0_pay39 (I.x c) (I.wq c)

/-- The partial projection of half 0 on device `c`. -/
def accA (c : Dev nD) : FVec F S2x64x512 .bf16 :=
  k0_pay51 (k0_pay46 (k0_pay44 (qry I c)) (k0_pay45 (kvBox I c 0 0)) (constant S2x64x128 .f32 0x00000000#32))
    (k0_pay47 (k0_pay40 (qry I c)) (k0_pay41 (kvBox I c 0 0))) (k0_pay48 (kvBox I c 0 1))
    (k0_pay49 (k0_pay42 (qry I c) (kvBox I c 0 0)) (kvBox I c 0 1)) (k0_pay50 (k0_pay43 (qry I c) (kvBox I c 0 0)) (kvBox I c 0 1)) (I.wo c)

/-- The context of half 1 on device `c`. -/
def ctxB (c : Dev nD) : FVec F S2x64x256 .bf16 :=
  k0_pay59 (k0_pay53 (qry I c)) (k0_pay54 (kvBox I c 1 0)) (k0_pay55 (qry I c) (kvBox I c 1 0)) (k0_pay56 (qry I c) (kvBox I c 1 0))
    (k0_pay57 (qry I c) (kvBox I c 1 0)) (k0_pay58 (qry I c) (kvBox I c 1 0)) (kvBox I c 1 1)

/-- The partial projection of half 1 on device `c`. -/
def accB (c : Dev nD) : FVec F S2x64x512 .bf16 := k0_pay60 (ctxB I c) (I.wo c)

/-- The first stage's sums. -/
def accA' (c : Dev nD) : FVec F S2x64x512 .bf16 := k0_pay62 (accA I c) (asBox (accA I (par 0 c)))
@[inherit_doc accA'] def accB' (c : Dev nD) : FVec F S2x64x512 .bf16 := k0_pay64 (accB I c) (asBox (accB I (par 0 c)))

/-- The second stage's sums: the result's halves. -/
def outA (c : Dev nD) : FVec F S2x64x512 .bf16 := k0_pay66 (accA' I c) (asBox (accA' I (par 1 c)))
@[inherit_doc outA] def outB (c : Dev nD) : FVec F S2x64x512 .bf16 := k0_pay67 (accB' I c) (asBox (accB' I (par 1 c)))

/-- What device `c` sends for half `p` in stage `st`. -/
def acc (c : Dev nD) (p st : Fin 2) : Vec F S2x64x512 .bf16 :=
  if p = 0 then (if st = 0 then accA I c else accA' I c) else (if st = 0 then accB I c else accB' I c)

/-- The exchange's send buffer on device `c`, and its receive buffer. -/
def bfsB (c : Dev nD) : Vec F S2x2x2x64x512 .bf16 := fun i => acc I c (i 0) (i 1) (ix3 (i 2) (i 3) (i 4))
@[inherit_doc bfsB] def bfrB (c : Dev nD) : Vec F S2x2x2x64x512 .bf16 := fun i => acc I (par (i 1) c) (i 0) (i 1) (ix3 (i 2) (i 3) (i 4))

/-- The result on device `c`. -/
def outV (c : Dev nD) : Vec F S2x128x512 .bf16 := fun i =>
  if h : (i 1).val < 64 then outA I c (ix3 (i 0) ⟨(i 1).val, h⟩ (i 2))
  else outB I c (ix3 (i 0) ⟨(i 1).val - 64, by have := (i 1).isLt; simp [Shape.size] at *; omega⟩ (i 2))

end Cert.KernelIdeal.Mesh

end
-- ==== Proof.Base.lean ====
/-
  The protocol of the four devices: the semaphore cells, the regions of the scratch buffers that change hands, who pays
  which cell and what that hands over, and what each device owes in the order in which it pays.
-/
module

public import proofs.«01_k».proof.Proof.Vals
public import Idealize.ShloMosaic.Lib.Rounds
public import Idealize.ShloMosaic.Lib.Pipeline.Regions
public import Idealize.ShloMosaic.Lib.Pipeline.RegionTalk
public import Idealize.ShloMosaic.Lib.Pipeline.TalkSites
public import Idealize.ShloMosaic.Lib.Tactic

@[expose] public section

set_option maxRecDepth 16384

noncomputable section

namespace Cert.KernelIdeal.Mesh

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.TalkSites (Pay tallyL addL)
open Idealize.ShloMosaic.SiteBlocks (L lv mayWait_of mem_L')

variable {F : FTy → Type} [FloatOps F]

/-! ## Cells -/

/-- The semaphores of the protocol: the entry barrier, the exit barrier, the send and receive semaphores of the
    key/value transfers (`ks j p t`, `kr a p t`) and of the exchange (`bs p st`, `br p st`). -/
inductive Cl where
  | bar
  | ex
  | ks (j : Fin 4) (p t : Fin 2)
  | kr (a p t : Fin 2)
  | bs (p st : Fin 2)
  | br (p st : Fin 2)
deriving DecidableEq

/-- Where each lies. -/
def semOf : Cl → SemLoc sig
  | .bar => .reg ⟨0, by decide⟩
  | .ex => .reg ⟨1, by decide⟩
  | .ks j p t => .dma ⟨6 + 4 * j.val + 2 * p.val + t.val, by show _ < 38; omega⟩
  | .kr a p t => .dma ⟨22 + 4 * a.val + 2 * p.val + t.val, by show _ < 38; omega⟩
  | .bs p st => .dma ⟨30 + 2 * p.val + st.val, by show _ < 38; omega⟩
  | .br p st => .dma ⟨34 + 2 * p.val + st.val, by show _ < 38; omega⟩

/-- Which one lies at a semaphore. -/
def clOf : SemLoc sig → Option Cl
  | .reg s => if s.val = 0 then some .bar else if s.val = 1 then some .ex else none
  | .dma s =>
    if s.val < 6 then none
    else if s.val < 22 then some (.ks (Fin.ofNat 4 ((s.val - 6) / 4)) (Fin.ofNat 2 ((s.val - 6) / 2)) (Fin.ofNat 2 (s.val - 6)))
    else if s.val < 30 then some (.kr (Fin.ofNat 2 ((s.val - 22) / 4)) (Fin.ofNat 2 ((s.val - 22) / 2)) (Fin.ofNat 2 (s.val - 22)))
    else if s.val < 34 then some (.bs (Fin.ofNat 2 ((s.val - 30) / 2)) (Fin.ofNat 2 (s.val - 30)))
    else some (.br (Fin.ofNat 2 ((s.val - 34) / 2)) (Fin.ofNat 2 (s.val - 34)))

theorem clOf_semOf (k : Cl) : clOf (semOf k) = some k := by
  cases k with
  | bar => rfl
  | ex => rfl
  | ks j p t => revert j p t; decide
  | kr a p t => revert a p t; decide
  | bs p st => revert p st; decide
  | br p st => revert p st; decide

theorem semOf_inj : Function.Injective semOf := fun a b h => by
  have := clOf_semOf a; rw [h, clOf_semOf b] at this; exact (Option.some.inj this).symm

/-- Device `c`'s cell. -/
abbrev cell (c : Dev nD) (k : Cl) : GSem nD τ sig := ((c : Thread nD τ), semOf k)

theorem cell_inj {c d : Dev nD} {k l : Cl} (h : cell c k = cell d l) : c = d ∧ k = l :=
  ⟨congrArg (fun g : GSem nD τ sig => g.1.1) h, semOf_inj (congrArg Prod.snd h)⟩

/-- A cell's level: the later a device waits for it, the higher. -/
def lvl : Cl → ℕ
  | .bar => 1
  | .ex => 5
  | .ks _ _ _ => 0
  | .kr _ _ _ => 2
  | .bs _ _ => 0
  | .br _ st => 3 + st.val

/-! ## The resource algebra -/

abbrev UU : Type := UR sig nD τ × URounds (GSem nD τ sig) (Dev nD)

local notation "𝕄" => MT nD τ sig ℕ (Elt F) ℕ UU ℕ

abbrev EP : Emb (UR sig nD τ) (MT nD τ sig ℕ (Elt F) ℕ UU ℕ) := embL
abbrev ER : Emb (URounds (GSem nD τ sig) (Dev nD)) (MT nD τ sig ℕ (Elt F) ℕ UU ℕ) := embR

/-! ## Regions -/

/-- The part of the send buffer for device `j`, half `p`, keys or values `t`. -/
def sndSet (j : Fin 4) (p t : Fin 2) : Finset S4x2x2x2x64x256.Idx :=
  Finset.univ.filter fun i => (i 0).val = j.val ∧ (i 1).val = p.val ∧ (i 2).val = t.val
/-- The part of the key/value buffer for half `p`, keys or values `t`, slot `a`. -/
def kvSet (a p t : Fin 2) : Finset S2x2x2x128x256.Idx :=
  Finset.univ.filter fun i => (i 0).val = p.val ∧ (i 1).val = t.val ∧ (i 3).val / 64 = a.val
/-- The part of an exchange buffer for half `p`, stage `st`. -/
def bfSet (p st : Fin 2) : Finset S2x2x2x64x512.Idx :=
  Finset.univ.filter fun i => (i 0).val = p.val ∧ (i 1).val = st.val

abbrev sndReg (c : Dev nD) (j : Fin 4) (p t : Fin 2) (f : Vec F S4x2x2x2x64x256 .bf16) : sProp 𝕄 :=
  ((c : Thread nD τ).loc cc0_scratch0) ↦[sndSet j p t]{fullShare} f
abbrev kvReg (c : Dev nD) (a p t : Fin 2) (f : Vec F S2x2x2x128x256 .bf16) : sProp 𝕄 :=
  ((c : Thread nD τ).loc cc0_scratch1) ↦[kvSet a p t]{fullShare} f
abbrev bfsReg (c : Dev nD) (p st : Fin 2) (f : Vec F S2x2x2x64x512 .bf16) : sProp 𝕄 :=
  ((c : Thread nD τ).loc cc0_scratch2) ↦[bfSet p st]{fullShare} f
abbrev bfrReg (c : Dev nD) (p st : Fin 2) (f : Vec F S2x2x2x64x512 .bf16) : sProp 𝕄 :=
  ((c : Thread nD τ).loc cc0_scratch3) ↦[bfSet p st]{fullShare} f

/-! ## The schedule -/

/-- The devices whose barriers a device signals, in its order. -/
def peers (c : Dev nD) : List (Dev nD) := if c = 0 then [1, 2, 3] else if c = 1 then [0, 2] else if c = 2 then [0, 1, 3] else [0, 2]

/-- A device's own part of the key/value buffer lent for half `p`, keys or values `t`, slot `a`; an own part of the exchange's receive buffer. -/
def kvFree (d : Dev nD) (a p t : Fin 2) : sProp 𝕄 := iprop((∃ f, kvReg d a p t f) ∗ reached ER (cell d (.kr a p t)) 0)
@[inherit_doc kvFree] def bfFree (d : Dev nD) (p st : Fin 2) : sProp 𝕄 := iprop((∃ f, bfrReg d p st f) ∗ reached ER (cell d (.br p st)) 0)

/-- A device's whole slot lent. -/
def slotFree (d : Dev nD) (a : Fin 2) : sProp 𝕄 := iprop(kvFree d a 0 0 ∗ kvFree d a 0 1 ∗ kvFree d a 1 0 ∗ kvFree d a 1 1)

/-- What device `d`'s entry signal hands to device `c`: the slot that `c` fills, if `c` is a sender; the parts of the
    exchange's receive buffer of a stage in which the two are partners; and that `d`'s exit barrier is open. -/
def barPay (c d : Dev nD) : sProp 𝕄 :=
  iprop((if c = 0 then slotFree d 0 else if c = 2 then slotFree d 1 else emp)
    ∗ (if d = par 0 c then iprop(bfFree d 0 0 ∗ bfFree d 1 0) else emp)
    ∗ (if d = par 1 c then iprop(bfFree d 0 1 ∗ bfFree d 1 1) else emp)
    ∗ reached ER (cell d .ex) 0)

/-- The units of one key/value transfer, of one exchange. -/
def NK : ℕ := ((Memref.whole cc0_scratch1 : Memref sig .tc .vmem S2x2x2x128x256 .bf16).slice (Rect.unit (s := S2x2x2x128x256) ![0, 0, 0, 0, 0] S1x1x2x64x256.size inb_S2x2x2x128x256_S1x1x2x64x256_0_0_0_0_0) (fun _ => rfl)
  |>.squeeze S2x64x256 squeezes_S1x1x2x64x256_S2x64x256).view.dmaCredit
@[inherit_doc NK] def NB : ℕ := ((Memref.whole cc0_scratch3 : Memref sig .tc .vmem S2x2x2x64x512 .bf16).slice (Rect.unit (s := S2x2x2x64x512) ![0, 0, 0, 0, 0] S1x1x2x64x512.size inb_S2x2x2x64x512_S1x1x2x64x512_0_0_0_0_0) (fun _ => rfl)
  |>.squeeze S2x64x512 squeezes_S1x1x2x64x512_S2x64x512).view.dmaCredit

theorem NK_pos : 0 < NK := View.dmaCredit_pos _ (by decide)
theorem NB_pos : 0 < NB := View.dmaCredit_pos _ (by decide)

/-- Who pays cell `k` of device `c`. -/
def payers (c : Dev nD) : Cl → Finset (Dev nD)
  | .bar => (peers c).toFinset
  | .ex => (peers c).toFinset
  | .ks j _ _ => if (c = 0 ∨ c = 2) ∧ j ≠ c then {c} else ∅
  | .kr a _ _ => if c = snd a then ∅ else {snd a}
  | .bs _ _ => {c}
  | .br _ st => {par st c}

/-- In how many units. -/
def units : Cl → ℕ
  | .bar => 1
  | .ex => 1
  | .ks _ _ _ => NK
  | .kr _ _ _ => NK
  | .bs _ _ => NB
  | .br _ _ => NB

theorem units_pos (k : Cl) : 0 < units k := by
  cases k with
  | bar => exact Nat.one_pos
  | ex => exact Nat.one_pos
  | ks => exact NK_pos
  | kr => exact NK_pos
  | bs => exact NB_pos
  | br => exact NB_pos

variable (I : Inp F)

/-- What a payment by `d` to cell `k` of device `c` hands to `c`. -/
def hands (c d : Dev nD) : Cl → sProp 𝕄
  | .bar => barPay c d
  | .ex => iprop(emp)
  | .ks j p t => sndReg c j p t (sndB I c)
  | .kr a p t => kvReg c a p t (kvB I c)
  | .bs p st => bfsReg c p st (bfsB I c)
  | .br p st => bfrReg c p st (bfrB I c)

/-- The schedule: one round on every cell. -/
def Rd : Rounds.Schedule (GSem nD τ sig) (Dev nD) 𝕄 where
  duties g r := if r = 0 ∧ g.1.2 = .tc then (match clOf g.2 with | some k => payers g.1.1 k | none => ∅) else ∅
  amount g _ _ := match clOf g.2 with | some k => units k | none => 1
  payload g _ d := match clOf g.2 with | some k => hands I g.1.1 d k | none => iprop(emp)
  amount_pos g _ _ _ := by
    cases clOf g.2 with
    | some k => exact units_pos k
    | none => exact Nat.one_pos

instance slotFree_storable (d : Dev nD) (a : Fin 2) : BI.Storable (upEmb : UEmb _ 𝕄) (slotFree (F := F) d a) := by
  unfold slotFree kvFree; infer_instance
instance bfFree_storable (d : Dev nD) (p st : Fin 2) : BI.Storable (upEmb : UEmb _ 𝕄) (bfFree (F := F) d p st) := by
  unfold bfFree; infer_instance
instance barPay_storable (c d : Dev nD) : BI.Storable (upEmb : UEmb _ 𝕄) (barPay (F := F) c d) := by
  unfold barPay; (repeat' split) <;> infer_instance
instance hands_storable (c d : Dev nD) (k : Cl) : BI.Storable (upEmb : UEmb _ 𝕄) (hands I c d k) := by
  cases k <;> (unfold hands; infer_instance)
instance Rd_storable (g : GSem nD τ sig) (r : ℕ) (d : Dev nD) : BI.Storable (upEmb : UEmb _ 𝕄) ((Rd I).payload g r d) := by
  unfold Rd; dsimp only; split <;> infer_instance

section Tables
variable (c d : Dev nD) (k : Cl)

theorem duties_cell : (Rd I).duties (cell c k) 0 = payers c k := by
  dsimp only [Rd]; rw [if_pos ⟨rfl, rfl⟩, clOf_semOf]
theorem duties_later (g : GSem nD τ sig) : ∀ r, 1 ≤ r → (Rd I).duties g r = ∅ := fun r hr => by
  dsimp only [Rd]; exact if_neg fun h => by omega
theorem amount_cell : (Rd I).amount (cell c k) 0 d = units k := by dsimp only [Rd]; rw [clOf_semOf]
theorem payload_cell : (Rd I).payload (cell c k) 0 d = hands I c d k := by dsimp only [Rd]; rw [clOf_semOf]
theorem expect_cell : (Rd I).expect (cell c k) 0 = (payers c k).card * units k := by
  unfold Schedule.expect Schedule.amountOf
  rw [duties_cell, Finset.sum_congr rfl fun d _ => amount_cell I c d k, Finset.sum_const, smul_eq_mul]
theorem rest_cell : bigSep ((Rd I).duties (cell c k) 0 \ ∅) (fun d => (Rd I).payload (cell c k) 0 d) = bigSep (payers c k) fun d => hands I c d k := by
  rw [Finset.sdiff_empty, duties_cell]; exact bigSep_congr fun d _ => payload_cell I c d k

end Tables

/-! ## What a device owes, in the order in which it pays -/

/-- A sender's targets in its order. -/
def tgts (c : Dev nD) : List (Dev nD) := if c = 0 then [2, 1, 3] else if c = 2 then [0, 1, 3] else []

/-- A device's key/value transfers, in its order. -/
def sends (c : Dev nD) : List (Dev nD × Fin 2 × Fin 2) :=
  ([(0, 0), (0, 1), (1, 0), (1, 1)] : List (Fin 2 × Fin 2)).flatMap fun pt => (tgts c).map fun j => (j, pt)

/-- The slot a sender fills. -/
def slotOf (c : Dev nD) : Fin 2 := if c = 0 then 0 else 1

/-- The payments to other devices after the key/value transfers, -/
def dueB (c : Dev nD) : List (Dev nD × Cl) :=
  [(par 0 c, .br 0 0), (par 0 c, .br 1 0), (par 1 c, .br 0 1), (par 1 c, .br 1 1)] ++ (peers c).map fun j => (j, .ex)
/-- after the entry barrier, -/
def dueA (c : Dev nD) : List (Dev nD × Cl) := ((sends c).map fun x => (x.1, .kr (slotOf c) x.2.1 x.2.2)) ++ dueB c
/-- and all of them. -/
def due (c : Dev nD) : List (Dev nD × Cl) := ((peers c).map fun j => (j, .bar)) ++ dueA c

/-- A payment's tally, as a list entry. -/
def pay (x : Dev nD × Cl) : Pay nD τ sig := (cell x.1 x.2, lvl x.2, units x.2)

/-- What a list of payments comes to. -/
def owed (l : List (Dev nD × Cl)) : CellTallies nD τ sig ℕ := tallyL (l.map pay)

theorem owed_nil : owed [] = 0 := rfl
theorem owed_cons (x : Dev nD × Cl) (l : List (Dev nD × Cl)) : owed (x :: l) = owed l + tallyAt (cell x.1 x.2) (lvl x.2) (units x.2) := by
  show tallyAt (cell x.1 x.2) (lvl x.2) (units x.2) + owed l = _; exact add_comm _ _

/-- A wait at cell `k` is allowed where everything still owed lies above it. -/
theorem mayWait (c : Dev nD) (k : Cl) (l : List (Dev nD × Cl)) (h : ∀ x ∈ l, lvl k < lvl x.2) :
    (levAts (L 6) lv : sProp 𝕄) ⊢ MayWait (c : Thread nD τ) (semOf k) (lvl k) (owed l) :=
  mayWait_of (by cases k <;> simp [lvl] <;> omega) c _ _ fun g i hg => by
    obtain ⟨x, hx, rfl, rfl⟩ := TalkSites.tallyL_pos hg
    obtain ⟨y, hy, rfl⟩ := List.mem_map.mp hx
    refine ⟨mem_L' rfl ?_, h y hy⟩
    show lvl y.2 < 6
    cases y.2 <;> simp [lvl] <;> omega

/-! ## The ghost state of the run -/

/-- Every cell's invariant under one map of names. -/
def invs (K : GSem nD τ sig → ℕ) : sProp 𝕄 := iprop(□ ∀ c k, cellInv ER (Rd I) (K (cell c k)) (cell c k))

instance invs_persistent (K : GSem nD τ sig → ℕ) : BI.Persistent (invs I K) := by unfold invs; infer_instance

theorem invs_at (K : GSem nD τ sig → ℕ) (c : Dev nD) (k : Cl) : invs I K ⊢ cellInv ER (Rd I) (K (cell c k)) (cell c k) := by
  unfold invs; iintro #H; iapply H

/-- What device `c` still has to pay, with the right to: the list in order, at the first round of each cell. -/
def Dues (c : Dev nD) (l : List (Dev nD × Cl)) : sProp 𝕄 :=
  iprop((∃ W, owes (c : Thread nD τ) (owed l) W) ∗ bigSepL l fun x => dutyTok ER (cell x.1 x.2) 0 c)

end Cert.KernelIdeal.Mesh

end
-- ==== Proof.Geo.lean ====
/-
  The views of the kernel's transfers, loads and stores: which part of a buffer each covers, and what it reads or leaves there.
-/
module

public import proofs.«01_k».proof.Proof.Base
public import Idealize.ShloMosaic.Lib.Pipeline.Value
public import Idealize.ShloMosaic.Lib.ValueLayout

@[expose] public section

set_option maxRecDepth 16384

noncomputable section

namespace Cert.KernelIdeal.Mesh

open Cert.KernelIdeal Cert.KernelIdeal.Gen
open Idealize.ShloMosaic Idealize.ShloMosaic.TcCoe
open Idealize.ShloMosaic.ValueIdx

variable {F : FTy → Type} [FloatOps F]

/-! ## The views -/

abbrev mS : Memref sig .tc .vmem S4x2x2x2x64x256 .bf16 := Memref.whole cc0_scratch0
abbrev mK : Memref sig .tc .vmem S2x2x2x128x256 .bf16 := Memref.whole cc0_scratch1
abbrev mT : Memref sig .tc .vmem S2x2x2x64x512 .bf16 := Memref.whole cc0_scratch2
abbrev mR : Memref sig .tc .vmem S2x2x2x64x512 .bf16 := Memref.whole cc0_scratch3

/-! Each part lies inside its buffer. -/

theorem inS (j : Fin 4) (p t : Fin 2) : ∀ a, (![j.val, p.val, t.val, 0, 0, 0] : Fin 6 → ℕ) a + S1x1x1x2x64x256.size a ≤ S4x2x2x2x64x256.size a := by
  revert j p t; decide
theorem inK (a p t : Fin 2) : ∀ b, (![p.val, t.val, 0, 64 * a.val, 0] : Fin 5 → ℕ) b + S1x1x2x64x256.size b ≤ S2x2x2x128x256.size b := by
  revert a p t; decide
theorem inK2 (p t : Fin 2) : ∀ b, (![p.val, t.val, 0, 0, 0] : Fin 5 → ℕ) b + S1x1x2x128x256.size b ≤ S2x2x2x128x256.size b := by
  revert p t; decide
theorem inB (p st : Fin 2) : ∀ b, (![p.val, st.val, 0, 0, 0] : Fin 5 → ℕ) b + S1x1x2x64x512.size b ≤ S2x2x2x64x512.size b := by
  revert p st; decide
theorem inX (p : Fin 2) (j : Fin 4) : ∀ b, (![0, 64 * p.val, 256 * j.val] : Fin 3 → ℕ) b + S2x64x256.size b ≤ S2x128x1024.size b := by
  revert p j; decide
theorem inO (p : Fin 2) : ∀ b, (![0, 64 * p.val, 0] : Fin 3 → ℕ) b + S2x64x512.size b ≤ S2x128x512.size b := by
  revert p; decide

/-- A part of the send buffer; of the key/value buffer; both slots of one; a part of an exchange buffer; of the local
    keys or values; of the result. -/
abbrev rS (j : Fin 4) (p t : Fin 2) : Rect S4x2x2x2x64x256 :=
  Rect.unit (s := S4x2x2x2x64x256) ![j.val, p.val, t.val, 0, 0, 0] S1x1x1x2x64x256.size (inS j p t)
@[inherit_doc rS] abbrev rK (a p t : Fin 2) : Rect S2x2x2x128x256 :=
  Rect.unit (s := S2x2x2x128x256) ![p.val, t.val, 0, 64 * a.val, 0] S1x1x2x64x256.size (inK a p t)
@[inherit_doc rS] abbrev rK2 (p t : Fin 2) : Rect S2x2x2x128x256 :=
  Rect.unit (s := S2x2x2x128x256) ![p.val, t.val, 0, 0, 0] S1x1x2x128x256.size (inK2 p t)
@[inherit_doc rS] abbrev rB (p st : Fin 2) : Rect S2x2x2x64x512 :=
  Rect.unit (s := S2x2x2x64x512) ![p.val, st.val, 0, 0, 0] S1x1x2x64x512.size (inB p st)
@[inherit_doc rS] abbrev rX (p : Fin 2) (j : Fin 4) : Rect S2x128x1024 :=
  Rect.unit (s := S2x128x1024) ![0, 64 * p.val, 256 * j.val] S2x64x256.size (inX p j)
@[inherit_doc rS] abbrev rO (p : Fin 2) : Rect S2x128x512 :=
  Rect.unit (s := S2x128x512) ![0, 64 * p.val, 0] S2x64x512.size (inO p)

/-- The same parts as a transfer names them. -/
abbrev vS (j : Fin 4) (p t : Fin 2) : Memref sig .tc .vmem S2x64x256 .bf16 :=
  (mS.slice (rS j p t) (fun _ => rfl)).squeeze S2x64x256 squeezes_S1x1x1x2x64x256_S2x64x256
@[inherit_doc vS] abbrev vK (a p t : Fin 2) : Memref sig .tc .vmem S2x64x256 .bf16 :=
  (mK.slice (rK a p t) (fun _ => rfl)).squeeze S2x64x256 squeezes_S1x1x2x64x256_S2x64x256
@[inherit_doc vS] abbrev vT (p st : Fin 2) : Memref sig .tc .vmem S2x64x512 .bf16 :=
  (mT.slice (rB p st) (fun _ => rfl)).squeeze S2x64x512 squeezes_S1x1x2x64x512_S2x64x512
@[inherit_doc vS] abbrev vR (p st : Fin 2) : Memref sig .tc .vmem S2x64x512 .bf16 :=
  (mR.slice (rB p st) (fun _ => rfl)).squeeze S2x64x512 squeezes_S1x1x2x64x512_S2x64x512

/-! ## Which part each covers -/

theorem rS_set (j : Fin 4) (p t : Fin 2) : (rS j p t).set = sndSet j p t := by
  ext i
  rw [Rect.mem_set_unit, sndSet, Finset.mem_filter]
  constructor
  · intro hi
    have h0 := hi 0; have h1 := hi 1; have h2 := hi 2
    simp at h0 h1 h2
    exact ⟨Finset.mem_univ _, by omega, by omega, by omega⟩
  · rintro ⟨-, h0, h1, h2⟩ a
    have := (i a).isLt
    fin_cases a <;> simp at * <;> omega
theorem rK_set (a p t : Fin 2) : (rK a p t).set = kvSet a p t := by
  ext i
  rw [Rect.mem_set_unit, kvSet, Finset.mem_filter]
  constructor
  · intro hi
    have h0 := hi 0; have h1 := hi 1; have h2 := hi 3
    simp at h0 h1 h2
    exact ⟨Finset.mem_univ _, by omega, by omega, by omega⟩
  · rintro ⟨-, h0, h1, h2⟩ a
    have := (i a).isLt
    fin_cases a <;> simp at * <;> omega
theorem rK2_set (p t : Fin 2) : (rK2 p t).set = kvSet 0 p t ∪ kvSet 1 p t := by
  ext i
  rw [Rect.mem_set_unit, Finset.mem_union, kvSet, kvSet, Finset.mem_filter, Finset.mem_filter]
  have h3 : (i 3).val < 128 := (i 3).isLt
  constructor
  · intro hi
    have h0 := hi 0; have h1 := hi 1
    simp at h0 h1
    by_cases hs : (i 3).val < 64
    · exact .inl ⟨Finset.mem_univ _, by omega, by omega, by simp; omega⟩
    · exact .inr ⟨Finset.mem_univ _, by omega, by omega, by simp; omega⟩
  · intro hh a
    have hh' : (i 0).val = p.val ∧ (i 1).val = t.val := by rcases hh with ⟨-, h0, h1, -⟩ | ⟨-, h0, h1, -⟩ <;> exact ⟨h0, h1⟩
    obtain ⟨h0, h1⟩ := hh'
    clear hh
    have := (i a).isLt
    fin_cases a <;> simp at * <;> omega
theorem rB_set (p st : Fin 2) : (rB p st).set = bfSet p st := by
  ext i
  rw [Rect.mem_set_unit, bfSet, Finset.mem_filter]
  constructor
  · intro hi
    have h0 := hi 0; have h1 := hi 1
    simp at h0 h1
    exact ⟨Finset.mem_univ _, by omega, by omega⟩
  · rintro ⟨-, h0, h1⟩ a
    have := (i a).isLt
    fin_cases a <;> simp at * <;> omega

theorem accS_set (j : Fin 4) (p t : Fin 2) : (mS.access (rS j p t)).set = sndSet j p t := by
  rw [← rS_set j p t]; exact View.set_slice_whole _ _
theorem accK_set (a p t : Fin 2) : (mK.access (rK a p t)).set = kvSet a p t := by
  rw [← rK_set a p t]; exact View.set_slice_whole _ _
theorem accK2_set (p t : Fin 2) : (mK.access (rK2 p t)).set = kvSet 0 p t ∪ kvSet 1 p t := by
  rw [← rK2_set p t]; exact View.set_slice_whole _ _
theorem accT_set (p st : Fin 2) : (mT.access (rB p st)).set = bfSet p st := by
  rw [← rB_set p st]; exact View.set_slice_whole _ _
theorem accR_set (p st : Fin 2) : (mR.access (rB p st)).set = bfSet p st := by
  rw [← rB_set p st]; exact View.set_slice_whole _ _
theorem vS_set (j : Fin 4) (p t : Fin 2) : (vS j p t).view.set = sndSet j p t := by
  rw [← accS_set j p t]; exact View.set_reshape _ _
theorem vK_set (a p t : Fin 2) : (vK a p t).view.set = kvSet a p t := by
  rw [← accK_set a p t]; exact View.set_reshape _ _
theorem vT_set (p st : Fin 2) : (vT p st).view.set = bfSet p st := by
  rw [← accT_set p st]; exact View.set_reshape _ _
theorem vR_set (p st : Fin 2) : (vR p st).view.set = bfSet p st := by
  rw [← accR_set p st]; exact View.set_reshape _ _

/-! ## What each reads and leaves -/

/-- What a view writes is what a buffer's contents are on its part, if they are so index by index. -/
theorem write_eq_on {Val : EltTy → Type} {sp : Space} {s : Shape} {e : EltTy} (v : View sig .tc sp s e) (f g : v.ty.Contents Val) (w : s.Idx → Val e)
    (h : ∀ x, w x = _root_.cast (congrArg Val v.elt_eq) (g (v.emb x))) : ∀ i ∈ v.set, v.write Val f w Finset.univ i = g i := fun i hi => by
  obtain ⟨x, -, rfl⟩ := Finset.mem_map.mp hi
  rw [View.write_emb_of_mem _ _ (Finset.mem_univ x), h x, cast_cast, cast_eq]

variable (I : Inp F)

theorem rS_emb (j : Fin 4) (p t : Fin 2) (x : S1x1x1x2x64x256.Idx) : (rS j p t).emb x = ix6 j p t (x 3) (x 4) (x 5) := by
  have h0 : (x 0).val < 1 := (x 0).isLt
  have h1 : (x 1).val < 1 := (x 1).isLt
  have h2 : (x 2).val < 1 := (x 2).isLt
  funext a; apply Fin.ext; rw [Rect.emb_apply]
  fin_cases a <;> simp <;> omega
theorem rK_emb (a p t : Fin 2) (x : S1x1x2x64x256.Idx) :
    (rK a p t).emb x = ix5 p t (x 2) ⟨64 * a.val + (x 3).val, by have := (x 3).isLt; have : (x 3).val < 64 := this; omega⟩ (x 4) := by
  have h0 : (x 0).val < 1 := (x 0).isLt
  have h1 : (x 1).val < 1 := (x 1).isLt
  funext a; apply Fin.ext; rw [Rect.emb_apply]
  fin_cases a <;> simp <;> omega
theorem rK2_emb (p t : Fin 2) (x : S1x1x2x128x256.Idx) : (rK2 p t).emb x = ix5 p t (x 2) (x 3) (x 4) := by
  have h0 : (x 0).val < 1 := (x 0).isLt
  have h1 : (x 1).val < 1 := (x 1).isLt
  funext a; apply Fin.ext; rw [Rect.emb_apply]
  fin_cases a <;> simp <;> omega
theorem rB_emb (p st : Fin 2) (x : S1x1x2x64x512.Idx) : (rB p st).emb x = ix5 p st (x 2) (x 3) (x 4) := by
  have h0 : (x 0).val < 1 := (x 0).isLt
  have h1 : (x 1).val < 1 := (x 1).isLt
  funext a; apply Fin.ext; rw [Rect.emb_apply]
  fin_cases a <;> simp <;> omega
theorem rX_emb (p : Fin 2) (j : Fin 4) (x : S2x64x256.Idx) :
    (rX p j).emb x = ix3 (x 0) ⟨64 * p.val + (x 1).val, by have : (x 1).val < 64 := (x 1).isLt; omega⟩
      ⟨256 * j.val + (x 2).val, by have : (x 2).val < 256 := (x 2).isLt; omega⟩ := by
  funext a; apply Fin.ext; rw [Rect.emb_apply]
  fin_cases a <;> simp
theorem rO_emb (p : Fin 2) (x : S2x64x512.Idx) :
    (rO p).emb x = ix3 (x 0) ⟨64 * p.val + (x 1).val, by have : (x 1).val < 64 := (x 1).isLt; omega⟩ (x 2) := by
  funext a; apply Fin.ext; rw [Rect.emb_apply]
  fin_cases a <;> simp

/-- An index of a block matched with its part's shape: unit coordinates in front. -/
theorem reshape_S (h : S2x64x256.numel = S1x1x1x2x64x256.numel) (x : S2x64x256.Idx) :
    Shape.reshapeEquiv h x = (ix6 (0 : Fin 1) (0 : Fin 1) (0 : Fin 1) (x 0) (x 1) (x 2) : S1x1x1x2x64x256.Idx) :=
  Shape.reshapeEquiv_eq_of_rowMajor h (by
    rw [Shape.rowMajor_val_six, Shape.rowMajor_val_three]
    show (((((0 * 1 + 0) * 1 + 0) * 2 + (x 0).val) * 64 + (x 1).val) * 256 + (x 2).val) = ((x 0).val * 64 + (x 1).val) * 256 + (x 2).val
    omega)
@[inherit_doc reshape_S] theorem reshape_K (h : S2x64x256.numel = S1x1x2x64x256.numel) (x : S2x64x256.Idx) :
    Shape.reshapeEquiv h x = (ix5 (0 : Fin 1) (0 : Fin 1) (x 0) (x 1) (x 2) : S1x1x2x64x256.Idx) :=
  Shape.reshapeEquiv_eq_of_rowMajor h (by
    rw [Shape.rowMajor_val_five, Shape.rowMajor_val_three]
    show ((((0 * 1 + 0) * 2 + (x 0).val) * 64 + (x 1).val) * 256 + (x 2).val) = ((x 0).val * 64 + (x 1).val) * 256 + (x 2).val
    omega)
@[inherit_doc reshape_S] theorem reshape_B (h : S2x64x512.numel = S1x1x2x64x512.numel) (x : S2x64x512.Idx) :
    Shape.reshapeEquiv h x = (ix5 (0 : Fin 1) (0 : Fin 1) (x 0) (x 1) (x 2) : S1x1x2x64x512.Idx) :=
  Shape.reshapeEquiv_eq_of_rowMajor h (by
    rw [Shape.rowMajor_val_five, Shape.rowMajor_val_three]
    show ((((0 * 1 + 0) * 2 + (x 0).val) * 64 + (x 1).val) * 512 + (x 2).val) = ((x 0).val * 64 + (x 1).val) * 512 + (x 2).val
    omega)

theorem vS_emb (j : Fin 4) (p t : Fin 2) (x : S2x64x256.Idx) : (vS j p t).view.emb x = ix6 j p t (x 0) (x 1) (x 2) := by
  show (rS j p t).emb (Shape.reshapeEquiv _ x) = _
  exact (congrArg (rS j p t).emb (reshape_S _ x)).trans (rS_emb j p t _)
theorem vK_emb (a p t : Fin 2) (x : S2x64x256.Idx) :
    (vK a p t).view.emb x = ix5 p t (x 0) ⟨64 * a.val + (x 1).val, by have : (x 1).val < 64 := (x 1).isLt; omega⟩ (x 2) := by
  show (rK a p t).emb (Shape.reshapeEquiv _ x) = _
  exact (congrArg (rK a p t).emb (reshape_K _ x)).trans (rK_emb a p t _)
theorem vB_emb (p st : Fin 2) (x : S2x64x512.Idx) (h : S2x64x512.numel = S1x1x2x64x512.numel) :
    (rB p st).emb (Shape.reshapeEquiv h x) = ix5 p st (x 0) (x 1) (x 2) :=
  (congrArg (rB p st).emb (reshape_B _ x)).trans (rB_emb p st _)

/-- What the send buffer holds at a part is what the key/value buffer of the target holds at the sender's slot. -/
theorem snd_kv (a p t : Fin 2) (j : Fin 4) (x0 : Fin 2) (x1 : Fin 64) (x2 : Fin 256) :
    sndB I (snd a) (ix6 j p t x0 x1 x2) = kvB I j (ix5 p t x0 ⟨64 * a.val + x1.val, by omega⟩ x2) := by
  unfold sndB kvB
  have e1 : (⟨(64 * a.val + x1.val) / 64, by omega⟩ : Fin 2) = a := Fin.ext (by show (64 * a.val + x1.val) / 64 = a.val; omega)
  have e2 : (64 * a.val + x1.val) % 64 = x1.val := by omega
  show kvAt I (snd a) t (ix3 x0 ⟨64 * p.val + x1.val, _⟩ ⟨256 * j.val + x2.val, _⟩)
    = kvAt I (snd ⟨(64 * a.val + x1.val) / 64, _⟩) t (ix3 x0 ⟨64 * p.val + (64 * a.val + x1.val) % 64, _⟩ ⟨256 * j.val + x2.val, _⟩)
  simp only [e1, e2]

/-- A transfer of keys or values leaves the target's slot as gathered. -/
theorem kv_land (a p t : Fin 2) (j : Fin 4) (fd : Vec F S2x2x2x128x256 .bf16) :
    ∀ i ∈ kvSet a p t, (vK a p t).view.write (Elt F) fd ((vS j p t).view.read (Elt F) (sndB I (snd a))) Finset.univ i = kvB I j i := by
  rw [← vK_set a p t]
  refine write_eq_on (Val := Elt F) (vK a p t).view fd (kvB I j) _ fun x => ?_
  show sndB I (snd a) ((vS j p t).view.emb x) = kvB I j ((vK a p t).view.emb x)
  rw [vS_emb, vK_emb]; exact snd_kv I a p t j _ _ _
/-- A transfer of the exchange leaves the partner's buffer as received. -/
theorem bf_land (p st : Fin 2) (c : Dev nD) (fd : Vec F S2x2x2x64x512 .bf16) :
    ∀ i ∈ bfSet p st, (vR p st).view.write (Elt F) fd ((vT p st).view.read (Elt F) (bfsB I c)) Finset.univ i = bfrB I (par st c) i := by
  rw [← vR_set p st]
  refine write_eq_on (Val := Elt F) (vR p st).view fd (bfrB I (par st c)) _ fun x => ?_
  show bfsB I c ((rB p st).emb (Shape.reshapeEquiv _ x)) = bfrB I (par st c) ((rB p st).emb (Shape.reshapeEquiv _ x))
  rw [vB_emb]
  show acc I c p st _ = acc I (par st (par st c)) p st _
  rw [par_par]

theorem snd_store (j : Fin 4) (p t : Fin 2) (c : Dev nD) (f : Vec F S4x2x2x2x64x256 .bf16) (w : S1x1x1x2x64x256.Idx → Elt F .bf16)
    (hw : ∀ x, w x = sndB I c (ix6 j p t (x 3) (x 4) (x 5))) :
    ∀ i ∈ sndSet j p t, (mS.access (rS j p t)).write (Elt F) f w Finset.univ i = sndB I c i := by
  rw [← accS_set j p t]
  refine write_eq_on (Val := Elt F) (mS.access (rS j p t)) f (sndB I c) w fun x => ?_
  show w x = sndB I c ((rS j p t).emb x)
  exact (hw x).trans (congrArg (sndB I c) (rS_emb j p t x).symm)
theorem kv_store (a p t : Fin 2) (c : Dev nD) (f : Vec F S2x2x2x128x256 .bf16) (w : S1x1x2x64x256.Idx → Elt F .bf16)
    (hw : ∀ x, w x = kvB I c ((rK a p t).emb x)) :
    ∀ i ∈ kvSet a p t, (mK.access (rK a p t)).write (Elt F) f w Finset.univ i = kvB I c i := by
  rw [← accK_set a p t]
  exact write_eq_on (Val := Elt F) (mK.access (rK a p t)) f (kvB I c) w fun x => hw x
theorem bf_store (p st : Fin 2) (c : Dev nD) (f : Vec F S2x2x2x64x512 .bf16) (w : S1x1x2x64x512.Idx → Elt F .bf16)
    (hw : w = asBox (acc I c p st)) :
    ∀ i ∈ bfSet p st, (mT.access (rB p st)).write (Elt F) f w Finset.univ i = bfsB I c i := by
  rw [← accT_set p st]
  refine write_eq_on (Val := Elt F) (mT.access (rB p st)) f (bfsB I c) w fun x => ?_
  show w x = bfsB I c ((rB p st).emb x)
  rw [hw, rB_emb]; rfl

theorem kv_read (p t : Fin 2) (c : Dev nD) : mK.view.readAt (Elt F) (rK2 p t).toLoadRect (kvB I c) = kvBox I c p t := by
  funext x
  show kvB I c ((rK2 p t).emb x) = _
  rw [rK2_emb]; rfl
theorem bf_read (p st : Fin 2) (c : Dev nD) : mR.view.readAt (Elt F) (rB p st).toLoadRect (bfrB I c) = asBox (acc I (par st c) p st) := by
  funext x
  show bfrB I c ((rB p st).emb x) = _
  rw [rB_emb]; rfl

/-! ## The casts between a block and its part -/

theorem cast_self {α : Type} {s : Shape} (v : s.Idx → α) (h : s.ShapeCasts s) : shapeCast s v h = v :=
  funext fun x => shapeCast_apply v h x x rfl

theorem cast_111 {α : Type} (v : S2x64x256.Idx → α) (h₁ h₂) (x : S1x1x1x2x64x256.Idx) :
    shapeCast S1x1x1x2x64x256 (shapeCast S2x64x256 v h₁) h₂ x = v (ix3 (x 3) (x 4) (x 5)) := by
  rw [cast_self]
  refine shapeCast_apply _ _ _ _ ?_
  have h0 : (x 0).val < 1 := (x 0).isLt
  have h1 : (x 1).val < 1 := (x 1).isLt
  have h2 : (x 2).val < 1 := (x 2).isLt
  rw [Shape.rowMajor_val_six, Shape.rowMajor_val_three]
  show ((x 3).val * 64 + (x 4).val) * 256 + (x 5).val = (((((x 0).val * 1 + (x 1).val) * 1 + (x 2).val) * 2 + (x 3).val) * 64 + (x 4).val) * 256 + (x 5).val
  omega
theorem cast_11 {α : Type} (v : S2x64x256.Idx → α) (h) (x : S1x1x2x64x256.Idx) : shapeCast S1x1x2x64x256 v h x = v (ix3 (x 2) (x 3) (x 4)) := by
  refine shapeCast_apply _ _ _ _ ?_
  have h0 : (x 0).val < 1 := (x 0).isLt
  have h1 : (x 1).val < 1 := (x 1).isLt
  rw [Shape.rowMajor_val_five, Shape.rowMajor_val_three]
  show ((x 2).val * 64 + (x 3).val) * 256 + (x 4).val = ((((x 0).val * 1 + (x 1).val) * 2 + (x 2).val) * 64 + (x 3).val) * 256 + (x 4).val
  omega
theorem cast_bf {α : Type} (v : S2x64x512.Idx → α) (h) (x : S1x1x2x64x512.Idx) : shapeCast S1x1x2x64x512 v h x = v (ix3 (x 2) (x 3) (x 4)) := by
  refine shapeCast_apply _ _ _ _ ?_
  have h0 : (x 0).val < 1 := (x 0).isLt
  have h1 : (x 1).val < 1 := (x 1).isLt
  rw [Shape.rowMajor_val_five, Shape.rowMajor_val_three]
  show ((x 2).val * 64 + (x 3).val) * 512 + (x 4).val = ((((x 0).val * 1 + (x 1).val) * 2 + (x 2).val) * 64 + (x 3).val) * 512 + (x 4).val
  omega

end Cert.KernelIdeal.Mesh

end
-- ==== Proof.Steps.lean ====
/-
  One step of a device at a time: a signal, a wait, a load or a store of a part, a transfer — each stated once, for
  any device, slot, half and stage, with the payments still owed kept as a list.
-/
module

public import proofs.«01_k».proof.Proof.Geo
public import Idealize.ShloMosaic.Lib.Pipeline.BigSepL

@[expose] public section

set_option maxRecDepth 16384

noncomputable section

namespace Cert.KernelIdeal.Mesh

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SiteBlocks (L lv)

variable {F : FTy → Type} [FloatOps F]

local notation "𝕄" => MT nD τ sig ℕ (Elt F) ℕ UU ℕ

abbrev 𝒱₀ : Variants := Variants.none

/-- The run of a program on device `c` under the body's rules. -/
abbrev Wp {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-! ## The printed semaphores -/

theorem inSem8 (j : Fin 4) (p t : Fin 2) : ∀ b, (![j.val, p.val, t.val] : Fin 3 → ℕ) b + S1x1x1.size b ≤ S4x2x2.size b := by
  revert j p t; decide
theorem inSem4 (a p t : Fin 2) : ∀ b, (![a.val, p.val, t.val] : Fin 3 → ℕ) b + S1x1x1.size b ≤ S2x2x2.size b := by
  revert a p t; decide
theorem inSem2 (p st : Fin 2) : ∀ b, (![p.val, st.val] : Fin 2 → ℕ) b + S1x1.size b ≤ S2x2.size b := by
  revert p st; decide

abbrev qKs (j : Fin 4) (p t : Fin 2) : DmaSem sig :=
  ((cc0_scratch4.slice (Rect.unit (s := S4x2x2) ![j.val, p.val, t.val] S1x1x1.size (inSem8 j p t))).squeeze S_ squeezes_S1x1x1_S_).sem
abbrev qKr (a p t : Fin 2) : DmaSem sig :=
  ((cc0_scratch5.slice (Rect.unit (s := S2x2x2) ![a.val, p.val, t.val] S1x1x1.size (inSem4 a p t))).squeeze S_ squeezes_S1x1x1_S_).sem
abbrev qBs (p st : Fin 2) : DmaSem sig :=
  ((cc0_scratch6.slice (Rect.unit (s := S2x2) ![p.val, st.val] S1x1.size (inSem2 p st))).squeeze S_ squeezes_S1x1_S_).sem
abbrev qBr (p st : Fin 2) : DmaSem sig :=
  ((cc0_scratch7.slice (Rect.unit (s := S2x2) ![p.val, st.val] S1x1.size (inSem2 p st))).squeeze S_ squeezes_S1x1_S_).sem
abbrev qBar : Sem sig := (SemArray.scalar (sig.barrier 0 rfl) : Sems sig S_).sem
abbrev qEx : Sem sig := cc0_scoped0.sem

theorem semOf_ks (j : Fin 4) (p t : Fin 2) : semOf (.ks j p t) = .dma (qKs j p t) := by revert j p t; decide
theorem semOf_kr (a p t : Fin 2) : semOf (.kr a p t) = .dma (qKr a p t) := by revert a p t; decide
theorem semOf_bs (p st : Fin 2) : semOf (.bs p st) = .dma (qBs p st) := by revert p st; decide
theorem semOf_br (p st : Fin 2) : semOf (.br p st) = .dma (qBr p st) := by revert p st; decide
theorem semOf_bar : semOf .bar = .reg qBar := rfl
theorem semOf_ex : semOf .ex = .reg qEx := rfl

/-! ## What a wait needs and leaves -/

variable (I : Inp F) (K : GSem nD τ sig → ℕ) (c : Dev nD)

/-- The right to wait for all that comes to a cell; the cell before its round, and after. -/
def Cr (k : Cl) : sProp 𝕄 := cred (tallyAt (cell c k) (lvl k) ((payers c k).card * units k))
@[inherit_doc Cr] def At (k : Cl) : sProp 𝕄 := atPos ER (cell c k) 0 ∅ 0
@[inherit_doc Cr] def Dn (k : Cl) : sProp 𝕄 := atPos ER (cell c k) 1 ∅ 0

/-- The facts every step uses: the cells' invariants, the levels, the device's own cells at their first round. -/
def Facts : sProp 𝕄 := iprop(invs I K ∗ levAts (L 6) lv ∗ □ ∀ k, reached ER (cell c k) 0)
instance : BI.Persistent (Facts I K c) := by unfold Facts; infer_instance

variable {α : Type} (Q : α → sProp (MT nD τ sig ℕ (Elt F) ℕ UU ℕ))

theorem wait_dma (k : Cl) {sem : DmaSem sig} (hk : semOf k = .dma sem) {sp sp' : Space} {s s' : Shape} {e e' : EltTy}
    {src : Memref sig .tc sp s e} {dst : Memref sig .tc sp' s' e'}
    (hN : dst.view.dmaCredit = units k) (hcard : (payers c k).card = 1) (l : List (Dev nD × Cl)) (hl : ∀ x ∈ l, lvl k < lvl x.2) {h1 h2}
    (kont : PUnit → Prog (TpuEff nD τ sig (Elt F) Λ₀ .tc) α) :
    iprop(Facts I K c ∗ Cr c k ∗ At c k ∗ Dues c l)
      ⊢ iprop((Dues c l -∗ Dn c k -∗ bigSep (payers c k) (fun d => hands I c d k) -∗ Wp c (kont ⟨⟩) Q)
        -∗ Wp c (.op (.waitDma2 sem src dst h1 h2) kont) Q) := by
  unfold Cr At Dn Dues Facts
  rw [hcard, Nat.one_mul]
  have hE := (expect_cell I c k).trans ((congrArg (· * units k) hcard).trans (Nat.one_mul _))
  have hR := rest_cell I c k
  have hM := mayWait (F := F) c k l hl
  have hI := invs_at I K c k
  simp only [cell, hk] at hE hR hM hI ⊢
  iintro ⟨⟨#Hinv, #Hlev, -⟩, Hc, Ha, ⟨%W, HO⟩, Ht⟩
  iintro Hk
  rw [← hN]
  iapply (Rounds.wp_wait_rest_token 𝒱₀ ER (Rd I) (c : Thread nD τ) none (κ := K ((c : Thread nD τ), .dma sem))
      (wpE_waitDma2_eq (src := src) (dst := dst) 𝒱₀ (c : Thread nD τ) none Set.univ) (Set.mem_univ _) (lvl k)
      (O := owed l) (W := W) (R := 0) (m := 0) (T := ∅) (by rw [Nat.zero_add, hE, hN])) $$ [Hc HO Ha]
  · isplitr; · iapply hI $$ Hinv
    isplitl [Hc]; · iexact Hc
    isplitl [HO]; · iexact HO
    isplitr; · iapply hM $$ Hlev
    iexact Ha
  rw [hR]
  iintro ⟨HO, Ha, -, Hp⟩
  iapply Hk $$ [HO Ht] [Ha] [Hp]
  · isplitl [HO]; · iexists _; iexact HO
    iexact Ht
  · iexact Ha
  · iexact Hp

theorem wait_reg (k : Cl) {sem : Sem sig} (hk : semOf k = .reg sem) {z : Int} (hz : z = ((payers c k).card : ℕ)) (hu : units k = 1)
    (l : List (Dev nD × Cl)) (hl : ∀ x ∈ l, lvl k < lvl x.2) (kont : PUnit → Prog (TpuEff nD τ sig (Elt F) Λ₀ .tc) α) :
    iprop(Facts I K c ∗ Cr c k ∗ At c k ∗ Dues c l)
      ⊢ iprop((Dues c l -∗ Dn c k -∗ bigSep (payers c k) (fun d => hands I c d k) -∗ Wp c (kont ⟨⟩) Q)
        -∗ Wp c (.op (.semWait sem z) kont) Q) := by
  subst hz
  unfold Cr At Dn Dues Facts
  have hE := expect_cell I c k
  rw [hu, Nat.mul_one] at hE ⊢
  have hR := rest_cell I c k
  have hM := mayWait (F := F) c k l hl
  have hI := invs_at I K c k
  simp only [cell, hk] at hE hR hM hI ⊢
  iintro ⟨⟨#Hinv, #Hlev, -⟩, Hc, Ha, ⟨%W, HO⟩, Ht⟩
  iintro Hk
  iapply (Rounds.wp_wait_rest_token 𝒱₀ ER (Rd I) (c : Thread nD τ) none (κ := K ((c : Thread nD τ), .reg sem))
      (wpE_semWait_eq 𝒱₀ (c : Thread nD τ) none Set.univ) (Set.mem_univ _) (lvl k)
      (O := owed l) (W := W) (R := 0) (m := 0) (T := ∅) (by rw [Nat.zero_add, hE])) $$ [Hc HO Ha]
  · isplitr; · iapply hI $$ Hinv
    isplitl [Hc]; · iexact Hc
    isplitl [HO]; · iexact HO
    isplitr; · iapply hM $$ Hlev
    iexact Ha
  rw [hR]
  iintro ⟨HO, Ha, -, Hp⟩
  iapply Hk $$ [HO Ht] [Ha] [Hp]
  · isplitl [HO]; · iexists _; iexact HO
    iexact Ht
  · iexact Ha
  · iexact Hp

/-- A signal pays the first of the payments still owed, with what it hands over. -/
theorem signal (j : Dev nD) (k : Cl) {j' : Dev nD} (hj : j' = j) {sem : Sem sig} (hk : semOf k = .reg sem) {z : Int} (hz : z = 1) (hu : units k = 1)
    (hp : c ∈ payers j k) (l : List (Dev nD × Cl)) (kont : PUnit → Prog (TpuEff nD τ sig (Elt F) Λ₀ .tc) α) :
    iprop(Facts I K c ∗ reached ER (cell j k) 0 ∗ hands I j c k ∗ Dues c ((j, k) :: l))
      ⊢ iprop((Dues c l -∗ Wp c (kont ⟨⟩) Q) -∗ Wp c (.op (.semSignal ((j', Proc.tc) : Thread nD τ) sem z) kont) Q) := by
  subst hj; subst hz
  unfold Dues Facts
  have hA := (amount_cell I j' c k).trans hu
  have hD := duties_cell I j' k
  have hP := payload_cell I j' c k
  have hI := invs_at I K j' k
  rw [owed_cons, bigSepL_cons']
  dsimp only
  rw [hu]
  simp only [cell, hk] at hA hD hP hI ⊢
  iintro ⟨⟨#Hinv, -, -⟩, #Hr, Hh, ⟨%W, HO⟩, Ht, Hts⟩
  iintro Hk
  iapply (Rounds.wp_signal 𝒱₀ ER (Rd I) (c : Thread nD τ) none (dst := (j' : Thread nD τ)) (sem := sem) (r := 0) (d := c)
    (κ := K ((j' : Thread nD τ), .reg sem)) (by rw [hD]; exact hp) hA (lvl k) (owed l) rfl) $$ [HO Ht Hh]
  · isplitr; · iapply hI $$ Hinv
    isplitl [HO]; · iexact HO
    isplitl [Ht]; · iexact Ht
    isplitl [Hh]; · rw [hP]; iexact Hh
    iexact Hr
  iintro HO
  iapply Hk
  isplitl [HO]; · iexists W; iexact HO
  iexact Hts

/-- A transfer to device `j` pays its own send cell, which gives the source back, and the target's receive cell, the
    first of the payments still owed. -/
theorem send (j : Dev nD) (ks kd : Cl) {j' : Dev nD} (hj : j' = j) {sS sD : DmaSem sig} (hks : semOf ks = .dma sS) (hkd : semOf kd = .dma sD)
    {sh : Shape} {e : EltTy} {src dst : Memref sig .tc .vmem sh e}
    (fs : Buf (Elt F) (src.view.loc (c : Thread nD τ))) (N : ℕ)
    (hN : dst.view.dmaCredit = N) (huS : units ks = N) (huD : units kd = N) (hS : payers c ks = {c}) (hD : payers j kd = {c})
    (hpS : (src.view.loc (c : Thread nD τ) ↦[src.view.set]{fullShare} fs : sProp 𝕄) ⊢ hands I c c ks)
    (hpD : ∀ fd : Buf (Elt F) (dst.view.loc (j : Thread nD τ)), (dst.view.loc (j : Thread nD τ) ↦[dst.view.set]{fullShare} dst.view.write (Elt F) fd (src.view.read (Elt F) fs) Finset.univ : sProp 𝕄) ⊢ hands I j c kd)
    (l : List (Dev nD × Cl)) {h1 h2 h3} (kont : PUnit → Prog (TpuEff nD τ sig (Elt F) Λ₀ .tc) α) :
    iprop(Facts I K c ∗ reached ER (cell j kd) 0 ∗ (src.view.loc (c : Thread nD τ) ↦[src.view.set]{fullShare} fs)
        ∗ (∃ fd, dst.view.loc (j : Thread nD τ) ↦[dst.view.set]{fullShare} fd) ∗ dutyTok ER (cell c ks) 0 c ∗ Dues c ((j, kd) :: l))
      ⊢ iprop((Cr c ks -∗ Dues c l -∗ Wp c (kont ⟨⟩) Q)
        -∗ Wp c (.op (.enqueueDma src (.remote (Dev.tc j') dst (.dma sS)) (.dma sD) h1 h2 h3) kont) Q) := by
  subst hj
  unfold Dues Facts Cr
  have hAS := (amount_cell I c c ks).trans (huS.trans hN.symm)
  have hAD := (amount_cell I j' c kd).trans (huD.trans hN.symm)
  have hDS := (duties_cell I c ks).trans hS
  have hDD := (duties_cell I j' kd).trans hD
  have hPS := payload_cell I c c ks
  have hPD := payload_cell I j' c kd
  have hIS := invs_at I K c ks
  have hID := invs_at I K j' kd
  rw [owed_cons, bigSepL_cons', hS, Finset.card_singleton, Nat.one_mul]
  dsimp only
  rw [huS, huD, ← hN]
  simp only [cell, hks, hkd] at hAS hAD hDS hDD hPS hPD hIS hID ⊢
  iintro ⟨⟨#Hinv, -, #Hown⟩, #Hr, Hsrc, ⟨%fd, Hdst⟩, HtS, ⟨%W, HO⟩, Ht, Hts⟩
  iintro Hk
  ihave #HrS := Hown $$ %ks
  simp only [cell, hks]
  iapply (Rounds.wp_send_pointsTo 𝒱₀ ER (Rd I) (c : Thread nD τ) none (c' := (j' : Thread nD τ)) (src := src) (dst := dst) (sS := .dma sS) (sem := .dma sD)
    (q := fullShare) (fs := fs) (κ₁ := K ((c : Thread nD τ), .dma sS)) (κ₂ := K ((j' : Thread nD τ), .dma sD)) (r₁ := 0) (r₂ := 0) (d₁ := c) (d₂ := c) (fd := fd)
    (by rw [hDS]; exact Finset.mem_singleton_self _) (by rw [hDD]; exact Finset.mem_singleton_self _) (lvl kd) (lvl ks) dst.view.dmaCredit rfl hAS hAD
    (owed l) rfl (W := W) (by rw [hPS]; exact hpS) (by rw [hPD]; exact hpD fd)) $$ [Hsrc Hdst HO HtS Ht]
  · isplitr; · iapply hIS $$ Hinv
    isplitr; · iapply hID $$ Hinv
    isplitl [Hsrc]; · iexact Hsrc
    isplitl [Hdst]; · iexact Hdst
    isplitl [HO]; · iexact HO
    isplitl [HtS]; · iexact HtS
    isplitr; · iexact HrS
    isplitl [Ht]; · iexact Ht
    iexact Hr
  iintro ⟨HcS, HO⟩
  iapply Hk $$ [HcS] [HO Hts]
  · iexact HcS
  isplitl [HO]; · iexists W; iexact HO
  iexact Hts

/-! ## The parts of the key/value transfers -/

/-- The staged keys (`t = 0`) or values (`t = 1`). -/
abbrev mX (t : Fin 2) : Memref sig .tc .vmem S2x128x1024 .bf16 := if t = 0 then Memref.whole cc0_stg2_0 else Memref.whole cc0_stg3_0

/-- The staged keys and values of the device. -/
def Srcs : sProp 𝕄 := iprop(((c : Thread nD τ).loc cc0_stg2_0 ↦{fullShare} I.k c) ∗ ((c : Thread nD τ).loc cc0_stg3_0 ↦{fullShare} I.v c))

/-- What a load of a part of them reads. -/
def srcRd (t p : Fin 2) (j : Fin 4) : Vec F S2x64x256 .bf16 := fun x => kvAt I c t ((rX p j).emb x)

theorem load_src (t p : Fin 2) (j : Fin 4) {h} (kont : Vec F S2x64x256 .bf16 → Prog (TpuEff nD τ sig (Elt F) Λ₀ .tc) α) :
    Srcs I c ⊢ iprop((Srcs I c -∗ Wp c (kont (srcRd I c t p j)) Q) -∗ Wp c (.op (.load (mX t) (rX p j).toLoadRect h) kont) Q) := by
  unfold Srcs
  iintro ⟨H2, H3⟩
  iintro Hk
  obtain rfl | rfl : t = 0 ∨ t = 1 := by omega
  · iapply (wp_load 𝒱₀ (c : Thread nD τ) none Set.univ (S := Finset.univ) (m := (Memref.whole cc0_stg2_0 : Memref sig .tc .vmem S2x128x1024 .bf16)) (r := (rX p j).toLoadRect) (Finset.subset_univ _)) $$ [H2]
    · iexact H2
    iintro H2
    iapply Hk
    isplitl [H2]; · iexact H2
    iexact H3
  · iapply (wp_load 𝒱₀ (c : Thread nD τ) none Set.univ (S := Finset.univ) (m := (Memref.whole cc0_stg3_0 : Memref sig .tc .vmem S2x128x1024 .bf16)) (r := (rX p j).toLoadRect) (Finset.subset_univ _)) $$ [H3]
    · iexact H3
    iintro H3
    iapply Hk
    isplitl [H2]; · iexact H2
    iexact H3

/-- A block as the part of the send buffer, of the key/value buffer, that holds it. -/
def castS (v : Vec F S2x64x256 .bf16) : Vec F S1x1x1x2x64x256 .bf16 :=
  shapeCast S1x1x1x2x64x256 (shapeCast S2x64x256 v shapeCasts_S2x64x256_S2x64x256) shapeCasts_S2x64x256_S1x1x1x2x64x256
@[inherit_doc castS] def castK (v : Vec F S2x64x256 .bf16) : Vec F S1x1x2x64x256 .bf16 :=
  shapeCast S1x1x2x64x256 (shapeCast S2x64x256 v shapeCasts_S2x64x256_S2x64x256) shapeCasts_S2x64x256_S1x1x2x64x256

theorem payers_ks (a p t : Fin 2) (j : Fin 4) (hj : j ≠ snd a) : payers (snd a) (.ks j p t) = {snd a} := by revert a p t j; decide
theorem payers_kr (a p t : Fin 2) (j : Fin 4) (hj : j ≠ snd a) : payers j (.kr a p t) = {snd a} := by revert a p t j; decide

theorem castS_src (a p t : Fin 2) (j : Fin 4) (x : S1x1x1x2x64x256.Idx) : castS (srcRd I (snd a) t p j) x = sndB I (snd a) (ix6 j p t (x 3) (x 4) (x 5)) := by
  rw [castS, cast_111]; unfold srcRd; rw [rX_emb]; rfl
theorem castK_src (a p t : Fin 2) (x : S1x1x2x64x256.Idx) : castK (srcRd I (snd a) t p (snd a)) x = kvB I (snd a) ((rK a p t).emb x) := by
  rw [castK, cast_self, cast_11, rK_emb]; unfold srcRd; rw [rX_emb]
  have hx : (x 3).val < 64 := (x 3).isLt
  have e1 : (⟨(64 * a.val + (x 3).val) / 64, by omega⟩ : Fin 2) = a := Fin.ext (by show (64 * a.val + (x 3).val) / 64 = a.val; omega)
  have e2 : (64 * a.val + (x 3).val) % 64 = (x 3).val := by omega
  show _ = kvAt I (snd ⟨(64 * a.val + (x 3).val) / 64, _⟩) t (ix3 (x 2) ⟨64 * p.val + (64 * a.val + (x 3).val) % 64, _⟩ ⟨256 * (snd a).val + (x 4).val, _⟩)
  simp only [e1, e2]
  rfl

theorem grp_run (a p t : Fin 2) (j : Fin 4) (hj : j ≠ snd a) {j' : Dev nD} (hj' : j' = j) (l : List (Dev nD × Cl))
    {h1 h2 h3 h4 h5 h6 h7} (kont : PUnit → Prog (TpuEff nD τ sig (Elt F) Λ₀ .tc) α) :
    iprop(Facts I K (snd a) ∗ Srcs I (snd a) ∗ (∃ f, sndReg (snd a) j p t f) ∗ kvFree j a p t ∗ dutyTok ER (cell (snd a) (.ks j p t)) 0 (snd a)
        ∗ Dues (snd a) ((j, .kr a p t) :: l))
      ⊢ iprop((Srcs I (snd a) -∗ Cr (snd a) (.ks j p t) -∗ Dues (snd a) l -∗ Wp (snd a) (kont ⟨⟩) Q)
        -∗ Wp (snd a) (.op (.load (mX t) (rX p j).toLoadRect h1) fun v => .op (.load mS (rS j p t).toLoadRect h2) fun _ =>
            .op (.store mS (rS j p t) (castS v) Finset.univ h3 h4) fun _ =>
            .op (.enqueueDma (vS j p t) (.remote (Dev.tc j') (vK a p t) (.dma (qKs j p t))) (.dma (qKr a p t)) h5 h6 h7) kont) Q) := by
  unfold kvFree
  iintro ⟨#HF, Hsrc, ⟨%f, Hs⟩, ⟨Hd, #Hr⟩, Ht, HD⟩
  iintro Hk
  iapply (load_src I (snd a) Q t p j) $$ [Hsrc]
  · iexact Hsrc
  iintro Hsrc
  iapply (wp_load_rect 𝒱₀ (snd a : Thread nD τ) none Set.univ (S := sndSet j p t) (m := mS) (r := rS j p t) (accS_set j p t).le) $$ [Hs]
  · iexact Hs
  iintro Hs
  iapply (wp_store 𝒱₀ (snd a : Thread nD τ) none Set.univ (S := sndSet j p t) (m := mS) (r := rS j p t) (Mk := Finset.univ) (accS_set j p t).le) $$ [Hs]
  · iexact Hs
  iintro Hs
  iapply (send I K (snd a) Q j (.ks j p t) (.kr a p t) hj' (semOf_ks j p t) (semOf_kr a p t) (src := vS j p t) (dst := vK a p t) (sndB I (snd a)) NK
    rfl rfl rfl (payers_ks a p t j hj) (payers_kr a p t j hj) (by rw [vS_set]; exact .rfl)
    (fun fd => by rw [vK_set, pointsTo_congr (kv_land I a p t j fd)]; exact .rfl) l) $$ [Hs Hd Ht HD]
  · isplitr; · iexact HF
    isplitr; · iexact Hr
    isplitl [Hs]
    · rw [vS_set]
      iapply (Entails.of_eq (pointsTo_congr (snd_store I j p t (snd a) f _ (castS_src I a p t j)))) $$ Hs
    isplitl [Hd]; · rw [vK_set]; iexact Hd
    isplitl [Ht]; · iexact Ht
    iexact HD
  iintro Hc HD
  iapply Hk $$ Hsrc Hc HD

/-- A sender's own block goes into its own slot. -/
theorem own_run (a p t : Fin 2) {h1 h2 h3 h4} (kont : PUnit → Prog (TpuEff nD τ sig (Elt F) Λ₀ .tc) α) :
    iprop(Srcs I (snd a) ∗ (∃ f, kvReg (snd a) a p t f))
      ⊢ iprop((Srcs I (snd a) -∗ kvReg (snd a) a p t (kvB I (snd a)) -∗ Wp (snd a) (kont ⟨⟩) Q)
        -∗ Wp (snd a) (.op (.load (mX t) (rX p (snd a)).toLoadRect h1) fun v => .op (.load mK (rK a p t).toLoadRect h2) fun _ =>
            .op (.store mK (rK a p t) (castK v) Finset.univ h3 h4) kont) Q) := by
  iintro ⟨Hsrc, ⟨%f, Hs⟩⟩
  iintro Hk
  iapply (load_src I (snd a) Q t p (snd a)) $$ [Hsrc]
  · iexact Hsrc
  iintro Hsrc
  iapply (wp_load_rect 𝒱₀ (snd a : Thread nD τ) none Set.univ (S := kvSet a p t) (m := mK) (r := rK a p t) (accK_set a p t).le) $$ [Hs]
  · iexact Hs
  iintro Hs
  iapply (wp_store 𝒱₀ (snd a : Thread nD τ) none Set.univ (S := kvSet a p t) (m := mK) (r := rK a p t) (Mk := Finset.univ) (accK_set a p t).le) $$ [Hs]
  · iexact Hs
  iintro Hs
  iapply Hk $$ Hsrc [Hs]
  iapply (Entails.of_eq (pointsTo_congr (kv_store I a p t (snd a) f _ (castK_src I a p t)))) $$ Hs

/-! ## The gathered keys and values -/

/-- What a device needs to have a slot of the gathered buffer: on the slot's sender the part itself, elsewhere the
    right to wait for it. -/
def SlotPre (a p t : Fin 2) : sProp 𝕄 :=
  if c = snd a then iprop(kvReg c a p t (kvB I c) ∗ At c (.kr a p t)) else iprop(Cr c (.kr a p t) ∗ At c (.kr a p t))
/-- The cell once the slot is there. -/
def SlotDn (a p t : Fin 2) : sProp 𝕄 := if c = snd a then At c (.kr a p t) else Dn c (.kr a p t)

theorem slot_wait (a p t : Fin 2) {cond : Prop} [Decidable cond] (hcond : cond ↔ c ≠ snd a) (l : List (Dev nD × Cl)) (hl : ∀ x ∈ l, 2 < lvl x.2)
    {sp : Space} {s : Shape} {e : EltTy} {src : Memref sig .tc sp s e} {h1 h2} (kont : PUnit → Prog (TpuEff nD τ sig (Elt F) Λ₀ .tc) α) :
    iprop(Facts I K c ∗ SlotPre I c a p t ∗ Dues c l)
      ⊢ iprop((kvReg c a p t (kvB I c) -∗ SlotDn c a p t -∗ Dues c l -∗ Wp c (kont ⟨⟩) Q)
        -∗ Wp c (if _h : cond then .op (.waitDma2 (qKr a p t) src (vK a p t) h1 h2) kont else kont ⟨⟩) Q) := by
  by_cases hc : c = snd a
  · rw [SlotPre, SlotDn, if_pos hc, if_pos hc, dif_neg (fun h => hcond.mp h hc)]
    iintro ⟨-, ⟨Hr, Ha⟩, HD⟩
    iintro Hk
    iapply Hk $$ Hr Ha HD
  · rw [SlotPre, SlotDn, if_neg hc, if_neg hc, dif_pos (hcond.mpr hc)]
    have hp : payers c (.kr a p t) = {snd a} := by unfold payers; exact if_neg hc
    iintro ⟨#HF, ⟨Hc, Ha⟩, HD⟩
    iintro Hk
    iapply (wait_dma I K c Q (.kr a p t) (semOf_kr a p t) (src := src) (dst := vK a p t) rfl (by rw [hp]; rfl) l hl) $$ [Hc Ha HD]
    · isplitr; · iexact HF
      isplitl [Hc]; · iexact Hc
      isplitl [Ha]; · iexact Ha
      iexact HD
    rw [hp, bigSep_singleton, show hands I c (snd a) (.kr a p t) = kvReg c a p t (kvB I c) from rfl]
    iintro HD Ha Hr
    iapply Hk $$ Hr Ha HD

/-- The box of both slots of half `p` reads as gathered. -/
theorem load_kv (p t : Fin 2) {h} (kont : Vec F S1x1x2x128x256 .bf16 → Prog (TpuEff nD τ sig (Elt F) Λ₀ .tc) α) :
    iprop(kvReg c 0 p t (kvB I c) ∗ kvReg c 1 p t (kvB I c))
      ⊢ iprop((kvReg c 0 p t (kvB I c) -∗ kvReg c 1 p t (kvB I c) -∗ Wp c (kont (kvBox I c p t)) Q)
        -∗ Wp c (.op (.load mK (rK2 p t).toLoadRect h) kont) Q) := by
  have hdis : Disjoint (kvSet 0 p t) (kvSet 1 p t) := Finset.disjoint_left.mpr fun i h0 h1 => by
    have a0 := (Finset.mem_filter.mp h0).2.2.2
    have a1 := (Finset.mem_filter.mp h1).2.2.2
    simp at a0 a1; omega
  have hu := pointsTo_union (ℓ := (c : Thread nD τ).loc cc0_scratch1) (q := fullShare) (f := kvB I c) hdis (Ix := ℕ) (Name := ℕ) (U := UU) (Lvl := ℕ)
  iintro ⟨H0, H1⟩
  iintro Hk
  iapply (wp_load_rect 𝒱₀ (c : Thread nD τ) none Set.univ (S := kvSet 0 p t ∪ kvSet 1 p t) (m := mK) (r := rK2 p t) (f := kvB I c) (accK2_set p t).le) $$ [H0 H1]
  · iapply hu.2
    isplitl [H0] <;> iassumption
  rw [show (mK.access (rK2 p t)).read (Elt F) (kvB I c) = kvBox I c p t from kv_read I p t c]
  iintro H
  ihave H := hu.1 $$ H
  icases H with ⟨H0, H1⟩
  iapply Hk $$ H0 H1

/-! ## The exchange -/

theorem load_bfs (p st : Fin 2) (f : Vec F S2x2x2x64x512 .bf16) {h} (kont : Vec F S1x1x2x64x512 .bf16 → Prog (TpuEff nD τ sig (Elt F) Λ₀ .tc) α) :
    bfsReg c p st f ⊢ iprop((bfsReg c p st f -∗ ∀ v, Wp c (kont v) Q) -∗ Wp c (.op (.load mT (rB p st).toLoadRect h) kont) Q) := by
  iintro H
  iintro Hk
  iapply (wp_load_rect 𝒱₀ (c : Thread nD τ) none Set.univ (S := bfSet p st) (m := mT) (r := rB p st) (accT_set p st).le) $$ [H]
  · iexact H
  iintro H
  iapply Hk $$ H

theorem store_bfs (p st : Fin 2) (f : Vec F S2x2x2x64x512 .bf16) {w : Vec F S1x1x2x64x512 .bf16} (hw : w = asBox (acc I c p st)) {h1 h2}
    (kont : PUnit → Prog (TpuEff nD τ sig (Elt F) Λ₀ .tc) α) :
    bfsReg c p st f ⊢ iprop((bfsReg c p st (bfsB I c) -∗ Wp c (kont ⟨⟩) Q) -∗ Wp c (.op (.store mT (rB p st) w Finset.univ h1 h2) kont) Q) := by
  iintro H
  iintro Hk
  iapply (wp_store 𝒱₀ (c : Thread nD τ) none Set.univ (S := bfSet p st) (m := mT) (r := rB p st) (Mk := Finset.univ) (accT_set p st).le) $$ [H]
  · iexact H
  iintro H
  iapply Hk
  iapply (Entails.of_eq (pointsTo_congr (bf_store I p st c f _ hw))) $$ H

theorem send_bf (p st : Fin 2) {j' : Dev nD} (hj' : j' = par st c) (l : List (Dev nD × Cl)) {h1 h2 h3} (kont : PUnit → Prog (TpuEff nD τ sig (Elt F) Λ₀ .tc) α) :
    iprop(Facts I K c ∗ bfsReg c p st (bfsB I c) ∗ bfFree (par st c) p st ∗ dutyTok ER (cell c (.bs p st)) 0 c ∗ Dues c ((par st c, .br p st) :: l))
      ⊢ iprop((Cr c (.bs p st) -∗ Dues c l -∗ Wp c (kont ⟨⟩) Q)
        -∗ Wp c (.op (.enqueueDma (vT p st) (.remote (Dev.tc j') (vR p st) (.dma (qBs p st))) (.dma (qBr p st)) h1 h2 h3) kont) Q) := by
  unfold bfFree
  iintro ⟨#HF, Hs, ⟨Hd, #Hr⟩, Ht, HD⟩
  iintro Hk
  iapply (send I K c Q (par st c) (.bs p st) (.br p st) hj' (semOf_bs p st) (semOf_br p st) (src := vT p st) (dst := vR p st) (bfsB I c) NB
    rfl rfl rfl rfl (by show {par st (par st c)} = _; rw [par_par]) (by rw [vT_set]; exact .rfl)
    (fun fd => by rw [vR_set, pointsTo_congr (bf_land I p st c fd)]; exact .rfl) l) $$ [Hs Hd Ht HD]
  · isplitr; · iexact HF
    isplitr; · iexact Hr
    isplitl [Hs]; · rw [vT_set]; iexact Hs
    isplitl [Hd]; · rw [vR_set]; iexact Hd
    isplitl [Ht]; · iexact Ht
    iexact HD
  iintro Hc HD
  iapply Hk $$ Hc HD

/-- The partner's block arrives, and is read. -/
theorem wait_br (p st : Fin 2) (l : List (Dev nD × Cl)) (hl : ∀ x ∈ l, 3 + st.val < lvl x.2)
    {sp : Space} {s : Shape} {e : EltTy} {src : Memref sig .tc sp s e} {h1 h2} (kont : PUnit → Prog (TpuEff nD τ sig (Elt F) Λ₀ .tc) α) :
    iprop(Facts I K c ∗ Cr c (.br p st) ∗ At c (.br p st) ∗ Dues c l)
      ⊢ iprop((Dues c l -∗ Dn c (.br p st) -∗ bfrReg c p st (bfrB I c) -∗ Wp c (kont ⟨⟩) Q)
        -∗ Wp c (.op (.waitDma2 (qBr p st) src (vR p st) h1 h2) kont) Q) := by
  have h := wait_dma I K c Q (.br p st) (semOf_br p st) (src := src) (dst := vR p st) rfl rfl l hl (h1 := h1) (h2 := h2) kont
  rw [show payers c (.br p st) = {par st c} from rfl, bigSep_singleton] at h
  exact h

theorem load_bfr (p st : Fin 2) {h} (kont : Vec F S1x1x2x64x512 .bf16 → Prog (TpuEff nD τ sig (Elt F) Λ₀ .tc) α) :
    bfrReg c p st (bfrB I c)
      ⊢ iprop((bfrReg c p st (bfrB I c) -∗ Wp c (kont (asBox (acc I (par st c) p st))) Q) -∗ Wp c (.op (.load mR (rB p st).toLoadRect h) kont) Q) := by
  iintro H
  iintro Hk
  iapply (wp_load_rect 𝒱₀ (c : Thread nD τ) none Set.univ (S := bfSet p st) (m := mR) (r := rB p st) (f := bfrB I c) (accR_set p st).le) $$ [H]
  · iexact H
  rw [show (mR.access (rB p st)).read (Elt F) (bfrB I c) = asBox (acc I (par st c) p st) from bf_read I p st c]
  iintro H
  iapply Hk $$ H

/-- The sent block comes back. -/
theorem wait_bs (p st : Fin 2) (l : List (Dev nD × Cl)) (hl : ∀ x ∈ l, 0 < lvl x.2)
    {sp : Space} {s : Shape} {e : EltTy} {src : Memref sig .tc sp s e} {h1 h2} (kont : PUnit → Prog (TpuEff nD τ sig (Elt F) Λ₀ .tc) α) :
    iprop(Facts I K c ∗ Cr c (.bs p st) ∗ At c (.bs p st) ∗ Dues c l)
      ⊢ iprop((Dues c l -∗ Dn c (.bs p st) -∗ bfsReg c p st (bfsB I c) -∗ Wp c (kont ⟨⟩) Q)
        -∗ Wp c (.op (.waitDma2 (qBs p st) src (vT p st) h1 h2) kont) Q) := by
  have h := wait_dma I K c Q (.bs p st) (semOf_bs p st) (src := src) (dst := vT p st) rfl rfl l hl (h1 := h1) (h2 := h2) kont
  rw [show payers c (.bs p st) = {c} from rfl, bigSep_singleton] at h
  exact h

theorem wait_ks (a p t : Fin 2) (j : Fin 4) (hj : j ≠ snd a) (l : List (Dev nD × Cl)) (hl : ∀ x ∈ l, 0 < lvl x.2)
    {sp : Space} {s : Shape} {e : EltTy} {src : Memref sig .tc sp s e} {h1 h2} (kont : PUnit → Prog (TpuEff nD τ sig (Elt F) Λ₀ .tc) α) :
    iprop(Facts I K (snd a) ∗ Cr (snd a) (.ks j p t) ∗ At (snd a) (.ks j p t) ∗ Dues (snd a) l)
      ⊢ iprop((Dues (snd a) l -∗ Dn (snd a) (.ks j p t) -∗ sndReg (snd a) j p t (sndB I (snd a)) -∗ Wp (snd a) (kont ⟨⟩) Q)
        -∗ Wp (snd a) (.op (.waitDma2 (qKs j p t) src (vS j p t) h1 h2) kont) Q) := by
  have h := wait_dma I K (snd a) Q (.ks j p t) (semOf_ks j p t) (src := src) (dst := vS j p t) rfl (by rw [payers_ks a p t j hj]; rfl) l hl (h1 := h1) (h2 := h2) kont
  rw [payers_ks a p t j hj, bigSep_singleton] at h
  exact h

end Cert.KernelIdeal.Mesh

end
-- ==== Proof.Mid.lean ====
/-
  The middle of a device's run, from the gathered keys and values to the result: the waits for the two slots of each
  half, the partial projections, the two stages of the exchange.
-/
module

public import proofs.«01_k».proof.Proof.Steps

@[expose] public section

set_option maxRecDepth 16384

noncomputable section

namespace Cert.KernelIdeal.Mesh

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (I : Inp F) (K : GSem nD τ sig → ℕ) (c : Dev nD)

abbrev m0 : Memref sig .tc .vmem S2x128x512 .bf16 := Memref.whole cc0_stg0_0
abbrev m1 : Memref sig .tc .vmem S512x256 .bf16 := Memref.whole cc0_stg1_0
abbrev m2 : Memref sig .tc .vmem S2x128x1024 .bf16 := Memref.whole cc0_stg2_0
abbrev m3 : Memref sig .tc .vmem S2x128x1024 .bf16 := Memref.whole cc0_stg3_0
abbrev m4 : Memref sig .tc .vmem S256x512 .bf16 := Memref.whole cc0_stg4_0
abbrev m5 : Memref sig .tc .vmem S2x128x512 .bf16 := Memref.whole cc0_stg5_0

/-- A printed part at the kernel's buffers and semaphores. -/
abbrev on {γ : Type 1} (f : (arg0 : Memref sig .tc .vmem S2x128x512 .bf16) → arg0.IsWhole → (arg1 : Memref sig .tc .vmem S512x256 .bf16) → arg1.IsWhole
    → (arg2 : Memref sig .tc .vmem S2x128x1024 .bf16) → arg2.IsWhole → (arg3 : Memref sig .tc .vmem S2x128x1024 .bf16) → arg3.IsWhole
    → (arg4 : Memref sig .tc .vmem S256x512 .bf16) → arg4.IsWhole → (arg5 : Memref sig .tc .vmem S2x128x512 .bf16) → arg5.IsWhole
    → (arg6 : Memref sig .tc .vmem S4x2x2x2x64x256 .bf16) → arg6.IsWhole → (arg7 : Memref sig .tc .vmem S2x2x2x128x256 .bf16) → arg7.IsWhole
    → (arg8 : Memref sig .tc .vmem S2x2x2x64x512 .bf16) → arg8.IsWhole → (arg9 : Memref sig .tc .vmem S2x2x2x64x512 .bf16) → arg9.IsWhole
    → DmaSems sig S4x2x2 → DmaSems sig S2x2x2 → DmaSems sig S2x2 → DmaSems sig S2x2 → Sems sig S_ → γ) : γ :=
  f m0 (Memref.isWhole_whole _) m1 (Memref.isWhole_whole _) m2 (Memref.isWhole_whole _) m3 (Memref.isWhole_whole _) m4 (Memref.isWhole_whole _)
    m5 (Memref.isWhole_whole _) mS (Memref.isWhole_whole _) mK (Memref.isWhole_whole _) mT (Memref.isWhole_whole _) mR (Memref.isWhole_whole _)
    cc0_scratch4 cc0_scratch5 cc0_scratch6 cc0_scratch7 cc0_scoped0

/-- The printed test of a device's number against a sender's. -/
theorem ne_snd (a : Fin 2) (w : BitVec 32) (hw : w = Dev.word (snd a)) (v : BitVec 32) (hv : v = Dev.word c) :
    (Scalar.cmpi .ne (Scalar.extui (Scalar.cmpi .ne v w)) 0#32 = 1#1) ↔ c ≠ snd a := by
  subst hw hv; revert a c; decide

theorem dev35 : (⟨k0_dev35 c, k0_dev35_lt c⟩ : Dev nD) = par 0 c := by revert c; decide
theorem dev36 : (⟨k0_dev36 c, k0_dev36_lt c⟩ : Dev nD) = par 0 c := by revert c; decide
theorem dev37 : (⟨k0_dev37 c, k0_dev37_lt c⟩ : Dev nD) = par 1 c := by revert c; decide
theorem dev38 : (⟨k0_dev38 c, k0_dev38_lt c⟩ : Dev nD) = par 1 c := by revert c; decide

/-! ## What is still owed at each stage -/

abbrev exs : List (Dev nD × Cl) := (peers c).map fun j => (j, .ex)
abbrev d3 : List (Dev nD × Cl) := (par 1 c, .br 1 1) :: exs c
abbrev d2 : List (Dev nD × Cl) := (par 1 c, .br 0 1) :: d3 c
abbrev d1 : List (Dev nD × Cl) := (par 0 c, .br 1 0) :: d2 c
abbrev d0 : List (Dev nD × Cl) := (par 0 c, .br 0 0) :: d1 c

theorem dueB_eq : dueB c = d0 c := rfl

theorem lv0 : ∀ x ∈ d0 c, 2 < lvl x.2 := by revert c; decide
theorem lv1 : ∀ x ∈ d1 c, 2 < lvl x.2 := by revert c; decide
theorem lv2 : ∀ x ∈ d2 c, 3 < lvl x.2 := by revert c; decide
theorem lv3 : ∀ x ∈ d3 c, 3 < lvl x.2 := by revert c; decide
theorem lv4 : ∀ x ∈ exs c, 4 < lvl x.2 := by revert c; decide
theorem lv4' : ∀ x ∈ exs c, 0 < lvl x.2 := fun x hx => lt_trans (by decide) (lv4 c x hx)

/-! ## Whole-buffer loads, and the two stores of the result -/

variable {α : Type} (Q : α → sProp (MT nD τ sig ℕ (Elt F) ℕ UU ℕ))

/-- The staged source of the queries and their projection; the staged output projection; the staged result. -/
def Xq : sProp (MT nD τ sig ℕ (Elt F) ℕ UU ℕ) :=
  iprop(((c : Thread nD τ).loc cc0_stg0_0 ↦{fullShare} I.x c) ∗ ((c : Thread nD τ).loc cc0_stg1_0 ↦{fullShare} I.wq c))
@[inherit_doc Xq] def Wo : sProp (MT nD τ sig ℕ (Elt F) ℕ UU ℕ) := iprop((c : Thread nD τ).loc cc0_stg4_0 ↦{fullShare} I.wo c)
@[inherit_doc Xq] def Out (f : Vec F S2x128x512 .bf16) : sProp (MT nD τ sig ℕ (Elt F) ℕ UU ℕ) := iprop((c : Thread nD τ).loc cc0_stg5_0 ↦{fullShare} f)

theorem load_x {h} (kont : Vec F S2x128x512 .bf16 → Prog (TpuEff nD τ sig (Elt F) Λ₀ .tc) α) :
    Xq I c ⊢ iprop((Xq I c -∗ Wp c (kont (I.x c)) Q) -∗ Wp c (.op (.load m0 (Rect.unit (s := S2x128x512) ![0, 0, 0] S2x128x512.size inb_S2x128x512_S2x128x512_0_0_0).toLoadRect h) kont) Q) := by
  unfold Xq
  iintro ⟨H0, H1⟩
  iintro Hk
  iapply (wp_load 𝒱₀ (c : Thread nD τ) none Set.univ (S := Finset.univ) (m := m0) (r := (Rect.unit (s := S2x128x512) ![0, 0, 0] S2x128x512.size inb_S2x128x512_S2x128x512_0_0_0).toLoadRect) (Finset.subset_univ _)) $$ [H0]
  · iexact H0
  rw [show View.readAt (Elt F) m0.view (Rect.unit ![0, 0, 0] S2x128x512.size inb_S2x128x512_S2x128x512_0_0_0).toLoadRect (I.x c) = I.x c from
    Memref.readAt_unit_zero (Elt F) cc0_stg0_0 (off := ![0, 0, 0]) (by decide) inb_S2x128x512_S2x128x512_0_0_0 (I.x c)]
  iintro H0
  iapply Hk
  isplitl [H0] <;> iassumption

theorem load_wq {h} (kont : Vec F S512x256 .bf16 → Prog (TpuEff nD τ sig (Elt F) Λ₀ .tc) α) :
    Xq I c ⊢ iprop((Xq I c -∗ Wp c (kont (I.wq c)) Q) -∗ Wp c (.op (.load m1 (Rect.unit (s := S512x256) ![0, 0] S512x256.size inb_S512x256_S512x256_0_0).toLoadRect h) kont) Q) := by
  unfold Xq
  iintro ⟨H0, H1⟩
  iintro Hk
  iapply (wp_load 𝒱₀ (c : Thread nD τ) none Set.univ (S := Finset.univ) (m := m1) (r := (Rect.unit (s := S512x256) ![0, 0] S512x256.size inb_S512x256_S512x256_0_0).toLoadRect) (Finset.subset_univ _)) $$ [H1]
  · iexact H1
  rw [show View.readAt (Elt F) m1.view (Rect.unit ![0, 0] S512x256.size inb_S512x256_S512x256_0_0).toLoadRect (I.wq c) = I.wq c from
    Memref.readAt_unit_zero (Elt F) cc0_stg1_0 (off := ![0, 0]) (by decide) inb_S512x256_S512x256_0_0 (I.wq c)]
  iintro H1
  iapply Hk
  isplitl [H0] <;> iassumption

theorem load_wo {h} (kont : Vec F S256x512 .bf16 → Prog (TpuEff nD τ sig (Elt F) Λ₀ .tc) α) :
    Wo I c ⊢ iprop((Wo I c -∗ Wp c (kont (I.wo c)) Q) -∗ Wp c (.op (.load m4 (Rect.unit (s := S256x512) ![0, 0] S256x512.size inb_S256x512_S256x512_0_0).toLoadRect h) kont) Q) := by
  unfold Wo
  iintro H
  iintro Hk
  iapply (wp_load 𝒱₀ (c : Thread nD τ) none Set.univ (S := Finset.univ) (m := m4) (r := (Rect.unit (s := S256x512) ![0, 0] S256x512.size inb_S256x512_S256x512_0_0).toLoadRect) (Finset.subset_univ _)) $$ [H]
  · iexact H
  rw [show View.readAt (Elt F) m4.view (Rect.unit ![0, 0] S256x512.size inb_S256x512_S256x512_0_0).toLoadRect (I.wo c) = I.wo c from
    Memref.readAt_unit_zero (Elt F) cc0_stg4_0 (off := ![0, 0]) (by decide) inb_S256x512_S256x512_0_0 (I.wo c)]
  iintro H
  iapply Hk $$ H

/-- The result after a half is stored. -/
def outW (p : Fin 2) (f : Vec F S2x128x512 .bf16) (w : Vec F S2x64x512 .bf16) : Vec F S2x128x512 .bf16 :=
  (m5.access (rO p)).write (Elt F) f w Finset.univ

theorem put_out (p : Fin 2) (f : Vec F S2x128x512 .bf16) {w : Vec F S2x64x512 .bf16} {h1 h2 h3} (kont : PUnit → Prog (TpuEff nD τ sig (Elt F) Λ₀ .tc) α) :
    Out c f ⊢ iprop((Out c (outW p f w) -∗ Wp c (kont ⟨⟩) Q)
      -∗ Wp c (.op (.load m5 (rO p).toLoadRect h1) fun _ => .op (.store m5 (rO p) w Finset.univ h2 h3) kont) Q) := by
  unfold Out
  iintro H
  iintro Hk
  iapply (wp_load 𝒱₀ (c : Thread nD τ) none Set.univ (S := Finset.univ) (m := m5) (r := (rO p).toLoadRect) (Finset.subset_univ _)) $$ [H]
  · iexact H
  iintro H
  iapply (wp_store 𝒱₀ (c : Thread nD τ) none Set.univ (S := Finset.univ) (m := m5) (r := rO p) (Mk := Finset.univ) (Finset.subset_univ _)) $$ [H]
  · iexact H
  rw [show View.write (Elt F) (m5.access (rO p)) f w Finset.univ = outW p f w from rfl]
  iintro H
  iapply Hk $$ H

theorem outW_at (p : Fin 2) (f : Vec F S2x128x512 .bf16) (w : Vec F S2x64x512 .bf16) (x : S2x64x512.Idx) : outW p f w ((rO p).emb x) = w x :=
  (View.write_emb_of_mem (v := m5.access (rO p)) (Val := Elt F) f w (M := Finset.univ) (x := x) (Finset.mem_univ _)).trans rfl
theorem outW_off (p : Fin 2) (f : Vec F S2x128x512 .bf16) (w : Vec F S2x64x512 .bf16) (i : S2x128x512.Idx) (h : i ∉ (rO p).set) : outW p f w i = f i :=
  View.write_of_not_mem (v := m5.access (rO p)) (Val := Elt F) f w Finset.univ (i := i)
    (by rw [View.setOn_univ, show (m5.access (rO p)).set = (rO p).set from View.set_slice_whole _ _]; exact h)

/-- Both halves stored, the result is whole. -/
theorem out_final (f : Vec F S2x128x512 .bf16) : outW 1 (outW 0 f (outA I c)) (outB I c) = outV I c := by
  funext i
  have hi0 : (i 0).val < 2 := (i 0).isLt
  have hi1 : (i 1).val < 128 := (i 1).isLt
  have hi2 : (i 2).val < 512 := (i 2).isLt
  unfold outV
  by_cases h : (i 1).val < 64
  · rw [dif_pos h, outW_off]
    · have e : i = (rO 0).emb (ix3 (i 0) (⟨(i 1).val, h⟩ : Fin 64) (i 2)) := by
        rw [rO_emb]; funext a; apply Fin.ext; fin_cases a <;> simp
      exact (congrArg _ e).trans (outW_at 0 f _ _)
    · rw [Rect.mem_set_unit]; intro hh; have := hh 1; simp at this; omega
  · rw [dif_neg h]
    have e : i = (rO 1).emb (ix3 (i 0) (⟨(i 1).val - 64, by omega⟩ : Fin 64) (i 2)) := by
      rw [rO_emb]; funext a; apply Fin.ext; fin_cases a <;> simp; omega
    exact (congrArg _ e).trans (outW_at 1 _ _ _)

/-- A block cast to its box. -/
theorem cast_box (a : Vec F S2x64x512 .bf16) (h) : shapeCast S1x1x2x64x512 a h = asBox a := funext fun x => cast_bf a h x

/-! ## The parts -/

theorem run32 (v2 : BitVec 32) (v27) (hv2 : v2 = Dev.word c) (Q) :
    iprop(Facts I K c ∗ SlotPre I c 0 0 0 ∗ SlotPre I c 1 0 0 ∗ Dues c (d0 c))
    ⊢ iprop((iprop(kvReg c 0 0 0 (kvB I c) ∗ SlotDn c 0 0 0 ∗ kvReg c 1 0 0 (kvB I c) ∗ SlotDn c 1 0 0 ∗ Dues c (d0 c)) -∗ Q
      ⟨k0_pay40 v27, k0_pay41 (kvBox I c 0 0), k0_pay42 v27 (kvBox I c 0 0), k0_pay43 v27 (kvBox I c 0 0), k0_pay44 v27, k0_pay45 (kvBox I c 0 0), constant S2x64x128 .f32 0x00000000#32⟩)
    -∗ Wp c (on (k0_part32 (F := F)) v2 v27 0#32) Q) := by
  rw [on, k0_part32_eq_skeleton]
  unfold k0_part32_skel
  dsimp only [Prog.lift, Pure.pure, Bind.bind, Prog.bind]
  iintro ⟨#HF, Hp0, Hp1, HD⟩
  iintro Hk
  iapply (slot_wait I K c Q 0 0 0 (ne_snd c 0 0#32 rfl v2 hv2) _ (lv0 c)) $$ [Hp0 HD]
  · isplitr; · iexact HF
    isplitl [Hp0] <;> iassumption
  iintro H0 Ha0 HD
  iapply (slot_wait I K c Q 1 0 0 (ne_snd c 1 2#32 rfl v2 hv2) _ (lv0 c)) $$ [Hp1 HD]
  · isplitr; · iexact HF
    isplitl [Hp1] <;> iassumption
  iintro H1 Ha1 HD
  iapply (load_kv I c Q 0 0) $$ [H0 H1]
  · isplitl [H0] <;> iassumption
  iintro H0 H1
  rw [Wp, wp_ret]
  imodintro
  iapply Hk
  isplitl [H0]; · iexact H0
  isplitl [Ha0]; · iexact Ha0
  isplitl [H1]; · iexact H1
  isplitl [Ha1] <;> iassumption

theorem run33 (v2 : BitVec 32) (v36 v38 v53 v68 v69 v70 cst) (hv2 : v2 = Dev.word c) (Q) :
    iprop(Facts I K c ∗ SlotPre I c 0 0 1 ∗ SlotPre I c 1 0 1 ∗ Dues c (d0 c))
    ⊢ iprop((iprop(kvReg c 0 0 1 (kvB I c) ∗ SlotDn c 0 0 1 ∗ kvReg c 1 0 1 (kvB I c) ∗ SlotDn c 1 0 1 ∗ Dues c (d0 c)) -∗ Q
      ⟨k0_pay46 v69 v70 cst, k0_pay47 v36 v38, k0_pay48 (kvBox I c 0 1), k0_pay49 v53 (kvBox I c 0 1), k0_pay50 v68 (kvBox I c 0 1)⟩)
    -∗ Wp c (on (k0_part33 (F := F)) v2 v36 v38 v53 v68 v69 v70 cst) Q) := by
  rw [on, k0_part33_eq_skeleton]
  unfold k0_part33_skel
  dsimp only [Prog.lift, Pure.pure, Bind.bind, Prog.bind]
  iintro ⟨#HF, Hp0, Hp1, HD⟩
  iintro Hk
  iapply (slot_wait I K c Q 0 0 1 (ne_snd c 0 0#32 rfl v2 hv2) _ (lv0 c)) $$ [Hp0 HD]
  · isplitr; · iexact HF
    isplitl [Hp0] <;> iassumption
  iintro H0 Ha0 HD
  iapply (slot_wait I K c Q 1 0 1 (ne_snd c 1 2#32 rfl v2 hv2) _ (lv0 c)) $$ [Hp1 HD]
  · isplitr; · iexact HF
    isplitl [Hp1] <;> iassumption
  iintro H1 Ha1 HD
  iapply (load_kv I c Q 0 1) $$ [H0 H1]
  · isplitl [H0] <;> iassumption
  iintro H0 H1
  rw [Wp, wp_ret]
  imodintro
  iapply Hk
  isplitl [H0]; · iexact H0
  isplitl [Ha0]; · iexact Ha0
  isplitl [H1]; · iexact H1
  isplitl [Ha1] <;> iassumption

theorem run34 (v2 v28 : BitVec 32) (v83 v98 v106 v108 v110) (hv2 : v2 = Dev.word c)
    (hacc : k0_pay51 v83 v98 v106 v108 v110 (I.wo c) = accA I c) (Q) :
    iprop(Facts I K c ∗ Wo I c ∗ (∃ f, bfsReg c 0 0 f) ∗ bfFree (par 0 c) 0 0 ∗ dutyTok ER (cell c (.bs 0 0)) 0 c ∗ SlotPre I c 0 1 0 ∗ Dues c (d0 c))
    ⊢ iprop((iprop(Wo I c ∗ Cr c (.bs 0 0) ∗ kvReg c 0 1 0 (kvB I c) ∗ SlotDn c 0 1 0 ∗ Dues c (d1 c)) -∗ Q
      ⟨accA I c, Scalar.extui (Scalar.cmpi .ne v2 2#32)⟩)
    -∗ Wp c (on (k0_part34 (F := F)) c v2 v28 v83 v98 v106 v108 v110) Q) := by
  rw [on, k0_part34_eq_skeleton]
  unfold k0_part34_skel
  dsimp only [Prog.lift, Pure.pure, Bind.bind, Prog.bind]
  iintro ⟨#HF, Hwo, ⟨%f, Hs⟩, Hfree, Ht, Hp, HD⟩
  iintro Hk
  iapply (load_wo I c Q) $$ Hwo
  iintro Hwo
  iapply (load_bfs c Q 0 0 f) $$ Hs
  iintro Hs %_
  iapply (store_bfs I c Q 0 0 f ((cast_box _ _).trans (congrArg asBox hacc))) $$ Hs
  iintro Hs
  iapply (send_bf I K c Q 0 0 (dev35 c) (d1 c)) $$ [Hs Hfree Ht HD]
  · isplitr; · iexact HF
    isplitl [Hs]; · iexact Hs
    isplitl [Hfree]; · iexact Hfree
    isplitl [Ht] <;> iassumption
  iintro Hc HD
  iapply (slot_wait I K c Q 0 1 0 (ne_snd c 0 0#32 rfl v2 hv2) _ (lv1 c)) $$ [Hp HD]
  · isplitr; · iexact HF
    isplitl [Hp] <;> iassumption
  iintro H0 Ha0 HD
  rw [Wp, wp_ret, hacc]
  imodintro
  iapply Hk
  isplitl [Hwo]; · iexact Hwo
  isplitl [Hc]; · iexact Hc
  isplitl [H0]; · iexact H0
  isplitl [Ha0] <;> iassumption

theorem run35 (v2 : BitVec 32) (v27) (hv2 : v2 = Dev.word c) (Q) :
    iprop(Facts I K c ∗ kvReg c 0 1 0 (kvB I c) ∗ SlotPre I c 1 1 0 ∗ Dues c (d1 c))
    ⊢ iprop((iprop(kvReg c 0 1 0 (kvB I c) ∗ kvReg c 1 1 0 (kvB I c) ∗ SlotDn c 1 1 0 ∗ Dues c (d1 c)) -∗ Q
      ⟨k0_pay53 v27, k0_pay54 (kvBox I c 1 0), k0_pay55 v27 (kvBox I c 1 0), k0_pay56 v27 (kvBox I c 1 0), k0_pay57 v27 (kvBox I c 1 0), k0_pay58 v27 (kvBox I c 1 0)⟩)
    -∗ Wp c (on (k0_part35 (F := F)) v27 (Scalar.extui (Scalar.cmpi .ne v2 2#32))) Q) := by
  rw [on, k0_part35_eq_skeleton]
  unfold k0_part35_skel
  dsimp only [Prog.lift, Pure.pure, Bind.bind, Prog.bind]
  iintro ⟨#HF, H0, Hp, HD⟩
  iintro Hk
  iapply (slot_wait I K c Q 1 1 0 (ne_snd c 1 2#32 rfl v2 hv2) _ (lv1 c)) $$ [Hp HD]
  · isplitr; · iexact HF
    isplitl [Hp] <;> iassumption
  iintro H1 Ha HD
  iapply (load_kv I c Q 1 0) $$ [H0 H1]
  · isplitl [H0] <;> iassumption
  iintro H0 H1
  rw [Wp, wp_ret]
  imodintro
  iapply Hk
  isplitl [H0]; · iexact H0
  isplitl [H1]; · iexact H1
  isplitl [Ha] <;> iassumption

theorem run36 (v2 : BitVec 32) (v140 v142 v157 v172 v177 v180) (hv2 : v2 = Dev.word c)
    (hacc : k0_pay59 v140 v142 v157 v172 v177 v180 (kvBox I c 1 1) = ctxB I c) (Q) :
    iprop(Facts I K c ∗ SlotPre I c 0 1 1 ∗ SlotPre I c 1 1 1 ∗ Dues c (d1 c))
    ⊢ iprop((iprop(kvReg c 0 1 1 (kvB I c) ∗ SlotDn c 0 1 1 ∗ kvReg c 1 1 1 (kvB I c) ∗ SlotDn c 1 1 1 ∗ Dues c (d1 c)) -∗ Q (ctxB I c))
    -∗ Wp c (on (k0_part36 (F := F)) v2 v140 v142 v157 v172 v177 v180) Q) := by
  rw [on, k0_part36_eq_skeleton]
  unfold k0_part36_skel
  dsimp only [Prog.lift, Pure.pure, Bind.bind, Prog.bind]
  iintro ⟨#HF, Hp0, Hp1, HD⟩
  iintro Hk
  iapply (slot_wait I K c Q 0 1 1 (ne_snd c 0 0#32 rfl v2 hv2) _ (lv1 c)) $$ [Hp0 HD]
  · isplitr; · iexact HF
    isplitl [Hp0] <;> iassumption
  iintro H0 Ha0 HD
  iapply (slot_wait I K c Q 1 1 1 (ne_snd c 1 2#32 rfl v2 hv2) _ (lv1 c)) $$ [Hp1 HD]
  · isplitr; · iexact HF
    isplitl [Hp1] <;> iassumption
  iintro H1 Ha1 HD
  iapply (load_kv I c Q 1 1) $$ [H0 H1]
  · isplitl [H0] <;> iassumption
  iintro H0 H1
  rw [Wp, wp_ret, hacc]
  imodintro
  iapply Hk
  isplitl [H0]; · iexact H0
  isplitl [Ha0]; · iexact Ha0
  isplitl [H1]; · iexact H1
  isplitl [Ha1] <;> iassumption

theorem run37 (v28 : BitVec 32) (Q) :
    iprop(Facts I K c ∗ Wo I c ∗ (∃ f, bfsReg c 1 0 f) ∗ bfFree (par 0 c) 1 0 ∗ dutyTok ER (cell c (.bs 1 0)) 0 c ∗ Dues c (d1 c))
    ⊢ iprop((iprop(Wo I c ∗ Cr c (.bs 1 0) ∗ Dues c (d2 c)) -∗ Q (accB I c))
    -∗ Wp c (on (k0_part37 (F := F)) c v28 (ctxB I c)) Q) := by
  rw [on, k0_part37_eq_skeleton]
  unfold k0_part37_skel
  dsimp only [Prog.lift, Pure.pure, Bind.bind, Prog.bind]
  iintro ⟨#HF, Hwo, ⟨%f, Hs⟩, Hfree, Ht, HD⟩
  iintro Hk
  iapply (load_wo I c Q) $$ Hwo
  iintro Hwo
  iapply (load_bfs c Q 1 0 f) $$ Hs
  iintro Hs %_
  iapply (store_bfs I c Q 1 0 f (cast_box _ _)) $$ Hs
  iintro Hs
  iapply (send_bf I K c Q 1 0 (dev36 c) (d2 c)) $$ [Hs Hfree Ht HD]
  · isplitr; · iexact HF
    isplitl [Hs]; · iexact Hs
    isplitl [Hfree]; · iexact Hfree
    isplitl [Ht] <;> iassumption
  iintro Hc HD
  rw [Wp, wp_ret, show k0_pay60 (ctxB I c) (I.wo c) = accB I c from rfl]
  imodintro
  iapply Hk
  isplitl [Hwo]; · iexact Hwo
  isplitl [Hc] <;> iassumption

theorem run38 (v29 : BitVec 32) (Q) :
    iprop(Facts I K c ∗ Cr c (.br 0 0) ∗ At c (.br 0 0) ∗ (∃ f, bfsReg c 0 1 f) ∗ bfFree (par 1 c) 0 1 ∗ dutyTok ER (cell c (.bs 0 1)) 0 c ∗ Dues c (d2 c))
    ⊢ iprop((iprop(bfrReg c 0 0 (bfrB I c) ∗ Dn c (.br 0 0) ∗ Cr c (.bs 0 1) ∗ Dues c (d3 c)) -∗ Q (accA' I c))
    -∗ Wp c (on (k0_part38 (F := F)) c v29 (accA I c)) Q) := by
  rw [on, k0_part38_eq_skeleton]
  unfold k0_part38_skel
  dsimp only [Prog.lift, Pure.pure, Bind.bind, Prog.bind]
  iintro ⟨#HF, HcV, HaV, ⟨%f, Hs⟩, Hfree, Ht, HD⟩
  iintro Hk
  iapply (wait_br I K c Q 0 0 _ (lv2 c)) $$ [HcV HaV HD]
  · isplitr; · iexact HF
    isplitl [HcV]; · iexact HcV
    isplitl [HaV] <;> iassumption
  iintro HD HaV Hr
  iapply (load_bfr I c Q 0 0) $$ Hr
  iintro Hr
  iapply (load_bfs c Q 0 1 f) $$ Hs
  iintro Hs %_
  iapply (store_bfs I c Q 0 1 f (cast_box _ _)) $$ Hs
  iintro Hs
  iapply (send_bf I K c Q 0 1 (dev37 c) (d3 c)) $$ [Hs Hfree Ht HD]
  · isplitr; · iexact HF
    isplitl [Hs]; · iexact Hs
    isplitl [Hfree]; · iexact Hfree
    isplitl [Ht] <;> iassumption
  iintro Hc HD
  rw [Wp, wp_ret, show k0_pay62 (accA I c) (asBox (acc I (par 0 c) 0 0)) = accA' I c from rfl]
  imodintro
  iapply Hk
  isplitl [Hr]; · iexact Hr
  isplitl [HaV]; · iexact HaV
  isplitl [Hc] <;> iassumption

theorem run39 (v28 v29 : BitVec 32) (Q) :
    iprop(Facts I K c ∗ Cr c (.br 1 0) ∗ At c (.br 1 0) ∗ (∃ f, bfsReg c 1 1 f) ∗ Dues c (d3 c))
    ⊢ iprop((iprop(bfrReg c 1 0 (bfrB I c) ∗ Dn c (.br 1 0) ∗ bfsReg c 1 1 (bfsB I c) ∗ Dues c (d3 c)) -∗ Q (accB' I c))
    -∗ Wp c (on (k0_part39 (F := F)) v28 v29 (accB I c)) Q) := by
  rw [on, k0_part39_eq_skeleton]
  unfold k0_part39_skel
  dsimp only [Prog.lift, Pure.pure, Bind.bind, Prog.bind]
  iintro ⟨#HF, HcV, HaV, ⟨%f, Hs⟩, HD⟩
  iintro Hk
  iapply (wait_br I K c Q 1 0 _ (lv3 c)) $$ [HcV HaV HD]
  · isplitr; · iexact HF
    isplitl [HcV]; · iexact HcV
    isplitl [HaV] <;> iassumption
  iintro HD HaV Hr
  iapply (load_bfr I c Q 1 0) $$ Hr
  iintro Hr
  iapply (load_bfs c Q 1 1 f) $$ Hs
  iintro Hs %_
  iapply (store_bfs I c Q 1 1 f (cast_box _ _)) $$ Hs
  iintro Hs
  rw [Wp, wp_ret, show k0_pay64 (accB I c) (asBox (acc I (par 0 c) 1 0)) = accB' I c from rfl]
  imodintro
  iapply Hk
  isplitl [Hr]; · iexact Hr
  isplitl [HaV]; · iexact HaV
  isplitl [Hs] <;> iassumption

theorem run40 (v29 : BitVec 32) (f : Vec F S2x128x512 .bf16) (Q) :
    iprop(Facts I K c ∗ bfsReg c 1 1 (bfsB I c) ∗ bfFree (par 1 c) 1 1 ∗ dutyTok ER (cell c (.bs 1 1)) 0 c ∗ Cr c (.br 0 1) ∗ At c (.br 0 1) ∗ Out c f ∗ Dues c (d3 c))
    ⊢ iprop((iprop(Cr c (.bs 1 1) ∗ bfrReg c 0 1 (bfrB I c) ∗ Dn c (.br 0 1) ∗ Out c (outW 0 f (outA I c)) ∗ Dues c (exs c)) -∗ Q ⟨⟩)
    -∗ Wp c (on (k0_part40 (F := F)) c v29 (accA' I c)) Q) := by
  rw [on, k0_part40_eq_skeleton]
  unfold k0_part40_skel
  dsimp only [Prog.lift, Pure.pure, Bind.bind, Prog.bind]
  iintro ⟨#HF, Hs, Hfree, Ht, HcV, HaV, Ho, HD⟩
  iintro Hk
  iapply (send_bf I K c Q 1 1 (dev38 c) (exs c)) $$ [Hs Hfree Ht HD]
  · isplitr; · iexact HF
    isplitl [Hs]; · iexact Hs
    isplitl [Hfree]; · iexact Hfree
    isplitl [Ht] <;> iassumption
  iintro Hc HD
  iapply (wait_br I K c Q 0 1 _ (lv4 c)) $$ [HcV HaV HD]
  · isplitr; · iexact HF
    isplitl [HcV]; · iexact HcV
    isplitl [HaV] <;> iassumption
  iintro HD HaV Hr
  iapply (load_bfr I c Q 0 1) $$ Hr
  iintro Hr
  iapply (put_out c Q 0 f) $$ Ho
  iintro Ho
  rw [Wp, wp_ret, show k0_pay66 (accA' I c) (asBox (acc I (par 1 c) 0 1)) = outA I c from rfl]
  imodintro
  iapply Hk
  isplitl [Hc]; · iexact Hc
  isplitl [Hr]; · iexact Hr
  isplitl [HaV]; · iexact HaV
  isplitl [Ho] <;> iassumption

theorem run41 (f : Vec F S2x128x512 .bf16) (Q) :
    iprop(Facts I K c ∗ Cr c (.br 1 1) ∗ At c (.br 1 1) ∗ Out c (outW 0 f (outA I c)) ∗ Cr c (.bs 0 0) ∗ At c (.bs 0 0) ∗ Dues c (exs c))
    ⊢ iprop((iprop(bfrReg c 1 1 (bfrB I c) ∗ Dn c (.br 1 1) ∗ Out c (outV I c) ∗ bfsReg c 0 0 (bfsB I c) ∗ Dn c (.bs 0 0) ∗ Dues c (exs c)) -∗ Q ⟨⟩)
    -∗ Wp c (on (k0_part41 (F := F)) (accB' I c)) Q) := by
  rw [on, k0_part41_eq_skeleton]
  unfold k0_part41_skel
  dsimp only [Prog.lift, Pure.pure, Bind.bind, Prog.bind]
  iintro ⟨#HF, HcV, HaV, Ho, HcS, HaS, HD⟩
  iintro Hk
  iapply (wait_br I K c Q 1 1 _ (lv4 c)) $$ [HcV HaV HD]
  · isplitr; · iexact HF
    isplitl [HcV]; · iexact HcV
    isplitl [HaV] <;> iassumption
  iintro HD HaV Hr
  iapply (load_bfr I c Q 1 1) $$ Hr
  iintro Hr
  iapply (put_out c Q 1 _) $$ Ho
  rw [show k0_pay67 (accB' I c) (asBox (acc I (par 1 c) 1 1)) = outB I c from rfl, out_final]
  iintro Ho
  iapply (wait_bs I K c Q 0 0 _ (lv4' c)) $$ [HcS HaS HD]
  · isplitr; · iexact HF
    isplitl [HcS]; · iexact HcS
    isplitl [HaS] <;> iassumption
  iintro HD HaS Hs
  rw [Wp, wp_ret]
  imodintro
  iapply Hk
  isplitl [Hr]; · iexact Hr
  isplitl [HaV]; · iexact HaV
  isplitl [Ho]; · iexact Ho
  isplitl [Hs]; · iexact Hs
  isplitl [HaS] <;> iassumption

end Cert.KernelIdeal.Mesh

end
-- ==== Proof.PartA.lean ====
/-
  The start of a device's run: the entry barrier, then on a sender the key/value transfers and its own blocks, then the queries.
-/
module

public import proofs.«01_k».proof.Proof.Mid

@[expose] public section

set_option maxRecDepth 16384

noncomputable section

namespace Cert.KernelIdeal.Mesh

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (I : Inp F) (K : GSem nD τ sig → ℕ) (c : Dev nD)

/-- Every device's entry barrier is open. -/
def Bars : sProp (MT nD τ sig ℕ (Elt F) ℕ UU ℕ) := iprop(□ ∀ j, reached ER (cell j .bar) 0)
instance : BI.Persistent (Bars (F := F)) := by unfold Bars; infer_instance

/-- A slot of the key/value buffer with any contents, and as gathered. -/
def kvFull (a : Fin 2) : sProp (MT nD τ sig ℕ (Elt F) ℕ UU ℕ) :=
  iprop((∃ f, kvReg c a 0 0 f) ∗ (∃ f, kvReg c a 0 1 f) ∗ (∃ f, kvReg c a 1 0 f) ∗ (∃ f, kvReg c a 1 1 f))
@[inherit_doc kvFull] def kvGot (a : Fin 2) : sProp (MT nD τ sig ℕ (Elt F) ℕ UU ℕ) :=
  iprop(kvReg c a 0 0 (kvB I c) ∗ kvReg c a 0 1 (kvB I c) ∗ kvReg c a 1 0 (kvB I c) ∗ kvReg c a 1 1 (kvB I c))

/-- The partners' parts of the exchange's receive buffer. -/
def BF : sProp (MT nD τ sig ℕ (Elt F) ℕ UU ℕ) :=
  iprop(bfFree (par 0 c) 0 0 ∗ bfFree (par 0 c) 1 0 ∗ bfFree (par 1 c) 0 1 ∗ bfFree (par 1 c) 1 1)

/-- The exit barriers of a device's peers are open. -/
def Exs : sProp (MT nD τ sig ℕ (Elt F) ℕ UU ℕ) := bigSepL (peers c) fun j => reached ER (cell j .ex) 0

theorem peers_nodup : (peers c).Nodup := by revert c; decide

/-- What the entry barrier brings. -/
theorem barGot : bigSepL (peers c) (fun d => barPay (F := F) c d)
    ⊢ iprop(bigSepL (sends c) (fun x => kvFree x.1 (slotOf c) x.2.1 x.2.2) ∗ BF c ∗ Exs c) := by
  unfold BF Exs
  have hc : c = 0 ∨ c = 1 ∨ c = 2 ∨ c = 3 := by revert c; decide
  rcases hc with rfl | rfl | rfl | rfl
  · rw [show peers 0 = [1, 2, 3] from rfl, show sends 0 = [(2, 0, 0), (1, 0, 0), (3, 0, 0), (2, 0, 1), (1, 0, 1), (3, 0, 1), (2, 1, 0), (1, 1, 0), (3, 1, 0), (2, 1, 1), (1, 1, 1), (3, 1, 1)] from rfl,
      show slotOf 0 = 0 from rfl, show par 0 0 = 1 from rfl, show par 1 0 = 3 from rfl]
    simp only [bigSepL_cons', bigSepL_nil]
    rw [show barPay (F := F) 0 1 = iprop(slotFree 1 0 ∗ (bfFree 1 0 0 ∗ bfFree 1 1 0) ∗ emp ∗ reached ER (cell 1 .ex) 0) from rfl,
      show barPay (F := F) 0 2 = iprop(slotFree 2 0 ∗ emp ∗ emp ∗ reached ER (cell 2 .ex) 0) from rfl,
      show barPay (F := F) 0 3 = iprop(slotFree 3 0 ∗ emp ∗ (bfFree 3 0 1 ∗ bfFree 3 1 1) ∗ reached ER (cell 3 .ex) 0) from rfl]
    unfold slotFree
    iintro ⟨⟨⟨A1, A2, A3, A4⟩, ⟨B1, B2⟩, -, E1⟩, ⟨⟨C1, C2, C3, C4⟩, -, -, E2⟩, ⟨⟨D1, D2, D3, D4⟩, -, ⟨B3, B4⟩, E3⟩, -⟩
    iframe
    isplitr <;> iempintro
  · rw [show peers 1 = [0, 2] from rfl, show sends 1 = [] from rfl, show par 0 1 = 0 from rfl, show par 1 1 = 2 from rfl]
    simp only [bigSepL_cons', bigSepL_nil]
    rw [show barPay (F := F) 1 0 = iprop(emp ∗ (bfFree 0 0 0 ∗ bfFree 0 1 0) ∗ emp ∗ reached ER (cell 0 .ex) 0) from rfl,
      show barPay (F := F) 1 2 = iprop(emp ∗ emp ∗ (bfFree 2 0 1 ∗ bfFree 2 1 1) ∗ reached ER (cell 2 .ex) 0) from rfl]
    iintro ⟨⟨-, ⟨B1, B2⟩, -, E1⟩, ⟨-, -, ⟨B3, B4⟩, E2⟩, -⟩
    iframe
    isplitr <;> iempintro
  · rw [show peers 2 = [0, 1, 3] from rfl, show sends 2 = [(0, 0, 0), (1, 0, 0), (3, 0, 0), (0, 0, 1), (1, 0, 1), (3, 0, 1), (0, 1, 0), (1, 1, 0), (3, 1, 0), (0, 1, 1), (1, 1, 1), (3, 1, 1)] from rfl,
      show slotOf 2 = 1 from rfl, show par 0 2 = 3 from rfl, show par 1 2 = 1 from rfl]
    simp only [bigSepL_cons', bigSepL_nil]
    rw [show barPay (F := F) 2 1 = iprop(slotFree 1 1 ∗ emp ∗ (bfFree 1 0 1 ∗ bfFree 1 1 1) ∗ reached ER (cell 1 .ex) 0) from rfl,
      show barPay (F := F) 2 0 = iprop(slotFree 0 1 ∗ emp ∗ emp ∗ reached ER (cell 0 .ex) 0) from rfl,
      show barPay (F := F) 2 3 = iprop(slotFree 3 1 ∗ (bfFree 3 0 0 ∗ bfFree 3 1 0) ∗ emp ∗ reached ER (cell 3 .ex) 0) from rfl]
    unfold slotFree
    iintro ⟨⟨⟨A1, A2, A3, A4⟩, -, -, E1⟩, ⟨⟨C1, C2, C3, C4⟩, -, ⟨B1, B2⟩, E2⟩, ⟨⟨D1, D2, D3, D4⟩, ⟨B3, B4⟩, -, E3⟩, -⟩
    iframe
    isplitr <;> iempintro
  · rw [show peers 3 = [0, 2] from rfl, show sends 3 = [] from rfl, show par 0 3 = 2 from rfl, show par 1 3 = 0 from rfl]
    simp only [bigSepL_cons', bigSepL_nil]
    rw [show barPay (F := F) 3 2 = iprop(emp ∗ (bfFree 2 0 0 ∗ bfFree 2 1 0) ∗ emp ∗ reached ER (cell 2 .ex) 0) from rfl,
      show barPay (F := F) 3 0 = iprop(emp ∗ emp ∗ (bfFree 0 0 1 ∗ bfFree 0 1 1) ∗ reached ER (cell 0 .ex) 0) from rfl]
    iintro ⟨⟨-, -, ⟨B1, B2⟩, E1⟩, ⟨-, ⟨B3, B4⟩, -, E2⟩, -⟩
    iframe
    isplitr <;> iempintro

/-- The receive buffer of the exchange with any contents. -/
def bfrFull : sProp (MT nD τ sig ℕ (Elt F) ℕ UU ℕ) :=
  iprop((∃ f, bfrReg c 0 0 f) ∗ (∃ f, bfrReg c 0 1 f) ∗ (∃ f, bfrReg c 1 0 f) ∗ (∃ f, bfrReg c 1 1 f))

/-- What a device gives its peers at the entry barrier. -/
theorem barGive : iprop(Facts I K c ∗ (if c = snd 0 then emp else kvFull c 0) ∗ (if c = snd 1 then emp else kvFull c 1) ∗ bfrFull c)
    ⊢ bigSepL (peers c) (fun d => barPay (F := F) d c) := by
  have hc : c = 0 ∨ c = 1 ∨ c = 2 ∨ c = 3 := by revert c; decide
  unfold Facts bfrFull
  rcases hc with rfl | rfl | rfl | rfl
  · rw [if_pos (show (0 : Dev nD) = snd 0 from rfl), if_neg (show ¬ (0 : Dev nD) = snd 1 by decide), show peers 0 = [1, 2, 3] from rfl]
    simp only [bigSepL_cons', bigSepL_nil]
    rw [show barPay (F := F) 1 0 = iprop(emp ∗ (bfFree 0 0 0 ∗ bfFree 0 1 0) ∗ emp ∗ reached ER (cell 0 .ex) 0) from rfl,
      show barPay (F := F) 2 0 = iprop(slotFree 0 1 ∗ emp ∗ emp ∗ reached ER (cell 0 .ex) 0) from rfl,
      show barPay (F := F) 3 0 = iprop(emp ∗ emp ∗ (bfFree 0 0 1 ∗ bfFree 0 1 1) ∗ reached ER (cell 0 .ex) 0) from rfl]
    unfold slotFree kvFull kvFree bfFree
    iintro ⟨⟨-, -, #HR⟩, -, ⟨A1, A2, A3, A4⟩, B1, B2, B3, B4⟩
    iframe
    (repeat' isplit) <;> first | iempintro | iapply HR
  · rw [if_neg (by decide), if_neg (by decide), show peers 1 = [0, 2] from rfl]
    simp only [bigSepL_cons', bigSepL_nil]
    rw [show barPay (F := F) 0 1 = iprop(slotFree 1 0 ∗ (bfFree 1 0 0 ∗ bfFree 1 1 0) ∗ emp ∗ reached ER (cell 1 .ex) 0) from rfl,
      show barPay (F := F) 2 1 = iprop(slotFree 1 1 ∗ emp ∗ (bfFree 1 0 1 ∗ bfFree 1 1 1) ∗ reached ER (cell 1 .ex) 0) from rfl]
    unfold slotFree kvFull kvFree bfFree
    iintro ⟨⟨-, -, #HR⟩, ⟨C1, C2, C3, C4⟩, ⟨A1, A2, A3, A4⟩, B1, B2, B3, B4⟩
    iframe
    (repeat' isplit) <;> first | iempintro | iapply HR
  · rw [if_neg (show ¬ (2 : Dev nD) = snd 0 by decide), if_pos (show (2 : Dev nD) = snd 1 from rfl), show peers 2 = [0, 1, 3] from rfl]
    simp only [bigSepL_cons', bigSepL_nil]
    rw [show barPay (F := F) 1 2 = iprop(emp ∗ emp ∗ (bfFree 2 0 1 ∗ bfFree 2 1 1) ∗ reached ER (cell 2 .ex) 0) from rfl,
      show barPay (F := F) 0 2 = iprop(slotFree 2 0 ∗ emp ∗ emp ∗ reached ER (cell 2 .ex) 0) from rfl,
      show barPay (F := F) 3 2 = iprop(emp ∗ (bfFree 2 0 0 ∗ bfFree 2 1 0) ∗ emp ∗ reached ER (cell 2 .ex) 0) from rfl]
    unfold slotFree kvFull kvFree bfFree
    iintro ⟨⟨-, -, #HR⟩, ⟨A1, A2, A3, A4⟩, -, B1, B2, B3, B4⟩
    iframe
    (repeat' isplit) <;> first | iempintro | iapply HR
  · rw [if_neg (by decide), if_neg (by decide), show peers 3 = [0, 2] from rfl]
    simp only [bigSepL_cons', bigSepL_nil]
    rw [show barPay (F := F) 0 3 = iprop(slotFree 3 0 ∗ emp ∗ (bfFree 3 0 1 ∗ bfFree 3 1 1) ∗ reached ER (cell 3 .ex) 0) from rfl,
      show barPay (F := F) 2 3 = iprop(slotFree 3 1 ∗ (bfFree 3 0 0 ∗ bfFree 3 1 0) ∗ emp ∗ reached ER (cell 3 .ex) 0) from rfl]
    unfold slotFree kvFull kvFree bfFree
    iintro ⟨⟨-, -, #HR⟩, ⟨C1, C2, C3, C4⟩, ⟨A1, A2, A3, A4⟩, B1, B2, B3, B4⟩
    iframe
    (repeat' isplit) <;> first | iempintro | iapply HR

/-- What a sender's own blocks need and leave; what its transfers need and leave. -/
def ownPre : sProp (MT nD τ sig ℕ (Elt F) ℕ UU ℕ) := iprop((if c = snd 0 then kvFull c 0 else emp) ∗ (if c = snd 1 then kvFull c 1 else emp))
@[inherit_doc ownPre] def ownPost : sProp (MT nD τ sig ℕ (Elt F) ℕ UU ℕ) := iprop((if c = snd 0 then kvGot I c 0 else emp) ∗ (if c = snd 1 then kvGot I c 1 else emp))
@[inherit_doc ownPre] def sndPre : sProp (MT nD τ sig ℕ (Elt F) ℕ UU ℕ) :=
  bigSepL (sends c) fun x => iprop((∃ f, sndReg c x.1 x.2.1 x.2.2 f) ∗ dutyTok ER (cell c (.ks x.1 x.2.1 x.2.2)) 0 c)
@[inherit_doc ownPre] def sndPost : sProp (MT nD τ sig ℕ (Elt F) ℕ UU ℕ) := bigSepL (sends c) fun x => Cr c (.ks x.1 x.2.1 x.2.2)

variable {α : Type} (Q : α → sProp (MT nD τ sig ℕ (Elt F) ℕ UU ℕ))

theorem devId (kont : Dev nD → Prog (TpuEff nD τ sig (Elt F) Λ₀ .tc) α) : Wp c (.op .deviceId kont) Q = Wp c (kont c) Q := by
  simp only [Wp, wp_deviceId]

theorem bars_at (j : Dev nD) : Bars (F := F) ⊢ reached ER (cell j .bar) 0 := by
  unfold Bars; iintro #H; iapply H

/-- A signal of the entry barrier. -/
theorem bar_signal (j : Dev nD) {j' : Dev nD} (hj : j' = j) {z : Int} (hz : z = 1) (hp : c ∈ payers j .bar) (l : List (Dev nD × Cl))
    (kont : PUnit → Prog (TpuEff nD τ sig (Elt F) Λ₀ .tc) α) :
    iprop(Facts I K c ∗ Bars ∗ barPay j c ∗ Dues c ((j, .bar) :: l))
      ⊢ iprop((Dues c l -∗ Wp c (kont ⟨⟩) Q) -∗ Wp c (.op (.semSignal ((j', Proc.tc) : Thread nD τ) qBar z) kont) Q) := by
  have h := signal I K c Q j .bar hj semOf_bar hz rfl hp l kont
  rw [show hands I j c .bar = barPay j c from rfl] at h
  iintro ⟨#HF, #HB, HP, HD⟩
  iapply h
  isplitr; · iexact HF
  isplitr; · iapply (bars_at j) $$ HB
  isplitl [HP] <;> iassumption

theorem lvA : ∀ x ∈ dueA c, lvl .bar < lvl x.2 := by revert c; decide

/-- The wait at the entry barrier. -/
theorem bar_wait {z : Int} (hz : z = ((peers c).length : ℕ)) (kont : PUnit → Prog (TpuEff nD τ sig (Elt F) Λ₀ .tc) α) :
    iprop(Facts I K c ∗ Cr c .bar ∗ At c .bar ∗ Dues c (dueA c))
      ⊢ iprop((Dues c (dueA c) -∗ Dn c .bar -∗ bigSepL (sends c) (fun x => kvFree x.1 (slotOf c) x.2.1 x.2.2) -∗ BF c -∗ Exs c -∗ Wp c (kont ⟨⟩) Q)
        -∗ Wp c (.op (.semWait qBar z) kont) Q) := by
  have hcard : (payers c .bar).card = (peers c).length := List.toFinset_card_of_nodup (peers_nodup c)
  have hl := lvA c
  have h := wait_reg I K c Q .bar semOf_bar (z := z) (by rw [hcard]; exact hz) rfl (dueA c) hl kont
  rw [show bigSep (payers c .bar) (fun d => hands I c d .bar) = bigSepL (peers c) (fun d => barPay c d) from
    bigSep_eq_bigSepL_of_eq (peers c) rfl (peers_nodup c) _] at h
  iintro H
  iintro Hk
  iapply h $$ H
  iintro HD Ha Hp
  ihave ⟨Hf, HB, HE⟩ := (barGot c) $$ Hp
  iapply Hk $$ HD Ha Hf HB HE

theorem word_rem : Scalar.remsi (Scalar.divsi (Dev.word c) 1#32) 4#32 = Dev.word c := by revert c; decide

/-- What the start needs, and what it leaves. -/
def preA : sProp (MT nD τ sig ℕ (Elt F) ℕ UU ℕ) :=
  iprop(Cr c .bar ∗ At c .bar ∗ bigSepL (peers c) (fun j => barPay j c) ∗ Srcs I c ∗ Xq I c ∗ sndPre c ∗ ownPre c ∗ Dues c (due c))
@[inherit_doc preA] def postA : sProp (MT nD τ sig ℕ (Elt F) ℕ UU ℕ) :=
  iprop(Dn c .bar ∗ Srcs I c ∗ Xq I c ∗ sndPost c ∗ ownPost I c ∗ BF c ∗ Exs c ∗ Dues c (d0 c))

/-- The queries are loaded and projected. -/
theorem tail31 {h1 h2} (w28 w29 : BitVec 32) (Q : (Σ' (_ : Dev nD) (_ : BitVec 32) (_ : FVec F S2x128x256 .bf16) (_ : BitVec 32) (_ : BitVec 32), BitVec 32) → sProp (MT nD τ sig ℕ (Elt F) ℕ UU ℕ)) (v2 : BitVec 32) :
    Xq I c ⊢ iprop((Xq I c -∗ Q ⟨c, v2, qry I c, w28, w29, 0#32⟩)
      -∗ Wp c (.op (.load m0 (Rect.unit (s := S2x128x512) ![0, 0, 0] S2x128x512.size inb_S2x128x512_S2x128x512_0_0_0).toLoadRect h1) fun v22 =>
        .op (.load m1 (Rect.unit (s := S512x256) ![0, 0] S512x256.size inb_S512x256_S512x256_0_0).toLoadRect h2) fun v24 =>
        .ret ⟨c, v2, k0_pay39 v22 v24, w28, w29, 0#32⟩) Q) := by
  iintro H
  iintro Hk
  iapply (load_x I c Q) $$ H
  iintro H
  iapply (load_wq I c Q) $$ H
  iintro H
  rw [Wp, wp_ret, show k0_pay39 (I.x c) (I.wq c) = qry I c from rfl]
  imodintro
  iapply Hk $$ H

theorem c0_1 : k0_cond1 (snd 0) = 1#1 := by decide
theorem c0_2 : ¬ k0_cond2 (snd 0) = 1#1 := by decide
theorem c0_3 : ¬ k0_cond3 (snd 0) = 1#1 := by decide
theorem c0_4 : ¬ k0_cond4 (snd 0) = 1#1 := by decide
theorem c0_5 : k0_cond5 (snd 0) = 1#1 := by decide
theorem c0_6 : ¬ k0_cond6 (snd 0) = 1#1 := by decide

theorem run31_0 (Q) :
    iprop(Facts I K (snd 0) ∗ Bars ∗ preA I (snd 0))
    ⊢ iprop((postA I (snd 0) -∗ Q ⟨snd 0, Dev.word (snd 0), qry I (snd 0), Scalar.xori (Dev.word (snd 0)) 1#32, Scalar.subi 3#32 (Dev.word (snd 0)), 0#32⟩)
    -∗ Wp (snd 0) (on (k0_part31 (F := F))) Q) := by
  rw [on, k0_part31_eq_skeleton]
  unfold k0_part31_skel
  dsimp -zeta only [Prog.lift, Pure.pure, Bind.bind, Prog.bind]
  rw [devId]
  simp -zeta only [dif_pos c0_1, dif_neg c0_2, dif_neg c0_3, dif_neg c0_4, dif_pos c0_5, dif_neg c0_6, word_rem, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
  dsimp only [k0_part1_skel, k0_part2_skel, k0_part3_skel, k0_part4_skel, k0_part5_skel, k0_part6_skel, k0_part7_skel, k0_part8_skel, k0_part9_skel, k0_part10_skel,
    Prog.lift, Pure.pure, Bind.bind, Prog.bind, semSignalWord, semWaitWord]
  rw [word_rem]
  unfold preA sndPre ownPre
  have hs : sends (snd 0) = [(2, 0, 0), (1, 0, 0), (3, 0, 0), (2, 0, 1), (1, 0, 1), (3, 0, 1), (2, 1, 0), (1, 1, 0), (3, 1, 0), (2, 1, 1), (1, 1, 1), (3, 1, 1)] := rfl
  have hd : due (snd 0) = (1, .bar) :: (2, .bar) :: (3, .bar) :: dueA (snd 0) := rfl
  have hA : dueA (snd 0) = (2, .kr 0 0 0) :: (1, .kr 0 0 0) :: (3, .kr 0 0 0) :: (2, .kr 0 0 1) :: (1, .kr 0 0 1) :: (3, .kr 0 0 1) :: (2, .kr 0 1 0) :: (1, .kr 0 1 0) :: (3, .kr 0 1 0) :: (2, .kr 0 1 1) :: (1, .kr 0 1 1) :: (3, .kr 0 1 1) :: d0 (snd 0) := rfl
  rw [hd, if_pos (show snd 0 = snd 0 by decide), if_neg (show ¬ snd 0 = snd 1 by decide), show peers (snd 0) = [1, 2, 3] from rfl, hs]
  simp only [bigSepL_cons', bigSepL_nil]
  unfold kvFull
  iintro ⟨#HF, #HB, HcB, HaB, ⟨P1, P2, P3, -⟩, Hsrc, HX, ⟨⟨S1, T1⟩, ⟨S2, T2⟩, ⟨S3, T3⟩, ⟨S4, T4⟩, ⟨S5, T5⟩, ⟨S6, T6⟩, ⟨S7, T7⟩, ⟨S8, T8⟩, ⟨S9, T9⟩, ⟨S10, T10⟩, ⟨S11, T11⟩, ⟨S12, T12⟩, -⟩, ⟨⟨O1, O2, O3, O4⟩, -⟩, HD⟩
  iintro Hk
  iapply (bar_signal I K (snd 0) Q 1 rfl (by decide) (by decide) _) $$ [P1 HD]
  · isplitr; · iexact HF
    isplitr; · iexact HB
    isplitl [P1] <;> iassumption
  iintro HD
  iapply (bar_signal I K (snd 0) Q 2 rfl (by decide) (by decide) _) $$ [P2 HD]
  · isplitr; · iexact HF
    isplitr; · iexact HB
    isplitl [P2] <;> iassumption
  iintro HD
  iapply (bar_signal I K (snd 0) Q 3 rfl (by decide) (by decide) _) $$ [P3 HD]
  · isplitr; · iexact HF
    isplitr; · iexact HB
    isplitl [P3] <;> iassumption
  iintro HD
  iapply (bar_wait I K (snd 0) Q (by decide) _) $$ [HcB HaB HD]
  · isplitr; · iexact HF
    isplitl [HcB]; · iexact HcB
    isplitl [HaB] <;> iassumption
  rw [hs, hA, show slotOf (snd 0) = 0 from rfl]
  simp only [bigSepL_cons', bigSepL_nil]
  iintro HD HaB ⟨F1, F2, F3, F4, F5, F6, F7, F8, F9, F10, F11, F12, -⟩ HBF HE
  iapply (grp_run I K Q 0 0 0 2 (by decide) rfl _) $$ [Hsrc S1 F1 T1 HD]
  · isplitr; · iexact HF
    iframe
  iintro Hsrc C1 HD
  iapply (grp_run I K Q 0 0 0 1 (by decide) rfl _) $$ [Hsrc S2 F2 T2 HD]
  · isplitr; · iexact HF
    iframe
  iintro Hsrc C2 HD
  iapply (grp_run I K Q 0 0 0 3 (by decide) rfl _) $$ [Hsrc S3 F3 T3 HD]
  · isplitr; · iexact HF
    iframe
  iintro Hsrc C3 HD
  iapply (grp_run I K Q 0 0 1 2 (by decide) rfl _) $$ [Hsrc S4 F4 T4 HD]
  · isplitr; · iexact HF
    iframe
  iintro Hsrc C4 HD
  iapply (grp_run I K Q 0 0 1 1 (by decide) rfl _) $$ [Hsrc S5 F5 T5 HD]
  · isplitr; · iexact HF
    iframe
  iintro Hsrc C5 HD
  iapply (grp_run I K Q 0 0 1 3 (by decide) rfl _) $$ [Hsrc S6 F6 T6 HD]
  · isplitr; · iexact HF
    iframe
  iintro Hsrc C6 HD
  iapply (grp_run I K Q 0 1 0 2 (by decide) rfl _) $$ [Hsrc S7 F7 T7 HD]
  · isplitr; · iexact HF
    iframe
  iintro Hsrc C7 HD
  iapply (grp_run I K Q 0 1 0 1 (by decide) rfl _) $$ [Hsrc S8 F8 T8 HD]
  · isplitr; · iexact HF
    iframe
  iintro Hsrc C8 HD
  iapply (grp_run I K Q 0 1 0 3 (by decide) rfl _) $$ [Hsrc S9 F9 T9 HD]
  · isplitr; · iexact HF
    iframe
  iintro Hsrc C9 HD
  iapply (grp_run I K Q 0 1 1 2 (by decide) rfl _) $$ [Hsrc S10 F10 T10 HD]
  · isplitr; · iexact HF
    iframe
  iintro Hsrc C10 HD
  iapply (grp_run I K Q 0 1 1 1 (by decide) rfl _) $$ [Hsrc S11 F11 T11 HD]
  · isplitr; · iexact HF
    iframe
  iintro Hsrc C11 HD
  iapply (grp_run I K Q 0 1 1 3 (by decide) rfl _) $$ [Hsrc S12 F12 T12 HD]
  · isplitr; · iexact HF
    iframe
  iintro Hsrc C12 HD
  iapply (own_run I Q 0 0 0) $$ [Hsrc O1]
  · isplitl [Hsrc] <;> iassumption
  iintro Hsrc O1
  iapply (own_run I Q 0 0 1) $$ [Hsrc O2]
  · isplitl [Hsrc] <;> iassumption
  iintro Hsrc O2
  iapply (own_run I Q 0 1 0) $$ [Hsrc O3]
  · isplitl [Hsrc] <;> iassumption
  iintro Hsrc O3
  iapply (own_run I Q 0 1 1) $$ [Hsrc O4]
  · isplitl [Hsrc] <;> iassumption
  iintro Hsrc O4
  iapply (tail31 I (snd 0) _ _ Q _) $$ HX
  iintro HX
  iapply Hk
  unfold postA sndPost ownPost kvGot
  rw [hs, if_pos (show snd 0 = snd 0 by decide), if_neg (show ¬ snd 0 = snd 1 by decide)]
  simp only [bigSepL_cons', bigSepL_nil]
  iframe
  (repeat' isplit) <;> iempintro

theorem c2_1 : ¬ k0_cond1 (snd 1) = 1#1 := by decide
theorem c2_2 : ¬ k0_cond2 (snd 1) = 1#1 := by decide
theorem c2_3 : k0_cond3 (snd 1) = 1#1 := by decide
theorem c2_4 : ¬ k0_cond4 (snd 1) = 1#1 := by decide
theorem c2_5 : ¬ k0_cond5 (snd 1) = 1#1 := by decide
theorem c2_6 : k0_cond6 (snd 1) = 1#1 := by decide

theorem run31_2 (Q) :
    iprop(Facts I K (snd 1) ∗ Bars ∗ preA I (snd 1))
    ⊢ iprop((postA I (snd 1) -∗ Q ⟨snd 1, Dev.word (snd 1), qry I (snd 1), Scalar.xori (Dev.word (snd 1)) 1#32, Scalar.subi 3#32 (Dev.word (snd 1)), 0#32⟩)
    -∗ Wp (snd 1) (on (k0_part31 (F := F))) Q) := by
  rw [on, k0_part31_eq_skeleton]
  unfold k0_part31_skel
  dsimp -zeta only [Prog.lift, Pure.pure, Bind.bind, Prog.bind]
  rw [devId]
  simp -zeta only [dif_neg c2_1, dif_neg c2_2, dif_pos c2_3, dif_neg c2_4, dif_neg c2_5, dif_pos c2_6, word_rem, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
  dsimp only [k0_part11_skel, k0_part12_skel, k0_part13_skel, k0_part14_skel, k0_part15_skel, k0_part16_skel, k0_part17_skel, k0_part18_skel, k0_part19_skel, k0_part20_skel,
    Prog.lift, Pure.pure, Bind.bind, Prog.bind, semSignalWord, semWaitWord]
  rw [word_rem]
  unfold preA sndPre ownPre
  have hs : sends (snd 1) = [(0, 0, 0), (1, 0, 0), (3, 0, 0), (0, 0, 1), (1, 0, 1), (3, 0, 1), (0, 1, 0), (1, 1, 0), (3, 1, 0), (0, 1, 1), (1, 1, 1), (3, 1, 1)] := rfl
  have hd : due (snd 1) = (0, .bar) :: (1, .bar) :: (3, .bar) :: dueA (snd 1) := rfl
  have hA : dueA (snd 1) = (0, .kr 1 0 0) :: (1, .kr 1 0 0) :: (3, .kr 1 0 0) :: (0, .kr 1 0 1) :: (1, .kr 1 0 1) :: (3, .kr 1 0 1) :: (0, .kr 1 1 0) :: (1, .kr 1 1 0) :: (3, .kr 1 1 0) :: (0, .kr 1 1 1) :: (1, .kr 1 1 1) :: (3, .kr 1 1 1) :: d0 (snd 1) := rfl
  rw [hd, if_neg (show ¬ snd 1 = snd 0 by decide), if_pos (show snd 1 = snd 1 by decide), show peers (snd 1) = [0, 1, 3] from rfl, hs]
  simp only [bigSepL_cons', bigSepL_nil]
  unfold kvFull
  iintro ⟨#HF, #HB, HcB, HaB, ⟨P0, P1, P3, -⟩, Hsrc, HX, ⟨⟨S1, T1⟩, ⟨S2, T2⟩, ⟨S3, T3⟩, ⟨S4, T4⟩, ⟨S5, T5⟩, ⟨S6, T6⟩, ⟨S7, T7⟩, ⟨S8, T8⟩, ⟨S9, T9⟩, ⟨S10, T10⟩, ⟨S11, T11⟩, ⟨S12, T12⟩, -⟩, ⟨-, ⟨O1, O2, O3, O4⟩⟩, HD⟩
  iintro Hk
  iapply (bar_signal I K (snd 1) Q 0 rfl (by decide) (by decide) _) $$ [P0 HD]
  · isplitr; · iexact HF
    isplitr; · iexact HB
    isplitl [P0] <;> iassumption
  iintro HD
  iapply (bar_signal I K (snd 1) Q 1 rfl (by decide) (by decide) _) $$ [P1 HD]
  · isplitr; · iexact HF
    isplitr; · iexact HB
    isplitl [P1] <;> iassumption
  iintro HD
  iapply (bar_signal I K (snd 1) Q 3 rfl (by decide) (by decide) _) $$ [P3 HD]
  · isplitr; · iexact HF
    isplitr; · iexact HB
    isplitl [P3] <;> iassumption
  iintro HD
  iapply (bar_wait I K (snd 1) Q (by decide) _) $$ [HcB HaB HD]
  · isplitr; · iexact HF
    isplitl [HcB]; · iexact HcB
    isplitl [HaB] <;> iassumption
  rw [hs, hA, show slotOf (snd 1) = 1 from rfl]
  simp only [bigSepL_cons', bigSepL_nil]
  iintro HD HaB ⟨F1, F2, F3, F4, F5, F6, F7, F8, F9, F10, F11, F12, -⟩ HBF HE
  iapply (grp_run I K Q 1 0 0 0 (by decide) rfl _) $$ [Hsrc S1 F1 T1 HD]
  · isplitr; · iexact HF
    iframe
  iintro Hsrc C1 HD
  iapply (grp_run I K Q 1 0 0 1 (by decide) rfl _) $$ [Hsrc S2 F2 T2 HD]
  · isplitr; · iexact HF
    iframe
  iintro Hsrc C2 HD
  iapply (grp_run I K Q 1 0 0 3 (by decide) rfl _) $$ [Hsrc S3 F3 T3 HD]
  · isplitr; · iexact HF
    iframe
  iintro Hsrc C3 HD
  iapply (grp_run I K Q 1 0 1 0 (by decide) rfl _) $$ [Hsrc S4 F4 T4 HD]
  · isplitr; · iexact HF
    iframe
  iintro Hsrc C4 HD
  iapply (grp_run I K Q 1 0 1 1 (by decide) rfl _) $$ [Hsrc S5 F5 T5 HD]
  · isplitr; · iexact HF
    iframe
  iintro Hsrc C5 HD
  iapply (grp_run I K Q 1 0 1 3 (by decide) rfl _) $$ [Hsrc S6 F6 T6 HD]
  · isplitr; · iexact HF
    iframe
  iintro Hsrc C6 HD
  iapply (grp_run I K Q 1 1 0 0 (by decide) rfl _) $$ [Hsrc S7 F7 T7 HD]
  · isplitr; · iexact HF
    iframe
  iintro Hsrc C7 HD
  iapply (grp_run I K Q 1 1 0 1 (by decide) rfl _) $$ [Hsrc S8 F8 T8 HD]
  · isplitr; · iexact HF
    iframe
  iintro Hsrc C8 HD
  iapply (grp_run I K Q 1 1 0 3 (by decide) rfl _) $$ [Hsrc S9 F9 T9 HD]
  · isplitr; · iexact HF
    iframe
  iintro Hsrc C9 HD
  iapply (grp_run I K Q 1 1 1 0 (by decide) rfl _) $$ [Hsrc S10 F10 T10 HD]
  · isplitr; · iexact HF
    iframe
  iintro Hsrc C10 HD
  iapply (grp_run I K Q 1 1 1 1 (by decide) rfl _) $$ [Hsrc S11 F11 T11 HD]
  · isplitr; · iexact HF
    iframe
  iintro Hsrc C11 HD
  iapply (grp_run I K Q 1 1 1 3 (by decide) rfl _) $$ [Hsrc S12 F12 T12 HD]
  · isplitr; · iexact HF
    iframe
  iintro Hsrc C12 HD
  iapply (own_run I Q 1 0 0) $$ [Hsrc O1]
  · isplitl [Hsrc] <;> iassumption
  iintro Hsrc O1
  iapply (own_run I Q 1 0 1) $$ [Hsrc O2]
  · isplitl [Hsrc] <;> iassumption
  iintro Hsrc O2
  iapply (own_run I Q 1 1 0) $$ [Hsrc O3]
  · isplitl [Hsrc] <;> iassumption
  iintro Hsrc O3
  iapply (own_run I Q 1 1 1) $$ [Hsrc O4]
  · isplitl [Hsrc] <;> iassumption
  iintro Hsrc O4
  iapply (tail31 I (snd 1) _ _ Q _) $$ HX
  iintro HX
  iapply Hk
  unfold postA sndPost ownPost kvGot
  rw [hs, if_neg (show ¬ snd 1 = snd 0 by decide), if_pos (show snd 1 = snd 1 by decide)]
  simp only [bigSepL_cons', bigSepL_nil]
  iframe
  (repeat' isplit) <;> iempintro

theorem c1_1 : ¬ k0_cond1 1 = 1#1 := by decide
theorem c1_2 : k0_cond2 1 = 1#1 := by decide
theorem c1_3 : ¬ k0_cond3 1 = 1#1 := by decide
theorem c1_4 : ¬ k0_cond4 1 = 1#1 := by decide
theorem c1_5 : ¬ k0_cond5 1 = 1#1 := by decide
theorem c1_6 : ¬ k0_cond6 1 = 1#1 := by decide

theorem run31_1 (Q) :
    iprop(Facts I K 1 ∗ Bars ∗ preA I 1)
    ⊢ iprop((postA I 1 -∗ Q ⟨(1 : Dev nD), Dev.word (1 : Dev nD), qry I 1, Scalar.xori (Dev.word (1 : Dev nD)) 1#32, Scalar.subi 3#32 (Dev.word (1 : Dev nD)), 0#32⟩)
    -∗ Wp 1 (on (k0_part31 (F := F))) Q) := by
  rw [on, k0_part31_eq_skeleton]
  unfold k0_part31_skel
  dsimp -zeta only [Prog.lift, Pure.pure, Bind.bind, Prog.bind]
  rw [devId]
  simp -zeta only [dif_neg c1_1, dif_pos c1_2, dif_neg c1_3, dif_neg c1_4, dif_neg c1_5, dif_neg c1_6]
  dsimp only [Prog.lift, Pure.pure, Bind.bind, Prog.bind, semSignalWord, semWaitWord]
  rw [word_rem]
  unfold preA sndPre ownPre
  rw [show due 1 = (0, .bar) :: (2, .bar) :: dueA 1 from rfl, if_neg (show ¬ (1 : Dev nD) = snd 0 by decide), if_neg (show ¬ (1 : Dev nD) = snd 1 by decide),
    show peers 1 = [0, 2] from rfl, show sends 1 = [] from rfl]
  simp only [bigSepL_cons', bigSepL_nil]
  iintro ⟨#HF, #HB, HcB, HaB, ⟨P0, P2, -⟩, Hsrc, HX, -, -, HD⟩
  iintro Hk
  iapply (bar_signal I K 1 Q 0 rfl (by decide) (by decide) _) $$ [P0 HD]
  · isplitr; · iexact HF
    isplitr; · iexact HB
    isplitl [P0] <;> iassumption
  iintro HD
  iapply (bar_signal I K 1 Q 2 rfl (by decide) (by decide) _) $$ [P2 HD]
  · isplitr; · iexact HF
    isplitr; · iexact HB
    isplitl [P2] <;> iassumption
  iintro HD
  iapply (bar_wait I K 1 Q (by decide) _) $$ [HcB HaB HD]
  · isplitr; · iexact HF
    isplitl [HcB]; · iexact HcB
    isplitl [HaB] <;> iassumption
  rw [show dueA 1 = d0 1 from rfl]
  iintro HD HaB - HBF HE
  iapply (tail31 I 1 _ _ Q _) $$ HX
  iintro HX
  iapply Hk
  unfold postA sndPost ownPost
  rw [if_neg (show ¬ (1 : Dev nD) = snd 0 by decide), if_neg (show ¬ (1 : Dev nD) = snd 1 by decide), show sends 1 = [] from rfl]
  simp only [bigSepL_nil]
  iframe
  (repeat' isplit) <;> iempintro

theorem c3_1 : ¬ k0_cond1 3 = 1#1 := by decide
theorem c3_2 : ¬ k0_cond2 3 = 1#1 := by decide
theorem c3_3 : ¬ k0_cond3 3 = 1#1 := by decide
theorem c3_4 : k0_cond4 3 = 1#1 := by decide
theorem c3_5 : ¬ k0_cond5 3 = 1#1 := by decide
theorem c3_6 : ¬ k0_cond6 3 = 1#1 := by decide

theorem run31_3 (Q) :
    iprop(Facts I K 3 ∗ Bars ∗ preA I 3)
    ⊢ iprop((postA I 3 -∗ Q ⟨(3 : Dev nD), Dev.word (3 : Dev nD), qry I 3, Scalar.xori (Dev.word (3 : Dev nD)) 1#32, Scalar.subi 3#32 (Dev.word (3 : Dev nD)), 0#32⟩)
    -∗ Wp 3 (on (k0_part31 (F := F))) Q) := by
  rw [on, k0_part31_eq_skeleton]
  unfold k0_part31_skel
  dsimp -zeta only [Prog.lift, Pure.pure, Bind.bind, Prog.bind]
  rw [devId]
  simp -zeta only [dif_neg c3_1, dif_neg c3_2, dif_neg c3_3, dif_pos c3_4, dif_neg c3_5, dif_neg c3_6]
  dsimp only [Prog.lift, Pure.pure, Bind.bind, Prog.bind, semSignalWord, semWaitWord]
  rw [word_rem]
  unfold preA sndPre ownPre
  rw [show due 3 = (0, .bar) :: (2, .bar) :: dueA 3 from rfl, if_neg (show ¬ (3 : Dev nD) = snd 0 by decide), if_neg (show ¬ (3 : Dev nD) = snd 1 by decide),
    show peers 3 = [0, 2] from rfl, show sends 3 = [] from rfl]
  simp only [bigSepL_cons', bigSepL_nil]
  iintro ⟨#HF, #HB, HcB, HaB, ⟨P0, P2, -⟩, Hsrc, HX, -, -, HD⟩
  iintro Hk
  iapply (bar_signal I K 3 Q 0 rfl (by decide) (by decide) _) $$ [P0 HD]
  · isplitr; · iexact HF
    isplitr; · iexact HB
    isplitl [P0] <;> iassumption
  iintro HD
  iapply (bar_signal I K 3 Q 2 rfl (by decide) (by decide) _) $$ [P2 HD]
  · isplitr; · iexact HF
    isplitr; · iexact HB
    isplitl [P2] <;> iassumption
  iintro HD
  iapply (bar_wait I K 3 Q (by decide) _) $$ [HcB HaB HD]
  · isplitr; · iexact HF
    isplitl [HcB]; · iexact HcB
    isplitl [HaB] <;> iassumption
  rw [show dueA 3 = d0 3 from rfl]
  iintro HD HaB - HBF HE
  iapply (tail31 I 3 _ _ Q _) $$ HX
  iintro HX
  iapply Hk
  unfold postA sndPost ownPost
  rw [if_neg (show ¬ (3 : Dev nD) = snd 0 by decide), if_neg (show ¬ (3 : Dev nD) = snd 1 by decide), show sends 3 = [] from rfl]
  simp only [bigSepL_nil]
  iframe
  (repeat' isplit) <;> iempintro

/-- The start, on every device. -/
theorem run31 (Q) :
    iprop(Facts I K c ∗ Bars ∗ preA I c)
    ⊢ iprop((postA I c -∗ Q ⟨c, Dev.word c, qry I c, Scalar.xori (Dev.word c) 1#32, Scalar.subi 3#32 (Dev.word c), 0#32⟩)
    -∗ Wp c (on (k0_part31 (F := F))) Q) := by
  have hc : c = snd 0 ∨ c = 1 ∨ c = snd 1 ∨ c = 3 := by revert c; decide
  rcases hc with rfl | rfl | rfl | rfl
  · exact run31_0 I K Q
  · exact run31_1 I K Q
  · exact run31_2 I K Q
  · exact run31_3 I K Q

end Cert.KernelIdeal.Mesh

end
-- ==== Proof.PartC.lean ====
/-
  The end of a device's run: the waits for its own transfers to have left their sources, and the exit barrier.
-/
module

public import proofs.«01_k».proof.Proof.PartA

@[expose] public section

set_option maxRecDepth 16384

noncomputable section

namespace Cert.KernelIdeal.Mesh

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (I : Inp F) (K : GSem nD τ sig → ℕ) (c : Dev nD)

/-- The payments of the exit barrier lie above every wait at level zero. -/
theorem lvx : ∀ x ∈ exs c, 0 < lvl x.2 := by revert c; decide

/-- Where a device's transfers have left: the sources, back whole, and the counters they have moved. -/
def ksPost (c : Dev nD) : sProp (MT nD τ sig ℕ (Elt F) ℕ UU ℕ) :=
  bigSepL (sends c) fun x => iprop(sndReg c x.1 x.2.1 x.2.2 (sndB I c) ∗ Dn c (.ks x.1 x.2.1 x.2.2))

/-- The four places of a device on the ring. -/
theorem places : c = snd 0 ∨ c = 1 ∨ c = snd 1 ∨ c = 3 := by revert c; decide

theorem is0_0 : Scalar.cmpi .ne (Scalar.extui (Scalar.cmpi .eq (Dev.word (snd 0)) 0#32) : BitVec 32) 0#32 = 1#1 := by decide
theorem is0_1 : ¬ Scalar.cmpi .ne (Scalar.extui (Scalar.cmpi .eq (Dev.word (1 : Dev nD)) 0#32) : BitVec 32) 0#32 = 1#1 := by decide
theorem is0_2 : ¬ Scalar.cmpi .ne (Scalar.extui (Scalar.cmpi .eq (Dev.word (snd 1)) 0#32) : BitVec 32) 0#32 = 1#1 := by decide
theorem is0_3 : ¬ Scalar.cmpi .ne (Scalar.extui (Scalar.cmpi .eq (Dev.word (3 : Dev nD)) 0#32) : BitVec 32) 0#32 = 1#1 := by decide
theorem is2_0 : ¬ Scalar.cmpi .ne (Scalar.extui (Scalar.cmpi .eq (Dev.word (snd 0)) 2#32) : BitVec 32) 0#32 = 1#1 := by decide
theorem is2_1 : ¬ Scalar.cmpi .ne (Scalar.extui (Scalar.cmpi .eq (Dev.word (1 : Dev nD)) 2#32) : BitVec 32) 0#32 = 1#1 := by decide
theorem is2_2 : Scalar.cmpi .ne (Scalar.extui (Scalar.cmpi .eq (Dev.word (snd 1)) 2#32) : BitVec 32) 0#32 = 1#1 := by decide
theorem is2_3 : ¬ Scalar.cmpi .ne (Scalar.extui (Scalar.cmpi .eq (Dev.word (3 : Dev nD)) 2#32) : BitVec 32) 0#32 = 1#1 := by decide

/-- The waits for the device's own transfers. -/
theorem run42 (v2 : BitVec 32) (hv2 : v2 = Dev.word c) (Q) :
    iprop(Facts I K c ∗ (Cr c (.bs 1 0) ∗ At c (.bs 1 0)) ∗ (Cr c (.bs 0 1) ∗ At c (.bs 0 1)) ∗ (Cr c (.bs 1 1) ∗ At c (.bs 1 1))
      ∗ (bigSepL (sends c) fun x => iprop(Cr c (.ks x.1 x.2.1 x.2.2) ∗ At c (.ks x.1 x.2.1 x.2.2))) ∗ Dues c (exs c))
    ⊢ iprop((iprop((bfsReg c 1 0 (bfsB I c) ∗ Dn c (.bs 1 0)) ∗ (bfsReg c 0 1 (bfsB I c) ∗ Dn c (.bs 0 1)) ∗ (bfsReg c 1 1 (bfsB I c) ∗ Dn c (.bs 1 1))
        ∗ ksPost I c ∗ Dues c (exs c)) -∗ Q (Scalar.extui (Scalar.cmpi .eq v2 0#32)))
      -∗ Wp c (on (k0_part42 (F := F)) v2) Q) := by
  subst hv2
  rw [on, k0_part42_eq_skeleton]
  unfold k0_part42_skel
  dsimp -zeta only [Prog.lift, Pure.pure, Bind.bind, Prog.bind]
  unfold ksPost
  iintro ⟨#HF, ⟨B1, E1⟩, ⟨B2, E2⟩, ⟨B3, E3⟩, HS, HD⟩
  iintro Hk
  iapply (wait_bs I K c Q 1 0 _ (lvx c)) $$ [B1 E1 HD]
  · isplitr; · iexact HF
    iframe
  iintro HD B1 E1
  iapply (wait_bs I K c Q 0 1 _ (lvx c)) $$ [B2 E2 HD]
  · isplitr; · iexact HF
    iframe
  iintro HD B2 E2
  iapply (wait_bs I K c Q 1 1 _ (lvx c)) $$ [B3 E3 HD]
  · isplitr; · iexact HF
    iframe
  iintro HD B3 E3
  obtain h | h | h | h := places c <;> subst h
  · simp only [dif_pos is0_0, dif_neg is2_0, k0_part21_eq_skeleton, k0_part22_eq_skeleton, k0_part23_eq_skeleton, k0_part24_eq_skeleton, k0_part25_eq_skeleton]
    dsimp only [k0_part21_skel, k0_part22_skel, k0_part23_skel, k0_part24_skel, k0_part25_skel, Prog.lift, Pure.pure, Bind.bind, Prog.bind]
    rw [show sends (snd 0) = [(2, 0, 0), (1, 0, 0), (3, 0, 0), (2, 0, 1), (1, 0, 1), (3, 0, 1), (2, 1, 0), (1, 1, 0), (3, 1, 0), (2, 1, 1), (1, 1, 1), (3, 1, 1)] from rfl]
    simp only [bigSepL_cons', bigSepL_nil]
    icases HS with ⟨⟨C1, A1⟩, ⟨C2, A2⟩, ⟨C3, A3⟩, ⟨C4, A4⟩, ⟨C5, A5⟩, ⟨C6, A6⟩, ⟨C7, A7⟩, ⟨C8, A8⟩, ⟨C9, A9⟩, ⟨C10, A10⟩, ⟨C11, A11⟩, ⟨C12, A12⟩, -⟩
    iapply (wait_ks I K Q 0 0 0 1 (by decide) _ (lvx _)) $$ [C2 A2 HD]
    · isplitr; · iexact HF
      iframe
    iintro HD N2 R2
    iapply (wait_ks I K Q 0 0 0 2 (by decide) _ (lvx _)) $$ [C1 A1 HD]
    · isplitr; · iexact HF
      iframe
    iintro HD N1 R1
    iapply (wait_ks I K Q 0 0 0 3 (by decide) _ (lvx _)) $$ [C3 A3 HD]
    · isplitr; · iexact HF
      iframe
    iintro HD N3 R3
    iapply (wait_ks I K Q 0 0 1 1 (by decide) _ (lvx _)) $$ [C5 A5 HD]
    · isplitr; · iexact HF
      iframe
    iintro HD N5 R5
    iapply (wait_ks I K Q 0 0 1 2 (by decide) _ (lvx _)) $$ [C4 A4 HD]
    · isplitr; · iexact HF
      iframe
    iintro HD N4 R4
    iapply (wait_ks I K Q 0 0 1 3 (by decide) _ (lvx _)) $$ [C6 A6 HD]
    · isplitr; · iexact HF
      iframe
    iintro HD N6 R6
    iapply (wait_ks I K Q 0 1 0 1 (by decide) _ (lvx _)) $$ [C8 A8 HD]
    · isplitr; · iexact HF
      iframe
    iintro HD N8 R8
    iapply (wait_ks I K Q 0 1 0 2 (by decide) _ (lvx _)) $$ [C7 A7 HD]
    · isplitr; · iexact HF
      iframe
    iintro HD N7 R7
    iapply (wait_ks I K Q 0 1 0 3 (by decide) _ (lvx _)) $$ [C9 A9 HD]
    · isplitr; · iexact HF
      iframe
    iintro HD N9 R9
    iapply (wait_ks I K Q 0 1 1 1 (by decide) _ (lvx _)) $$ [C11 A11 HD]
    · isplitr; · iexact HF
      iframe
    iintro HD N11 R11
    iapply (wait_ks I K Q 0 1 1 2 (by decide) _ (lvx _)) $$ [C10 A10 HD]
    · isplitr; · iexact HF
      iframe
    iintro HD N10 R10
    iapply (wait_ks I K Q 0 1 1 3 (by decide) _ (lvx _)) $$ [C12 A12 HD]
    · isplitr; · iexact HF
      iframe
    iintro HD N12 R12
    rw [Wp, wp_ret]
    imodintro
    iapply Hk
    iframe
    (repeat' isplit) <;> iempintro
  · simp only [dif_neg is0_1, dif_neg is2_1]
    rw [Wp, wp_ret, show sends 1 = [] from rfl]
    imodintro
    iapply Hk
    iframe
    iempintro
  · simp only [dif_neg is0_2, dif_pos is2_2, k0_part26_eq_skeleton, k0_part27_eq_skeleton, k0_part28_eq_skeleton, k0_part29_eq_skeleton, k0_part30_eq_skeleton]
    dsimp only [k0_part26_skel, k0_part27_skel, k0_part28_skel, k0_part29_skel, k0_part30_skel, Prog.lift, Pure.pure, Bind.bind, Prog.bind]
    rw [show sends (snd 1) = [(0, 0, 0), (1, 0, 0), (3, 0, 0), (0, 0, 1), (1, 0, 1), (3, 0, 1), (0, 1, 0), (1, 1, 0), (3, 1, 0), (0, 1, 1), (1, 1, 1), (3, 1, 1)] from rfl]
    simp only [bigSepL_cons', bigSepL_nil]
    icases HS with ⟨⟨C1, A1⟩, ⟨C2, A2⟩, ⟨C3, A3⟩, ⟨C4, A4⟩, ⟨C5, A5⟩, ⟨C6, A6⟩, ⟨C7, A7⟩, ⟨C8, A8⟩, ⟨C9, A9⟩, ⟨C10, A10⟩, ⟨C11, A11⟩, ⟨C12, A12⟩, -⟩
    iapply (wait_ks I K Q 1 0 0 0 (by decide) _ (lvx _)) $$ [C1 A1 HD]
    · isplitr; · iexact HF
      iframe
    iintro HD N1 R1
    iapply (wait_ks I K Q 1 0 0 1 (by decide) _ (lvx _)) $$ [C2 A2 HD]
    · isplitr; · iexact HF
      iframe
    iintro HD N2 R2
    iapply (wait_ks I K Q 1 0 0 3 (by decide) _ (lvx _)) $$ [C3 A3 HD]
    · isplitr; · iexact HF
      iframe
    iintro HD N3 R3
    iapply (wait_ks I K Q 1 0 1 0 (by decide) _ (lvx _)) $$ [C4 A4 HD]
    · isplitr; · iexact HF
      iframe
    iintro HD N4 R4
    iapply (wait_ks I K Q 1 0 1 1 (by decide) _ (lvx _)) $$ [C5 A5 HD]
    · isplitr; · iexact HF
      iframe
    iintro HD N5 R5
    iapply (wait_ks I K Q 1 0 1 3 (by decide) _ (lvx _)) $$ [C6 A6 HD]
    · isplitr; · iexact HF
      iframe
    iintro HD N6 R6
    iapply (wait_ks I K Q 1 1 0 0 (by decide) _ (lvx _)) $$ [C7 A7 HD]
    · isplitr; · iexact HF
      iframe
    iintro HD N7 R7
    iapply (wait_ks I K Q 1 1 0 1 (by decide) _ (lvx _)) $$ [C8 A8 HD]
    · isplitr; · iexact HF
      iframe
    iintro HD N8 R8
    iapply (wait_ks I K Q 1 1 0 3 (by decide) _ (lvx _)) $$ [C9 A9 HD]
    · isplitr; · iexact HF
      iframe
    iintro HD N9 R9
    iapply (wait_ks I K Q 1 1 1 0 (by decide) _ (lvx _)) $$ [C10 A10 HD]
    · isplitr; · iexact HF
      iframe
    iintro HD N10 R10
    iapply (wait_ks I K Q 1 1 1 1 (by decide) _ (lvx _)) $$ [C11 A11 HD]
    · isplitr; · iexact HF
      iframe
    iintro HD N11 R11
    iapply (wait_ks I K Q 1 1 1 3 (by decide) _ (lvx _)) $$ [C12 A12 HD]
    · isplitr; · iexact HF
      iframe
    iintro HD N12 R12
    rw [Wp, wp_ret]
    imodintro
    iapply Hk
    iframe
    (repeat' isplit) <;> iempintro
  · simp only [dif_neg is0_3, dif_neg is2_3]
    rw [Wp, wp_ret, show sends 3 = [] from rfl]
    imodintro
    iapply Hk
    iframe
    iempintro

end Cert.KernelIdeal.Mesh

end
-- ==== Proof.Body.lean ====
/-
  A device's whole run: the printed parts one after another, then the exit barrier.
-/
module

public import proofs.«01_k».proof.Proof.PartC

@[expose] public section

set_option maxRecDepth 16384

noncomputable section

namespace Cert.KernelIdeal.Mesh

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (I : Inp F) (K : GSem nD τ sig → ℕ) (c : Dev nD)

/-- A key/value arrival counter before its round: a sender's own is never credited. -/
def KrPre (a p t : Fin 2) : sProp (MT nD τ sig ℕ (Elt F) ℕ UU ℕ) :=
  if c = snd a then At c (.kr a p t) else iprop(Cr c (.kr a p t) ∗ At c (.kr a p t))

/-- The slots before they are read, from the blocks a sender has put in place. -/
theorem slots : iprop(ownPost I c ∗ (KrPre c 0 0 0 ∗ KrPre c 0 0 1 ∗ KrPre c 0 1 0 ∗ KrPre c 0 1 1) ∗ (KrPre c 1 0 0 ∗ KrPre c 1 0 1 ∗ KrPre c 1 1 0 ∗ KrPre c 1 1 1))
    ⊢ iprop((SlotPre I c 0 0 0 ∗ SlotPre I c 0 0 1 ∗ SlotPre I c 0 1 0 ∗ SlotPre I c 0 1 1) ∗ (SlotPre I c 1 0 0 ∗ SlotPre I c 1 0 1 ∗ SlotPre I c 1 1 0 ∗ SlotPre I c 1 1 1)) := by
  have key (a : Fin 2) : iprop((if c = snd a then kvGot I c a else emp) ∗ (KrPre c a 0 0 ∗ KrPre c a 0 1 ∗ KrPre c a 1 0 ∗ KrPre c a 1 1))
      ⊢ iprop(SlotPre I c a 0 0 ∗ SlotPre I c a 0 1 ∗ SlotPre I c a 1 0 ∗ SlotPre I c a 1 1) := by
    unfold KrPre SlotPre kvGot
    by_cases h : c = snd a
    · simp only [if_pos h]
      iintro ⟨⟨A1, A2, A3, A4⟩, B1, B2, B3, B4⟩
      iframe
    · simp only [if_neg h]
      iintro ⟨-, B⟩
      iexact B
  unfold ownPost
  iintro ⟨⟨H0, H1⟩, K0, K1⟩
  isplitl [H0 K0]
  · iapply (key 0); isplitl [H0] <;> iassumption
  · iapply (key 1); isplitl [H1] <;> iassumption

/-- What the run needs beyond its start. -/
def restPre (f : Vec F S2x128x512 .bf16) : sProp (MT nD τ sig ℕ (Elt F) ℕ UU ℕ) :=
  iprop(Wo I c ∗ Out c f ∗ (Cr c .ex ∗ At c .ex)
    ∗ ((∃ f, bfsReg c 0 0 f) ∗ (∃ f, bfsReg c 0 1 f) ∗ (∃ f, bfsReg c 1 0 f) ∗ (∃ f, bfsReg c 1 1 f))
    ∗ (dutyTok ER (cell c (.bs 0 0)) 0 c ∗ dutyTok ER (cell c (.bs 0 1)) 0 c ∗ dutyTok ER (cell c (.bs 1 0)) 0 c ∗ dutyTok ER (cell c (.bs 1 1)) 0 c)
    ∗ (At c (.bs 0 0) ∗ At c (.bs 0 1) ∗ At c (.bs 1 0) ∗ At c (.bs 1 1))
    ∗ ((Cr c (.br 0 0) ∗ At c (.br 0 0)) ∗ (Cr c (.br 0 1) ∗ At c (.br 0 1)) ∗ (Cr c (.br 1 0) ∗ At c (.br 1 0)) ∗ (Cr c (.br 1 1) ∗ At c (.br 1 1)))
    ∗ ((KrPre c 0 0 0 ∗ KrPre c 0 0 1 ∗ KrPre c 0 1 0 ∗ KrPre c 0 1 1) ∗ (KrPre c 1 0 0 ∗ KrPre c 1 0 1 ∗ KrPre c 1 1 0 ∗ KrPre c 1 1 1))
    ∗ bigSepL (sends c) fun x => At c (.ks x.1 x.2.1 x.2.2))

/-- What the run leaves. -/
def bodyPost : sProp (MT nD τ sig ℕ (Elt F) ℕ UU ℕ) :=
  iprop(Srcs I c ∗ Xq I c ∗ Wo I c ∗ Out c (outV I c) ∗ Dn c .bar ∗ Dn c .ex
    ∗ (bfsReg c 0 0 (bfsB I c) ∗ bfsReg c 0 1 (bfsB I c) ∗ bfsReg c 1 0 (bfsB I c) ∗ bfsReg c 1 1 (bfsB I c))
    ∗ (Dn c (.bs 0 0) ∗ Dn c (.bs 0 1) ∗ Dn c (.bs 1 0) ∗ Dn c (.bs 1 1))
    ∗ (bfrReg c 0 0 (bfrB I c) ∗ bfrReg c 0 1 (bfrB I c) ∗ bfrReg c 1 0 (bfrB I c) ∗ bfrReg c 1 1 (bfrB I c))
    ∗ (Dn c (.br 0 0) ∗ Dn c (.br 0 1) ∗ Dn c (.br 1 0) ∗ Dn c (.br 1 1))
    ∗ (kvGot I c 0 ∗ kvGot I c 1)
    ∗ ((SlotDn c 0 0 0 ∗ SlotDn c 0 0 1 ∗ SlotDn c 0 1 0 ∗ SlotDn c 0 1 1) ∗ (SlotDn c 1 0 0 ∗ SlotDn c 1 0 1 ∗ SlotDn c 1 1 0 ∗ SlotDn c 1 1 1))
    ∗ ksPost I c ∗ Dues c [])

theorem ksJoin : iprop(sndPost c ∗ bigSepL (sends c) fun x => At c (.ks x.1 x.2.1 x.2.2))
    ⊢ (bigSepL (sends c) fun x => iprop(Cr c (.ks x.1 x.2.1 x.2.2) ∗ At c (.ks x.1 x.2.1 x.2.2)) : sProp (MT nD τ sig ℕ (Elt F) ℕ UU ℕ)) := by
  unfold sndPost
  induction sends c with
  | nil => simp only [bigSepL_nil]; iintro ⟨H, -⟩; iexact H
  | cons x l ih =>
    simp only [bigSepL_cons']
    iintro ⟨⟨A, B⟩, C, D⟩
    isplitl [A C]; · isplitl [A] <;> iassumption
    iapply ih; isplitl [B] <;> iassumption

section Exit
variable {α : Type} (Q : α → sProp (MT nD τ sig ℕ (Elt F) ℕ UU ℕ))

/-- A signal of the exit barrier. -/
theorem ex_signal (j : Dev nD) {j' : Dev nD} (hj : j' = j) {z : Int} (hz : z = 1) (hp : c ∈ payers j .ex) (l : List (Dev nD × Cl))
    (kont : PUnit → Prog (TpuEff nD τ sig (Elt F) Λ₀ .tc) α) :
    iprop(Facts I K c ∗ reached ER (cell j .ex) 0 ∗ Dues c ((j, .ex) :: l))
      ⊢ iprop((Dues c l -∗ Wp c (kont ⟨⟩) Q) -∗ Wp c (.op (.semSignal ((j', Proc.tc) : Thread nD τ) qEx z) kont) Q) := by
  have h := signal I K c Q j .ex hj semOf_ex hz rfl hp l kont
  rw [show hands I j c .ex = iprop(emp) from rfl] at h
  iintro ⟨#HF, HE, HD⟩
  iapply h
  isplitr; · iexact HF
  isplitl [HE]; · iexact HE
  isplitr; · iempintro
  iexact HD

/-- The wait at the exit barrier. -/
theorem ex_wait {z : Int} (hz : z = ((peers c).length : ℕ)) (kont : PUnit → Prog (TpuEff nD τ sig (Elt F) Λ₀ .tc) α) :
    iprop(Facts I K c ∗ Cr c .ex ∗ At c .ex ∗ Dues c [])
      ⊢ iprop((Dues c [] -∗ Dn c .ex -∗ Wp c (kont ⟨⟩) Q) -∗ Wp c (.op (.semWait qEx z) kont) Q) := by
  have hcard : (payers c .ex).card = (peers c).length := List.toFinset_card_of_nodup (peers_nodup c)
  have h := wait_reg I K c Q .ex semOf_ex (z := z) (by rw [hcard]; exact hz) rfl [] (fun _ h => absurd h List.not_mem_nil) kont
  iintro H
  iintro Hk
  iapply h $$ H
  iintro HD Ha -
  iapply Hk $$ HD Ha
end Exit

theorem x17_0 : k0_cond17 (snd 0) = 1#1 := by decide
theorem x18_0 : ¬ k0_cond18 (snd 0) = 1#1 := by decide
theorem x19_0 : ¬ k0_cond19 (snd 0) = 1#1 := by decide
theorem x20_0 : ¬ k0_cond20 (snd 0) = 1#1 := by decide
theorem x17_1 : ¬ k0_cond17 1 = 1#1 := by decide
theorem x18_1 : k0_cond18 1 = 1#1 := by decide
theorem x19_1 : ¬ k0_cond19 1 = 1#1 := by decide
theorem x20_1 : ¬ k0_cond20 1 = 1#1 := by decide
theorem x17_2 : ¬ k0_cond17 (snd 1) = 1#1 := by decide
theorem x18_2 : ¬ k0_cond18 (snd 1) = 1#1 := by decide
theorem x19_2 : k0_cond19 (snd 1) = 1#1 := by decide
theorem x20_2 : ¬ k0_cond20 (snd 1) = 1#1 := by decide
theorem x17_3 : ¬ k0_cond17 3 = 1#1 := by decide
theorem x18_3 : ¬ k0_cond18 3 = 1#1 := by decide
theorem x19_3 : ¬ k0_cond19 3 = 1#1 := by decide
theorem x20_3 : k0_cond20 3 = 1#1 := by decide

set_option maxHeartbeats 1000000 in
/-- A device's run, from its resources to the result. -/
theorem body_run (f : Vec F S2x128x512 .bf16) (Q) :
    iprop(Facts I K c ∗ Bars ∗ preA I c ∗ restPre I c f)
    ⊢ iprop((bodyPost I c -∗ Q ⟨⟩) -∗ Wp c (on (cc0_body (F := F))) Q) := by
  rw [on, cc0_body_eq_skeleton]
  unfold cc0_body_skel restPre
  iintro ⟨#HF, #HB, HA, Hwo, Hout, Hex, ⟨T00, T01, T10, T11⟩, ⟨D00, D01, D10, D11⟩, ⟨A00, A01, A10, A11⟩, ⟨⟨C00, R00⟩, ⟨C01, R01⟩, ⟨C10, R10⟩, C11, R11⟩, Hkr, Hks⟩
  iintro Hk
  rw [Wp, wp_bind]
  iapply (run31 I K c _) $$ [HA]
  · isplitr; · iexact HF
    isplitr; · iexact HB
    iexact HA
  unfold postA BF
  iintro ⟨Nbar, Hsrc, HX, Hsp, Hown, ⟨F00, F10, F01, F11⟩, HE, HD⟩
  ihave ⟨⟨S000, S001, S010, S011⟩, S100, S101, S110, S111⟩ := (slots I c) $$ [Hown Hkr]
  · isplitl [Hown] <;> iassumption
  ihave Hks := (ksJoin c) $$ [Hsp Hks]
  · isplitl [Hsp] <;> iassumption
  try dsimp -zeta only
  rw [wp_bind]
  iapply (run32 I K c _ _ rfl _) $$ [S000 S100 HD]
  · isplitr; · iexact HF
    iframe
  iintro ⟨K000, N000, K100, N100, HD⟩
  try dsimp -zeta only
  rw [wp_bind]
  iapply (run33 I K c _ _ _ _ _ _ _ _ rfl _) $$ [S001 S101 HD]
  · isplitr; · iexact HF
    iframe
  iintro ⟨K001, N001, K101, N101, HD⟩
  try dsimp -zeta only
  rw [wp_bind]
  iapply (run34 I K c _ _ _ _ _ _ _ rfl rfl _) $$ [Hwo T00 F00 D00 S010 HD]
  · isplitr; · iexact HF
    iframe
  iintro ⟨Hwo, B00, K010, N010, HD⟩
  try dsimp -zeta only
  rw [wp_bind]
  iapply (run35 I K c _ _ rfl _) $$ [K010 S110 HD]
  · isplitr; · iexact HF
    iframe
  iintro ⟨K010, K110, N110, HD⟩
  try dsimp -zeta only
  rw [wp_bind]
  iapply (run36 I K c _ _ _ _ _ _ _ rfl rfl _) $$ [S011 S111 HD]
  · isplitr; · iexact HF
    iframe
  iintro ⟨K011, N011, K111, N111, HD⟩
  try dsimp -zeta only
  rw [wp_bind]
  iapply (run37 I K c _ _) $$ [Hwo T10 F10 D10 HD]
  · isplitr; · iexact HF
    iframe
  iintro ⟨Hwo, B10, HD⟩
  try dsimp -zeta only
  rw [wp_bind]
  iapply (run38 I K c _ _) $$ [C00 R00 T01 F01 D01 HD]
  · isplitr; · iexact HF
    iframe
  iintro ⟨V00, R00, B01, HD⟩
  try dsimp -zeta only
  rw [wp_bind]
  iapply (run39 I K c _ _ _) $$ [C10 R10 T11 HD]
  · isplitr; · iexact HF
    iframe
  iintro ⟨V10, R10, T11, HD⟩
  try dsimp -zeta only
  rw [wp_bind]
  iapply (run40 I K c _ f _) $$ [T11 F11 D11 C01 R01 Hout HD]
  · isplitr; · iexact HF
    iframe
  iintro ⟨B11, V01, R01, Hout, HD⟩
  try dsimp -zeta only
  rw [wp_bind]
  iapply (run41 I K c f _) $$ [C11 R11 Hout B00 A00 HD]
  · isplitr; · iexact HF
    iframe
  iintro ⟨V11, R11, Hout, T00, A00, HD⟩
  try dsimp -zeta only
  rw [wp_bind]
  iapply (run42 I K c _ rfl _) $$ [B10 A10 B01 A01 B11 A11 Hks HD]
  · isplitr; · iexact HF
    iframe
  iintro ⟨⟨T10, A10⟩, ⟨T01, A01⟩, ⟨T11, A11⟩, Hks, HD⟩
  dsimp -zeta only [Prog.lift, Pure.pure, Bind.bind, Prog.bind]
  unfold bodyPost kvGot Exs
  icases Hex with ⟨Cx, Ax⟩
  obtain h | h | h | h := places c <;> subst h
  · simp -zeta only [dif_pos x17_0, dif_neg x18_0, dif_neg x19_0, dif_neg x20_0]
    dsimp only [Prog.lift, Pure.pure, Bind.bind, Prog.bind, semSignalWord, semWaitWord]
    rw [show exs (snd 0) = [(1, .ex), (2, .ex), (3, .ex)] from rfl, show peers (snd 0) = [1, 2, 3] from rfl]
    simp only [bigSepL_cons', bigSepL_nil]
    icases HE with ⟨E1, E2, E3, -⟩
    iapply (ex_signal I K (snd 0) Q 1 rfl (by decide) (by decide) _) $$ [E1 HD]
    · isplitr; · iexact HF
      iframe
    iintro HD
    iapply (ex_signal I K (snd 0) Q 2 rfl (by decide) (by decide) _) $$ [E2 HD]
    · isplitr; · iexact HF
      iframe
    iintro HD
    iapply (ex_signal I K (snd 0) Q 3 rfl (by decide) (by decide) _) $$ [E3 HD]
    · isplitr; · iexact HF
      iframe
    iintro HD
    iapply (ex_wait I K (snd 0) Q (by decide) _) $$ [Cx Ax HD]
    · isplitr; · iexact HF
      iframe
    iintro HD Nex
    rw [Wp, wp_ret]
    imodintro
    iapply Hk
    iframe
  · simp -zeta only [dif_neg x17_1, dif_pos x18_1, dif_neg x19_1, dif_neg x20_1]
    dsimp only [Prog.lift, Pure.pure, Bind.bind, Prog.bind, semSignalWord, semWaitWord]
    rw [show exs 1 = [(0, .ex), (2, .ex)] from rfl, show peers 1 = [0, 2] from rfl]
    simp only [bigSepL_cons', bigSepL_nil]
    icases HE with ⟨E1, E2, -⟩
    iapply (ex_signal I K 1 Q 0 rfl (by decide) (by decide) _) $$ [E1 HD]
    · isplitr; · iexact HF
      iframe
    iintro HD
    iapply (ex_signal I K 1 Q 2 rfl (by decide) (by decide) _) $$ [E2 HD]
    · isplitr; · iexact HF
      iframe
    iintro HD
    iapply (ex_wait I K 1 Q (by decide) _) $$ [Cx Ax HD]
    · isplitr; · iexact HF
      iframe
    iintro HD Nex
    rw [Wp, wp_ret]
    imodintro
    iapply Hk
    iframe
  · simp -zeta only [dif_neg x17_2, dif_neg x18_2, dif_pos x19_2, dif_neg x20_2]
    dsimp only [Prog.lift, Pure.pure, Bind.bind, Prog.bind, semSignalWord, semWaitWord]
    rw [show exs (snd 1) = [(0, .ex), (1, .ex), (3, .ex)] from rfl, show peers (snd 1) = [0, 1, 3] from rfl]
    simp only [bigSepL_cons', bigSepL_nil]
    icases HE with ⟨E1, E2, E3, -⟩
    iapply (ex_signal I K (snd 1) Q 0 rfl (by decide) (by decide) _) $$ [E1 HD]
    · isplitr; · iexact HF
      iframe
    iintro HD
    iapply (ex_signal I K (snd 1) Q 1 rfl (by decide) (by decide) _) $$ [E2 HD]
    · isplitr; · iexact HF
      iframe
    iintro HD
    iapply (ex_signal I K (snd 1) Q 3 rfl (by decide) (by decide) _) $$ [E3 HD]
    · isplitr; · iexact HF
      iframe
    iintro HD
    iapply (ex_wait I K (snd 1) Q (by decide) _) $$ [Cx Ax HD]
    · isplitr; · iexact HF
      iframe
    iintro HD Nex
    rw [Wp, wp_ret]
    imodintro
    iapply Hk
    iframe
  · simp -zeta only [dif_neg x17_3, dif_neg x18_3, dif_neg x19_3, dif_pos x20_3]
    dsimp only [Prog.lift, Pure.pure, Bind.bind, Prog.bind, semSignalWord, semWaitWord]
    rw [show exs 3 = [(0, .ex), (2, .ex)] from rfl, show peers 3 = [0, 2] from rfl]
    simp only [bigSepL_cons', bigSepL_nil]
    icases HE with ⟨E1, E2, -⟩
    iapply (ex_signal I K 3 Q 0 rfl (by decide) (by decide) _) $$ [E1 HD]
    · isplitr; · iexact HF
      iframe
    iintro HD
    iapply (ex_signal I K 3 Q 2 rfl (by decide) (by decide) _) $$ [E2 HD]
    · isplitr; · iexact HF
      iframe
    iintro HD
    iapply (ex_wait I K 3 Q (by decide) _) $$ [Cx Ax HD]
    · isplitr; · iexact HF
      iframe
    iintro HD Nex
    rw [Wp, wp_ret]
    imodintro
    iapply Hk
    iframe

end Cert.KernelIdeal.Mesh

end
-- ==== Proof.Split.lean ====
/-
  The scratch buffers as the parts that change hands, and a device's semaphores before and after its run: what the
  run needs out of what the launch gives, and what the launch takes back out of what the run leaves.
-/
module

public import proofs.«01_k».proof.Proof.Body

@[expose] public section

set_option maxRecDepth 16384

noncomputable section

namespace Cert.KernelIdeal.Mesh

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SiteBlocks (L lv)

variable {F : FTy → Type} [FloatOps F]

/-! ## A whole buffer and its parts -/

section Parts
variable {ℓ : Loc nD τ sig} {T : Type} [Fintype T] [DecidableEq T] (S : T → Finset (Idx ℓ))
    (hd : ∀ t t', t ≠ t' → Disjoint (S t) (S t')) (hc : ∀ i, ∃ t, i ∈ S t)

include hc in
theorem parts_univ : Finset.univ.biUnion S = Finset.univ := by
  ext i; simp only [Finset.mem_biUnion, Finset.mem_univ, true_and, iff_true]; exact hc i

include hd hc in
theorem split_parts : iprop(∃ f, ℓ ↦{fullShare} f) ⊢ (bigSep Finset.univ fun t => iprop(∃ f, ℓ ↦[S t]{fullShare} f) : sProp (MT nD τ sig ℕ (Elt F) ℕ UU ℕ)) := by
  refine Laws.exists_elim fun f => ?_
  rw [← parts_univ S hc, pointsTo_biUnion Finset.univ S fun t _ t' _ h => hd t t' h]
  exact bigSep_mono fun t _ => (show (ℓ ↦[S t]{fullShare} f : sProp (MT nD τ sig ℕ (Elt F) ℕ UU ℕ)) ⊢ iprop(∃ f, ℓ ↦[S t]{fullShare} f) from by
    iintro H; iexists f; iexact H)

include hd hc in
theorem join_parts (f₀ : Buf (Elt F) ℓ) : (bigSep Finset.univ fun t => iprop(∃ f, ℓ ↦[S t]{fullShare} f) : sProp (MT nD τ sig ℕ (Elt F) ℕ UU ℕ)) ⊢ iprop(∃ f, ℓ ↦{fullShare} f) := by
  haveI : ∀ _ : T, Nonempty (Buf (Elt F) ℓ) := fun _ => ⟨f₀⟩
  refine (bigSep_exists_pi Finset.univ fun (t : T) (f : Buf (Elt F) ℓ) => (ℓ ↦[S t]{fullShare} f : sProp (MT nD τ sig ℕ (Elt F) ℕ UU ℕ))).trans ?_
  iintro ⟨%fs, H⟩
  ihave H' := (pointsTo_biUnion_join Finset.univ S fs f₀ fun t _ t' _ h => hd t t' h) $$ H
  icases H' with ⟨%g, -, H⟩
  iexists g
  rw [parts_univ S hc]
  iexact H
end Parts

theorem snd_parts_disjoint (x y : Fin 4 × Fin 2 × Fin 2) (h : x ≠ y) : Disjoint (sndSet x.1 x.2.1 x.2.2) (sndSet y.1 y.2.1 y.2.2) := by
  rw [Finset.disjoint_left]
  intro i hx hy
  simp only [sndSet, Finset.mem_filter, Finset.mem_univ, true_and] at hx hy
  exact h (Prod.ext (Fin.ext (hx.1.symm.trans hy.1)) (Prod.ext (Fin.ext (hx.2.1.symm.trans hy.2.1)) (Fin.ext (hx.2.2.symm.trans hy.2.2))))
theorem snd_parts_cover (i : S4x2x2x2x64x256.Idx) : ∃ x : Fin 4 × Fin 2 × Fin 2, i ∈ sndSet x.1 x.2.1 x.2.2 :=
  ⟨(⟨(i 0).val, (i 0).isLt⟩, ⟨(i 1).val, (i 1).isLt⟩, ⟨(i 2).val, (i 2).isLt⟩), by simp [sndSet]⟩
theorem kv_parts_disjoint (x y : Fin 2 × Fin 2 × Fin 2) (h : x ≠ y) : Disjoint (kvSet x.1 x.2.1 x.2.2) (kvSet y.1 y.2.1 y.2.2) := by
  rw [Finset.disjoint_left]
  intro i hx hy
  simp only [kvSet, Finset.mem_filter, Finset.mem_univ, true_and] at hx hy
  exact h (Prod.ext (Fin.ext (hx.2.2.symm.trans hy.2.2)) (Prod.ext (Fin.ext (hx.1.symm.trans hy.1)) (Fin.ext (hx.2.1.symm.trans hy.2.1))))
theorem kv_parts_cover (i : S2x2x2x128x256.Idx) : ∃ x : Fin 2 × Fin 2 × Fin 2, i ∈ kvSet x.1 x.2.1 x.2.2 := by
  have h3 : (i 3).val < 128 := (i 3).isLt
  exact ⟨(⟨(i 3).val / 64, by omega⟩, ⟨(i 0).val, (i 0).isLt⟩, ⟨(i 1).val, (i 1).isLt⟩), by simp [kvSet]⟩
theorem bf_parts_disjoint (x y : Fin 2 × Fin 2) (h : x ≠ y) : Disjoint (bfSet x.1 x.2) (bfSet y.1 y.2) := by
  rw [Finset.disjoint_left]
  intro i hx hy
  simp only [bfSet, Finset.mem_filter, Finset.mem_univ, true_and] at hx hy
  exact h (Prod.ext (Fin.ext (hx.1.symm.trans hy.1)) (Fin.ext (hx.2.symm.trans hy.2)))
theorem bf_parts_cover (i : S2x2x2x64x512.Idx) : ∃ x : Fin 2 × Fin 2, i ∈ bfSet x.1 x.2 :=
  ⟨(⟨(i 0).val, (i 0).isLt⟩, ⟨(i 1).val, (i 1).isLt⟩), by simp [bfSet]⟩

/-! ## Chains over the index types -/

/-- The transfers a device does not make. -/
def unsent (c : Dev nD) : List (Dev nD × Fin 2 × Fin 2) :=
  if c = 0 then [(0, 0, 0), (0, 0, 1), (0, 1, 0), (0, 1, 1)] else if c = 2 then [(2, 0, 0), (2, 0, 1), (2, 1, 0), (2, 1, 1)]
  else [(0, 0, 0), (0, 0, 1), (0, 1, 0), (0, 1, 1), (1, 0, 0), (1, 0, 1), (1, 1, 0), (1, 1, 1),
    (2, 0, 0), (2, 0, 1), (2, 1, 0), (2, 1, 1), (3, 0, 0), (3, 0, 1), (3, 1, 0), (3, 1, 1)]

theorem sends_nodup (c : Dev nD) : (sends c ++ unsent c).Nodup := by revert c; decide
theorem sends_all (c : Dev nD) : (Finset.univ : Finset (Dev nD × Fin 2 × Fin 2)) = (sends c ++ unsent c).toFinset := by revert c; decide
theorem unsent_unpaid (c : Dev nD) : ∀ x ∈ unsent c, payers c (.ks x.1 x.2.1 x.2.2) = ∅ := by revert c; decide

section Chains
variable {M : Type} [URA M]

theorem sep_sends (c : Dev nD) (Φ : Dev nD × Fin 2 × Fin 2 → sProp M) : bigSep Finset.univ Φ = iprop(bigSepL (sends c) Φ ∗ bigSepL (unsent c) Φ) := by
  rw [← bigSepL_append]; exact bigSep_univ_eq_bigSepL _ (sends_all c) (sends_nodup c) Φ
theorem sep_eight (Φ : Fin 2 × Fin 2 × Fin 2 → sProp M) : bigSep Finset.univ Φ
    = iprop(Φ (0, 0, 0) ∗ Φ (0, 0, 1) ∗ Φ (0, 1, 0) ∗ Φ (0, 1, 1) ∗ Φ (1, 0, 0) ∗ Φ (1, 0, 1) ∗ Φ (1, 1, 0) ∗ Φ (1, 1, 1)) :=
  bigSep_univ_eq_bigSepL [(0, 0, 0), (0, 0, 1), (0, 1, 0), (0, 1, 1), (1, 0, 0), (1, 0, 1), (1, 1, 0), (1, 1, 1)] (by decide) (by decide) Φ
theorem sep_four (Φ : Fin 2 × Fin 2 → sProp M) : bigSep Finset.univ Φ = iprop(Φ (0, 0) ∗ Φ (0, 1) ∗ Φ (1, 0) ∗ Φ (1, 1)) :=
  bigSep_univ_eq_bigSepL [(0, 0), (0, 1), (1, 0), (1, 1)] (by decide) (by decide) Φ
end Chains

/-! ## A device's own semaphores -/

/-- All but the entry barrier, which the program shares between its regions. -/
abbrev KK : Type := Unit ⊕ (Dev nD × Fin 2 × Fin 2) ⊕ (Fin 2 × Fin 2 × Fin 2) ⊕ (Fin 2 × Fin 2) ⊕ (Fin 2 × Fin 2)

def toCl : KK → Cl
  | .inl _ => .ex
  | .inr (.inl x) => .ks x.1 x.2.1 x.2.2
  | .inr (.inr (.inl x)) => .kr x.1 x.2.1 x.2.2
  | .inr (.inr (.inr (.inl x))) => .bs x.1 x.2
  | .inr (.inr (.inr (.inr x))) => .br x.1 x.2

theorem toCl_inj : Function.Injective toCl := by
  rintro (a | a | a | a | a) (b | b | b | b | b) h <;> simp [toCl] at h <;> simp [Prod.ext_iff, h]
theorem toCl_ne (k : KK) : toCl k ≠ .bar := by rcases k with a | a | a | a | a <;> simp [toCl]
theorem toCl_surj (k : Cl) : k = .bar ∨ ∃ i, toCl i = k := by
  cases k with
  | bar => exact .inl rfl
  | ex => exact .inr ⟨.inl (), rfl⟩
  | ks j p t => exact .inr ⟨.inr (.inl (j, p, t)), rfl⟩
  | kr a p t => exact .inr ⟨.inr (.inr (.inl (a, p, t))), rfl⟩
  | bs p st => exact .inr ⟨.inr (.inr (.inr (.inl (p, st)))), rfl⟩
  | br p st => exact .inr ⟨.inr (.inr (.inr (.inr (p, st)))), rfl⟩

theorem sep_own {M : Type} [URA M] (Φ : Cl → sProp M) : (bigSep Finset.univ fun k : KK => Φ (toCl k))
    = iprop(Φ .ex ∗ (bigSep Finset.univ fun x : Dev nD × Fin 2 × Fin 2 => Φ (.ks x.1 x.2.1 x.2.2))
      ∗ (Φ (.kr 0 0 0) ∗ Φ (.kr 0 0 1) ∗ Φ (.kr 0 1 0) ∗ Φ (.kr 0 1 1) ∗ Φ (.kr 1 0 0) ∗ Φ (.kr 1 0 1) ∗ Φ (.kr 1 1 0) ∗ Φ (.kr 1 1 1))
      ∗ (Φ (.bs 0 0) ∗ Φ (.bs 0 1) ∗ Φ (.bs 1 0) ∗ Φ (.bs 1 1)) ∗ (Φ (.br 0 0) ∗ Φ (.br 0 1) ∗ Φ (.br 1 0) ∗ Φ (.br 1 1))) := by
  rw [bigSep_univ_sum, bigSep_univ_sum, bigSep_univ_sum, bigSep_univ_sum, sep_eight, sep_four, sep_four,
    show bigSep Finset.univ (fun a : Unit => Φ (toCl (.inl a))) = Φ .ex from bigSep_univ_eq_bigSepL [()] (by decide) (by decide) _]
  rfl

variable (I : Inp F) (K : GSem nD τ sig → ℕ) (c : Dev nD)

/-- A counter whose round is over is taken back at zero; so is one that is never credited. -/
def Cd (k : Cl) : sProp (MT nD τ sig ℕ (Elt F) ℕ UU ℕ) := iprop(|={Set.univ}=> semVal (cell c k) 0)

theorem cd_of_dn (k : Cl) : Facts I K c ⊢ iprop(Dn c k -∗ Cd c k) := by
  unfold Facts Dn Cd
  iintro ⟨#HI, -⟩ Ha
  iapply (Rounds.cell_close ER (Rd I) (g := cell c k) (Set.mem_univ (K (cell c k))) (fun h => h) (R := 1) (duties_later I _))
  isplitr; · iapply (invs_at I K c k); iexact HI
  iexact Ha

theorem cd_of_at (k : Cl) (h : payers c k = ∅) : Facts I K c ⊢ iprop(At c k -∗ Cd c k) := by
  unfold Facts At Cd
  iintro ⟨#HI, -⟩ Ha
  iapply (Rounds.cell_close ER (Rd I) (g := cell c k) (Set.mem_univ (K (cell c k))) (fun h => h) (R := 0) (fun r _ => by
    rcases Nat.eq_zero_or_pos r with rfl | hr
    · rw [duties_cell, h]
    · exact duties_later I _ r hr))
  isplitr; · iapply (invs_at I K c k); iexact HI
  iexact Ha

theorem cd_of_slot (a p t : Fin 2) : Facts I K c ⊢ iprop(SlotDn c a p t -∗ Cd c (.kr a p t)) := by
  unfold SlotDn
  by_cases h : c = snd a
  · rw [if_pos h]; exact cd_of_at I K c _ (if_pos h)
  · rw [if_neg h]; exact cd_of_dn I K c _

/-! ## Entry -/

/-- A device's credits: of the barriers, of the slots it is sent, of the exchange. -/
def creds : sProp (MT nD τ sig ℕ (Elt F) ℕ UU ℕ) :=
  iprop(Cr c .bar ∗ Cr c .ex
    ∗ (if c = snd 0 then emp else iprop(Cr c (.kr 0 0 0) ∗ Cr c (.kr 0 0 1) ∗ Cr c (.kr 0 1 0) ∗ Cr c (.kr 0 1 1)))
    ∗ (if c = snd 1 then emp else iprop(Cr c (.kr 1 0 0) ∗ Cr c (.kr 1 0 1) ∗ Cr c (.kr 1 1 0) ∗ Cr c (.kr 1 1 1)))
    ∗ (Cr c (.br 0 0) ∗ Cr c (.br 0 1) ∗ Cr c (.br 1 0) ∗ Cr c (.br 1 1)))

/-- The payments a device makes to itself, as its transfers leave. -/
def selfDue : List (Dev nD × Cl) := (sends c).map (fun x => (c, .ks x.1 x.2.1 x.2.2)) ++ [(c, .bs 0 0), (c, .bs 0 1), (c, .bs 1 0), (c, .bs 1 1)]

/-- The rights to pay. -/
def toks : sProp (MT nD τ sig ℕ (Elt F) ℕ UU ℕ) := bigSepL (due c ++ selfDue c) fun x => dutyTok ER (cell x.1 x.2) 0 c

/-- The scratch buffers, with any contents. -/
def scratch : sProp (MT nD τ sig ℕ (Elt F) ℕ UU ℕ) :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f))

/-- The staged arguments. -/
def args : sProp (MT nD τ sig ℕ (Elt F) ℕ UU ℕ) := iprop(Srcs I c ∗ Xq I c ∗ Wo I c)

/-- What a device enters the kernel with beside its buffers. -/
def ghosts : sProp (MT nD τ sig ℕ (Elt F) ℕ UU ℕ) :=
  iprop(At c .bar ∗ (bigSep Finset.univ fun k : KK => At c (toCl k)) ∗ creds c ∗ toks c ∗ ∃ W, owes (c : Thread nD τ) (owed (due c)) W)

/-- What the run does not touch: the parts of the send buffer for the transfers not made, and their counters. -/
def spare : sProp (MT nD τ sig ℕ (Elt F) ℕ UU ℕ) :=
  iprop((bigSepL (unsent c) fun x => iprop(∃ f, sndReg c x.1 x.2.1 x.2.2 f)) ∗ bigSepL (unsent c) fun x => At c (.ks x.1 x.2.1 x.2.2))

theorem snd_split : iprop(∃ f : Buf (Elt F) ((c : Thread nD τ).loc cc0_scratch0), ((c : Thread nD τ).loc cc0_scratch0) ↦{fullShare} f)
    ⊢ (iprop((bigSepL (sends c) fun x => iprop(∃ f, sndReg c x.1 x.2.1 x.2.2 f)) ∗ bigSepL (unsent c) fun x => iprop(∃ f, sndReg c x.1 x.2.1 x.2.2 f)) : sProp (MT nD τ sig ℕ (Elt F) ℕ UU ℕ)) :=
  (split_parts (ℓ := (c : Thread nD τ).loc cc0_scratch0) (fun x : Fin 4 × Fin 2 × Fin 2 => sndSet x.1 x.2.1 x.2.2) snd_parts_disjoint snd_parts_cover).trans
    (Entails.of_eq (sep_sends c _))
theorem snd_join (f₀ : Buf (Elt F) ((c : Thread nD τ).loc cc0_scratch0)) :
    (iprop((bigSepL (sends c) fun x => iprop(∃ f, sndReg c x.1 x.2.1 x.2.2 f)) ∗ bigSepL (unsent c) fun x => iprop(∃ f, sndReg c x.1 x.2.1 x.2.2 f)) : sProp (MT nD τ sig ℕ (Elt F) ℕ UU ℕ))
    ⊢ iprop(∃ f : Buf (Elt F) ((c : Thread nD τ).loc cc0_scratch0), ((c : Thread nD τ).loc cc0_scratch0) ↦{fullShare} f) :=
  (Entails.of_eq (sep_sends c _).symm).trans
    (join_parts (ℓ := (c : Thread nD τ).loc cc0_scratch0) (fun x : Fin 4 × Fin 2 × Fin 2 => sndSet x.1 x.2.1 x.2.2) snd_parts_disjoint snd_parts_cover f₀)

theorem kv_split : iprop(∃ f : Buf (Elt F) ((c : Thread nD τ).loc cc0_scratch1), ((c : Thread nD τ).loc cc0_scratch1) ↦{fullShare} f)
    ⊢ (iprop(kvFull c 0 ∗ kvFull c 1) : sProp (MT nD τ sig ℕ (Elt F) ℕ UU ℕ)) := by
  refine (split_parts (ℓ := (c : Thread nD τ).loc cc0_scratch1) (fun x : Fin 2 × Fin 2 × Fin 2 => kvSet x.1 x.2.1 x.2.2) kv_parts_disjoint kv_parts_cover).trans ?_
  rw [sep_eight]
  unfold kvFull
  iintro ⟨A1, A2, A3, A4, B⟩
  iframe
theorem kv_join (f₀ : Buf (Elt F) ((c : Thread nD τ).loc cc0_scratch1)) : (iprop(kvFull c 0 ∗ kvFull c 1) : sProp (MT nD τ sig ℕ (Elt F) ℕ UU ℕ))
    ⊢ iprop(∃ f : Buf (Elt F) ((c : Thread nD τ).loc cc0_scratch1), ((c : Thread nD τ).loc cc0_scratch1) ↦{fullShare} f) := by
  refine BIBase.Entails.trans ?_ (join_parts (ℓ := (c : Thread nD τ).loc cc0_scratch1) (fun x : Fin 2 × Fin 2 × Fin 2 => kvSet x.1 x.2.1 x.2.2) kv_parts_disjoint kv_parts_cover f₀)
  rw [sep_eight]
  unfold kvFull
  iintro ⟨⟨A1, A2, A3, A4⟩, B⟩
  iframe

theorem bfs_split : iprop(∃ f : Buf (Elt F) ((c : Thread nD τ).loc cc0_scratch2), ((c : Thread nD τ).loc cc0_scratch2) ↦{fullShare} f)
    ⊢ (iprop((∃ f, bfsReg c 0 0 f) ∗ (∃ f, bfsReg c 0 1 f) ∗ (∃ f, bfsReg c 1 0 f) ∗ (∃ f, bfsReg c 1 1 f)) : sProp (MT nD τ sig ℕ (Elt F) ℕ UU ℕ)) :=
  (split_parts (ℓ := (c : Thread nD τ).loc cc0_scratch2) (fun x : Fin 2 × Fin 2 => bfSet x.1 x.2) bf_parts_disjoint bf_parts_cover).trans (Entails.of_eq (sep_four _))
theorem bfs_join (f₀ : Buf (Elt F) ((c : Thread nD τ).loc cc0_scratch2)) :
    (iprop((∃ f, bfsReg c 0 0 f) ∗ (∃ f, bfsReg c 0 1 f) ∗ (∃ f, bfsReg c 1 0 f) ∗ (∃ f, bfsReg c 1 1 f)) : sProp (MT nD τ sig ℕ (Elt F) ℕ UU ℕ))
    ⊢ iprop(∃ f : Buf (Elt F) ((c : Thread nD τ).loc cc0_scratch2), ((c : Thread nD τ).loc cc0_scratch2) ↦{fullShare} f) :=
  (Entails.of_eq (sep_four fun x : Fin 2 × Fin 2 => iprop(∃ f, bfsReg c x.1 x.2 f)).symm).trans
    (join_parts (ℓ := (c : Thread nD τ).loc cc0_scratch2) (fun x : Fin 2 × Fin 2 => bfSet x.1 x.2) bf_parts_disjoint bf_parts_cover f₀)
theorem bfr_split : iprop(∃ f : Buf (Elt F) ((c : Thread nD τ).loc cc0_scratch3), ((c : Thread nD τ).loc cc0_scratch3) ↦{fullShare} f)
    ⊢ (bfrFull c : sProp (MT nD τ sig ℕ (Elt F) ℕ UU ℕ)) :=
  (split_parts (ℓ := (c : Thread nD τ).loc cc0_scratch3) (fun x : Fin 2 × Fin 2 => bfSet x.1 x.2) bf_parts_disjoint bf_parts_cover).trans (Entails.of_eq (sep_four _))
theorem bfr_join (f₀ : Buf (Elt F) ((c : Thread nD τ).loc cc0_scratch3)) : (bfrFull c : sProp (MT nD τ sig ℕ (Elt F) ℕ UU ℕ))
    ⊢ iprop(∃ f : Buf (Elt F) ((c : Thread nD τ).loc cc0_scratch3), ((c : Thread nD τ).loc cc0_scratch3) ↦{fullShare} f) :=
  (Entails.of_eq (sep_four fun x : Fin 2 × Fin 2 => iprop(∃ f, bfrReg c x.1 x.2 f)).symm).trans
    (join_parts (ℓ := (c : Thread nD τ).loc cc0_scratch3) (fun x : Fin 2 × Fin 2 => bfSet x.1 x.2) bf_parts_disjoint bf_parts_cover f₀)

theorem pair_up {J : Type} (l : List J) (Φ Ψ : J → sProp (MT nD τ sig ℕ (Elt F) ℕ UU ℕ)) : iprop(bigSepL l Φ ∗ bigSepL l Ψ) ⊢ bigSepL l fun x => iprop(Φ x ∗ Ψ x) := by
  induction l with
  | nil => simp only [bigSepL_nil]; iintro ⟨H, -⟩; iexact H
  | cons x l ih =>
    simp only [bigSepL_cons']
    iintro ⟨⟨A, B⟩, C, D⟩
    isplitl [A C]; · isplitl [A] <;> iassumption
    iapply ih; isplitl [B] <;> iassumption
theorem pair_off {J : Type} (l : List J) (Φ Ψ : J → sProp (MT nD τ sig ℕ (Elt F) ℕ UU ℕ)) : (bigSepL l fun x => iprop(Φ x ∗ Ψ x)) ⊢ iprop(bigSepL l Φ ∗ bigSepL l Ψ) := by
  induction l with
  | nil => simp only [bigSepL_nil]; iintro H; isplitl [H]; · iexact H
           iempintro
  | cons x l ih =>
    simp only [bigSepL_cons']
    iintro ⟨⟨A, B⟩, C⟩
    ihave C' := ih $$ C
    icases C' with ⟨C, D⟩
    isplitl [A C]; · isplitl [A] <;> iassumption
    isplitl [B] <;> iassumption

/-- The slots: those a device fills itself, and those it lends. -/
theorem kv_deal : iprop(kvFull c 0 ∗ kvFull c 1) ⊢ (iprop(ownPre c ∗ (if c = snd 0 then emp else kvFull c 0) ∗ (if c = snd 1 then emp else kvFull c 1)) : sProp (MT nD τ sig ℕ (Elt F) ℕ UU ℕ)) := by
  unfold ownPre
  by_cases h0 : c = snd 0
  · have h1 : ¬ c = snd 1 := fun h => absurd (h0.symm.trans h) (by decide)
    simp only [if_pos h0, if_neg h1]
    iintro ⟨A, B⟩
    isplitl [A]; · isplitl [A]; · iexact A
                   iempintro
    isplitr; · iempintro
    iexact B
  · by_cases h1 : c = snd 1
    · simp only [if_neg h0, if_pos h1]
      iintro ⟨A, B⟩
      isplitl [B]; · isplitr; · iempintro
                     iexact B
      isplitl [A]; · iexact A
      iempintro
    · simp only [if_neg h0, if_neg h1]
      iintro ⟨A, B⟩
      isplitr; · isplitr <;> iempintro
      isplitl [A] <;> iassumption

theorem kr_deal (a : Fin 2) : iprop((if c = snd a then emp else iprop(Cr c (.kr a 0 0) ∗ Cr c (.kr a 0 1) ∗ Cr c (.kr a 1 0) ∗ Cr c (.kr a 1 1)))
      ∗ (At c (.kr a 0 0) ∗ At c (.kr a 0 1) ∗ At c (.kr a 1 0) ∗ At c (.kr a 1 1)))
    ⊢ (iprop(KrPre c a 0 0 ∗ KrPre c a 0 1 ∗ KrPre c a 1 0 ∗ KrPre c a 1 1) : sProp (MT nD τ sig ℕ (Elt F) ℕ UU ℕ)) := by
  unfold KrPre
  by_cases h : c = snd a
  · simp only [if_pos h]; iintro ⟨-, H⟩; iexact H
  · simp only [if_neg h]; iintro ⟨⟨A1, A2, A3, A4⟩, B1, B2, B3, B4⟩; iframe

theorem bs_list (Φ : Dev nD × Cl → sProp (MT nD τ sig ℕ (Elt F) ℕ UU ℕ)) : bigSepL [(c, .bs 0 0), (c, .bs 0 1), (c, .bs 1 0), (c, .bs 1 1)] Φ
    = iprop(Φ (c, .bs 0 0) ∗ Φ (c, .bs 0 1) ∗ Φ (c, .bs 1 0) ∗ Φ (c, .bs 1 1)) := rfl

theorem entry (f) : iprop(Facts I K c ∗ ghosts c ∗ scratch c ∗ args I c ∗ Out c f) ⊢ iprop(preA I c ∗ restPre I c f ∗ spare c) := by
  unfold ghosts scratch args creds toks spare preA restPre Dues sndPre
  rw [sep_own, sep_sends c, bigSepL_append, selfDue, bigSepL_append, bigSepL_map, bs_list]
  iintro ⟨#HF, ⟨Hab, ⟨Hax, ⟨Hks, Hku⟩, ⟨K0, K1, K2, K3, K4⟩, Habs, ⟨R0, R1, R2, R3⟩⟩, ⟨Hcb, Hcx, Hc0, Hc1, C0, C1, C2, C3⟩, ⟨Htd, Hts, Htb⟩, HO⟩, ⟨S0, S1, S2, S3⟩, ⟨Hsrc, Hxq, Hwo⟩, Hout⟩
  ihave S0' := (snd_split c) $$ S0
  icases S0' with ⟨S0, U0⟩
  ihave S1' := (kv_split c) $$ S1
  ihave S1'' := (kv_deal c) $$ S1'
  icases S1'' with ⟨Own, G0, G1⟩
  ihave S2' := (bfs_split c) $$ S2
  ihave S3' := (bfr_split c) $$ S3
  ihave HB := (barGive I K c) $$ [G0 G1 S3']
  · isplitr; · iexact HF
    isplitl [G0]; · iexact G0
    isplitl [G1] <;> iassumption
  ihave HS := (pair_up (sends c) _ _) $$ [S0 Hts]
  · isplitl [S0] <;> iassumption
  ihave HK0 := (kr_deal c 0) $$ [Hc0 K0 K1 K2 K3]
  · isplitl [Hc0]; · iexact Hc0
    iframe
  ihave HK1 := (kr_deal c 1) $$ [Hc1 K4]
  · isplitl [Hc1]; · iexact Hc1
    iexact K4
  isplitl [Hcb Hab HB Hsrc Hxq HS Own HO Htd]
  · isplitl [Hcb]; · iexact Hcb
    isplitl [Hab]; · iexact Hab
    isplitl [HB]; · iexact HB
    isplitl [Hsrc]; · iexact Hsrc
    isplitl [Hxq]; · iexact Hxq
    isplitl [HS]; · iexact HS
    isplitl [Own]; · iexact Own
    isplitl [HO] <;> iassumption
  isplitr [U0 Hku]
  · isplitl [Hwo]; · iexact Hwo
    isplitl [Hout]; · iexact Hout
    isplitl [Hcx Hax]; · isplitl [Hcx] <;> iassumption
    isplitl [S2']; · iexact S2'
    isplitl [Htb]; · iexact Htb
    isplitl [Habs]; · iexact Habs
    isplitl [C0 C1 C2 C3 R0 R1 R2 R3]; · iframe
    isplitl [HK0 HK1]; · isplitl [HK0] <;> iassumption
    iexact Hks
  isplitl [U0] <;> iassumption

/-! ## Exit -/

theorem cd_list (l : List (Dev nD × Fin 2 × Fin 2)) (Φ : Cl → sProp (MT nD τ sig ℕ (Elt F) ℕ UU ℕ))
    (h : ∀ x ∈ l, Facts I K c ⊢ iprop(Φ (.ks x.1 x.2.1 x.2.2) -∗ Cd c (.ks x.1 x.2.1 x.2.2))) :
    Facts I K c ⊢ iprop((bigSepL l fun x => Φ (.ks x.1 x.2.1 x.2.2)) -∗ bigSepL l fun x => Cd c (.ks x.1 x.2.1 x.2.2)) := by
  induction l with
  | nil => iintro - H; iexact H
  | cons x l ih =>
    simp only [bigSepL_cons']
    iintro #HF ⟨A, B⟩
    isplitl [A]
    · iapply (h x List.mem_cons_self) $$ HF A
    · iapply (ih fun y hy => h y (List.mem_cons_of_mem _ hy)) $$ HF B

theorem exit : iprop(Facts I K c ∗ bodyPost I c ∗ spare c)
    ⊢ iprop(|={Set.univ}=> (semVal (cell c .bar) 0 ∗ (bigSep Finset.univ fun k : KK => semVal (cell c (toCl k)) 0) ∗ scratch c ∗ args I c ∗ Out c (outV I c)
      ∗ ∃ W, owes (c : Thread nD τ) (0 : CellTallies nD τ sig ℕ) W)) := by
  unfold bodyPost spare args Dues
  iintro ⟨#HF, ⟨Hsrc, Hxq, Hwo, Hout, Db, Dx, ⟨B0, B1, B2, B3⟩, ⟨D0, D1, D2, D3⟩, ⟨R0, R1, R2, R3⟩, ⟨E0, E1, E2, E3⟩, ⟨V0, V1⟩, ⟨⟨L0, L1, L2, L3⟩, L4, L5, L6, L7⟩, HS, HO, -⟩, U0, Hku⟩
  unfold ksPost
  ihave HS' := (pair_off (sends c) _ _) $$ HS
  icases HS' with ⟨S0, Dks⟩
  -- the counters
  ihave Db := (cd_of_dn I K c .bar) $$ HF Db
  ihave HC : (bigSep Finset.univ fun k : KK => Cd (F := F) c (toCl k)) $$ [Dx Dks Hku L0 L1 L2 L3 L4 L5 L6 L7 D0 D1 D2 D3 E0 E1 E2 E3]
  · rw [sep_own, sep_sends c]
    isplitl [Dx]; · iapply (cd_of_dn I K c .ex) $$ HF Dx
    isplitl [Dks Hku]
    · isplitl [Dks]
      · iapply (cd_list I K c (sends c) (Dn c) fun x _ => cd_of_dn I K c _) $$ HF Dks
      · iapply (cd_list I K c (unsent c) (At c) fun x hx => cd_of_at I K c _ (unsent_unpaid c x hx)) $$ HF Hku
    isplitl [L0 L1 L2 L3 L4 L5 L6 L7]
    · isplitl [L0]; · iapply (cd_of_slot I K c 0 0 0) $$ HF L0
      isplitl [L1]; · iapply (cd_of_slot I K c 0 0 1) $$ HF L1
      isplitl [L2]; · iapply (cd_of_slot I K c 0 1 0) $$ HF L2
      isplitl [L3]; · iapply (cd_of_slot I K c 0 1 1) $$ HF L3
      isplitl [L4]; · iapply (cd_of_slot I K c 1 0 0) $$ HF L4
      isplitl [L5]; · iapply (cd_of_slot I K c 1 0 1) $$ HF L5
      isplitl [L6]; · iapply (cd_of_slot I K c 1 1 0) $$ HF L6
      iapply (cd_of_slot I K c 1 1 1) $$ HF L7
    isplitl [D0 D1 D2 D3]
    · isplitl [D0]; · iapply (cd_of_dn I K c (.bs 0 0)) $$ HF D0
      isplitl [D1]; · iapply (cd_of_dn I K c (.bs 0 1)) $$ HF D1
      isplitl [D2]; · iapply (cd_of_dn I K c (.bs 1 0)) $$ HF D2
      iapply (cd_of_dn I K c (.bs 1 1)) $$ HF D3
    isplitl [E0]; · iapply (cd_of_dn I K c (.br 0 0)) $$ HF E0
    isplitl [E1]; · iapply (cd_of_dn I K c (.br 0 1)) $$ HF E1
    isplitl [E2]; · iapply (cd_of_dn I K c (.br 1 0)) $$ HF E2
    iapply (cd_of_dn I K c (.br 1 1)) $$ HF E3
  unfold Cd
  ihave HC := (bigSep_fupd Finset.univ fun k : KK => (semVal (cell c (toCl k)) 0 : sProp (MT nD τ sig ℕ (Elt F) ℕ UU ℕ))) $$ HC
  imod Db
  imod HC
  imodintro
  isplitl [Db]; · iexact Db
  isplitl [HC]; · iexact HC
  isplitl [S0 U0 V0 V1 B0 B1 B2 B3 R0 R1 R2 R3]
  · unfold scratch
    isplitl [S0 U0]
    · iapply (snd_join c (sndB I c))
      isplitl [S0]
      · iapply (bigSepL_mono (l := sends c) fun x _ => (show (sndReg c x.1 x.2.1 x.2.2 (sndB I c) : sProp (MT nD τ sig ℕ (Elt F) ℕ UU ℕ)) ⊢ iprop(∃ f, sndReg c x.1 x.2.1 x.2.2 f) from by
          iintro H; iexists _; iexact H)) $$ S0
      · iexact U0
    isplitl [V0 V1]
    · iapply (kv_join c (kvB I c))
      unfold kvGot kvFull
      icases V0 with ⟨A0, A1, A2, A3⟩
      icases V1 with ⟨A4, A5, A6, A7⟩
      isplitl [A0 A1 A2 A3]
      · isplitl [A0]; · iexists _; iexact A0
        isplitl [A1]; · iexists _; iexact A1
        isplitl [A2]; · iexists _; iexact A2
        iexists _; iexact A3
      · isplitl [A4]; · iexists _; iexact A4
        isplitl [A5]; · iexists _; iexact A5
        isplitl [A6]; · iexists _; iexact A6
        iexists _; iexact A7
    isplitl [B0 B1 B2 B3]
    · iapply (bfs_join c (bfsB I c))
      isplitl [B0]; · iexists _; iexact B0
      isplitl [B1]; · iexists _; iexact B1
      isplitl [B2]; · iexists _; iexact B2
      iexists _; iexact B3
    · iapply (bfr_join c (bfrB I c))
      unfold bfrFull
      isplitl [R0]; · iexists _; iexact R0
      isplitl [R1]; · iexists _; iexact R1
      isplitl [R2]; · iexists _; iexact R2
      iexists _; iexact R3
  isplitl [Hsrc Hxq Hwo]
  · isplitl [Hsrc]; · iexact Hsrc
    isplitl [Hxq] <;> iassumption
  isplitl [Hout]; · iexact Hout
  iexact HO

end Cert.KernelIdeal.Mesh

end
-- ==== Proof.Region.lean ====
/-
  The kernel's region: what its windows hold, the body's run at its one point, and the region entered with the rights
  that the launch deals and left with the result on every device.
-/
module

public import proofs.«01_k».proof.Proof.Split
public import Idealize.ShloMosaic.Lib.Pipeline.ValueKit

@[expose] public section

set_option maxRecDepth 16384

noncomputable section

namespace Cert.KernelIdeal.Mesh

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.SiteBlocks (L lv)

variable {F : FTy → Type} [FloatOps F]

variable (m : (ℓ : Loc nD τ sig) → Buf (Elt F) ℓ)

/-- The staged inputs: the arrays as the host operations leave them. -/
def inp : Inp F where
  x c := V m c main_arg0
  wq c := V m c main_arg1
  k c := V m c main_v1
  v c := V m c main_v2
  wo c := V m c main_arg4

section Blocks
variable (c : Dev nD)

/-- Each window is its whole array. -/
theorem read_0 (f : Buf (Elt F) ((c : Thread nD τ).loc main_arg0)) : (win0_0.blk t0_0).view.read (Elt F) f = f :=
  Memref.read_access_unit_zero (Elt F) main_arg0 (show (fun a => (win0_0.index t0_0) a * main_arg0.ty.shape.size a) = fun _ => 0 from
    funext fun a => by fin_cases a <;> decide) (fun a => by fin_cases a <;> decide) f
@[inherit_doc read_0] theorem read_1 (f : Buf (Elt F) ((c : Thread nD τ).loc main_arg1)) : (win0_1.blk t0_0).view.read (Elt F) f = f :=
  Memref.read_access_unit_zero (Elt F) main_arg1 (show (fun a => (win0_1.index t0_0) a * main_arg1.ty.shape.size a) = fun _ => 0 from
    funext fun a => by fin_cases a <;> decide) (fun a => by fin_cases a <;> decide) f
@[inherit_doc read_0] theorem read_2 (f : Buf (Elt F) ((c : Thread nD τ).loc main_v1)) : (win0_2.blk t0_0).view.read (Elt F) f = f :=
  Memref.read_access_unit_zero (Elt F) main_v1 (show (fun a => (win0_2.index t0_0) a * main_v1.ty.shape.size a) = fun _ => 0 from
    funext fun a => by fin_cases a <;> decide) (fun a => by fin_cases a <;> decide) f
@[inherit_doc read_0] theorem read_3 (f : Buf (Elt F) ((c : Thread nD τ).loc main_v2)) : (win0_3.blk t0_0).view.read (Elt F) f = f :=
  Memref.read_access_unit_zero (Elt F) main_v2 (show (fun a => (win0_3.index t0_0) a * main_v2.ty.shape.size a) = fun _ => 0 from
    funext fun a => by fin_cases a <;> decide) (fun a => by fin_cases a <;> decide) f
@[inherit_doc read_0] theorem read_4 (f : Buf (Elt F) ((c : Thread nD τ).loc main_arg4)) : (win0_4.blk t0_0).view.read (Elt F) f = f :=
  Memref.read_access_unit_zero (Elt F) main_arg4 (show (fun a => (win0_4.index t0_0) a * main_arg4.ty.shape.size a) = fun _ => 0 from
    funext fun a => by fin_cases a <;> decide) (fun a => by fin_cases a <;> decide) f
@[inherit_doc read_0] theorem read_5 (f : Buf (Elt F) ((c : Thread nD τ).loc main_v3)) : (win0_5.blk t0_0).view.read (Elt F) f = f :=
  Memref.read_access_unit_zero (Elt F) main_v3 (show (fun a => (win0_5.index t0_0) a * main_v3.ty.shape.size a) = fun _ => 0 from
    funext fun a => by fin_cases a <;> decide) (fun a => by fin_cases a <;> decide) f

theorem iblk_0 : iblk m c 0 t0_0 = (inp m).x c := read_0 c _
theorem iblk_1 : iblk m c 1 t0_0 = (inp m).wq c := read_1 c _
theorem iblk_2 : iblk m c 2 t0_0 = (inp m).k c := read_2 c _
theorem iblk_3 : iblk m c 3 t0_0 = (inp m).v c := read_3 c _
theorem iblk_4 : iblk m c 4 t0_0 = (inp m).wo c := read_4 c _

/-! ## The proof data -/

/-- What the body finds beside its staging buffers, and what it leaves. -/
def Enter : sProp (MT nD τ sig ℕ (Elt F) ℕ UU ℕ) :=
  iprop((∃ K, Facts (inp m) K c) ∗ Bars ∗ At c .bar ∗ (bigSep Finset.univ fun k : KK => At c (toCl k)) ∗ creds c ∗ toks c ∗ scratch c ∗ ∃ r, prngReg c r)
@[inherit_doc Enter] def Leave : sProp (MT nD τ sig ℕ (Elt F) ℕ UU ℕ) :=
  iprop(semVal (cell c .bar) 0 ∗ (bigSep Finset.univ fun k : KK => semVal (cell c (toCl k)) 0) ∗ scratch c ∗ ∃ r, prngReg c r)

def dat0 : Dat τ (Elt F) ℕ ℕ UU ℕ cfg0 c where
  A w := V m c (Pipeline.arrRef spec0 w)
  after := fun
    | 0 => fun t => iblk m c 0 t
    | 1 => fun t => iblk m c 1 t
    | 2 => fun t => iblk m c 2 t
    | 3 => fun t => iblk m c 3 t
    | 4 => fun t => iblk m c 4 t
    | 5 => fun _ => outV (inp m) c
    | ⟨_ + 6, h⟩ => absurd h (Nat.not_lt.2 (Nat.le_add_left _ _))
  Φ t := if t.val = 0 then Enter m c else Leave c
  q _ := fullShare
  owed t := if t.val = 0 then owed (due c) else 0

abbrev pdats : (p : Fin 1) → (c : Dev nD) → Dat τ (Elt F) ℕ ℕ UU ℕ (cfgs p) c
  | 0 => fun c => dat0 m c
abbrev adm : (p : Fin 1) → (pcfgs (F := F) p).Adm := fun p => (cfgs p).toPCfg_adm

theorem before_0 (t : Fin cfg0.N) (d) : (dat0 m c).before 0 t d = iblk m c 0 t :=
  ((dat0 m c).before_in_eq_fetched 0 rfl (fun _ => rfl) (fun _ _ _ => rfl) (fun _ => rfl) t d).trans rfl
theorem before_1 (t : Fin cfg0.N) (d) : (dat0 m c).before 1 t d = iblk m c 1 t :=
  ((dat0 m c).before_in_eq_fetched 1 rfl (fun _ => rfl) (fun _ _ _ => rfl) (fun _ => rfl) t d).trans rfl
theorem before_2 (t : Fin cfg0.N) (d) : (dat0 m c).before 2 t d = iblk m c 2 t :=
  ((dat0 m c).before_in_eq_fetched 2 rfl (fun _ => rfl) (fun _ _ _ => rfl) (fun _ => rfl) t d).trans rfl
theorem before_3 (t : Fin cfg0.N) (d) : (dat0 m c).before 3 t d = iblk m c 3 t :=
  ((dat0 m c).before_in_eq_fetched 3 rfl (fun _ => rfl) (fun _ _ _ => rfl) (fun _ => rfl) t d).trans rfl
theorem before_4 (t : Fin cfg0.N) (d) : (dat0 m c).before 4 t d = iblk m c 4 t :=
  ((dat0 m c).before_in_eq_fetched 4 rfl (fun _ => rfl) (fun _ _ _ => rfl) (fun _ => rfl) t d).trans rfl

theorem owed_first : (dat0 m c).owed t0_0.castSucc = owed (due c) := by
  show (if t0_0.castSucc.val = 0 then owed (due c) else 0) = _; exact if_pos rfl
theorem owed_zero : (dat0 m c).owed 0 = owed (due c) := by
  show (if (0 : Fin (cfg0.N + 1)).val = 0 then owed (due c) else 0) = _; exact if_pos rfl
theorem last_ne : ¬ (Fin.last cfg0.N).val = 0 := by rw [Fin.val_last, show cfg0.N = 1 from N_0]; decide
theorem owed_last : (dat0 m c).owed (Fin.last _) = 0 := by
  show (if (Fin.last cfg0.N).val = 0 then owed (due c) else 0) = _; exact if_neg last_ne
theorem phi_first : (dat0 m c).Φ t0_0.castSucc = Enter m c := by
  show (if t0_0.castSucc.val = 0 then Enter m c else Leave c) = _; exact if_pos rfl
theorem phi_zero : (dat0 m c).Φ 0 = Enter m c := by
  show (if (0 : Fin (cfg0.N + 1)).val = 0 then Enter m c else Leave c) = _; exact if_pos rfl
theorem phi_last : (dat0 m c).Φ (Fin.last _) = Leave c := by
  show (if (Fin.last cfg0.N).val = 0 then Enter m c else Leave c) = _; exact if_neg last_ne

theorem owesAt_intro {cfg : Pipeline.Cfg sig Λ₀} {c : Dev nD} (dat : Dat τ (Elt F) ℕ ℕ UU ℕ cfg c) (t : Fin (cfg.N + 1))
    (O : CellTallies nD τ sig ℕ) (h0 : dat.owed t = O) (W : Waits sig ℕ) (hr : dat.recorded t = Set.univ) :
    (owes (c : Thread nD τ) O W : sProp (MT nD τ sig ℕ (Elt F) ℕ UU ℕ)) ⊢ (dat.owesAt 0 t : sProp (MT nD τ sig ℕ (Elt F) ℕ UU ℕ)) := by
  unfold Dat.owesAt Pipeline.owesWithin Dat.bound; rw [h0, hr]
  iintro HO; iexists W; isplitr; · ipureintro; exact fun _ _ => Or.inl trivial
  iexact HO
theorem owesAt_elim {cfg : Pipeline.Cfg sig Λ₀} {c : Dev nD} (dat : Dat τ (Elt F) ℕ ℕ UU ℕ cfg c) (t : Fin (cfg.N + 1))
    (O : CellTallies nD τ sig ℕ) (h0 : dat.owed t = O) :
    (dat.owesAt 0 t : sProp (MT nD τ sig ℕ (Elt F) ℕ UU ℕ)) ⊢ iprop(∃ W, owes (c : Thread nD τ) O W) := by
  unfold Dat.owesAt Pipeline.owesWithin; rw [h0]
  iintro ⟨%W, -, HO⟩; iexists W; iexact HO

/-- The staging buffers as the arguments' and the result's. -/
theorem stages (f : Vec F S2x128x512 .bf16) :
    (iprop(owns (c : Thread nD τ) (st0_0 t0_0) fullShare (iblk m c 0 t0_0) ∗ owns (c : Thread nD τ) (st0_1 t0_0) fullShare (iblk m c 1 t0_0)
      ∗ owns (c : Thread nD τ) (st0_2 t0_0) fullShare (iblk m c 2 t0_0) ∗ owns (c : Thread nD τ) (st0_3 t0_0) fullShare (iblk m c 3 t0_0)
      ∗ owns (c : Thread nD τ) (st0_4 t0_0) fullShare (iblk m c 4 t0_0) ∗ owns (c : Thread nD τ) (st0_5 t0_0) fullShare f) : sProp (MT nD τ sig ℕ (Elt F) ℕ UU ℕ))
    = iprop(((c : Thread nD τ).loc cc0_stg0_0 ↦{fullShare} (inp m).x c) ∗ ((c : Thread nD τ).loc cc0_stg1_0 ↦{fullShare} (inp m).wq c)
      ∗ ((c : Thread nD τ).loc cc0_stg2_0 ↦{fullShare} (inp m).k c) ∗ ((c : Thread nD τ).loc cc0_stg3_0 ↦{fullShare} (inp m).v c)
      ∗ ((c : Thread nD τ).loc cc0_stg4_0 ↦{fullShare} (inp m).wo c) ∗ ((c : Thread nD τ).loc cc0_stg5_0 ↦{fullShare} f)) := by
  rw [iblk_0, iblk_1, iblk_2, iblk_3, iblk_4]
  exact congr (congrArg _ (owns_whole (c : Thread nD τ) cc0_stg0_0 fullShare _)) (congr (congrArg _ (owns_whole (c : Thread nD τ) cc0_stg1_0 fullShare _))
    (congr (congrArg _ (owns_whole (c : Thread nD τ) cc0_stg2_0 fullShare _)) (congr (congrArg _ (owns_whole (c : Thread nD τ) cc0_stg3_0 fullShare _))
    (congr (congrArg _ (owns_whole (c : Thread nD τ) cc0_stg4_0 fullShare _)) (owns_whole (c : Thread nD τ) cc0_stg5_0 fullShare _)))))

theorem body0 : BodyObligation (dat0 m c) defs₀ 𝒱₀ 0 Set.univ := fun t => by
  obtain rfl := fin_N0 t
  rw [bigSep_W0, bigSep_W0]
  dsimp only
  simp only [before_0, before_1, before_2, before_3, before_4]
  rw [phi_first, show (dat0 m c).Φ t0_0.succ = Leave c from phi_last m c]
  iintro ⟨HE, HO, ⟨%d0, H0⟩, ⟨%d1, H1⟩, ⟨%d2, H2⟩, ⟨%d3, H3⟩, ⟨%d4, H4⟩, ⟨%d5, H5⟩⟩
  ihave HO' := (owesAt_elim (dat0 m c) _ (owed (due c)) (owed_first m c)) $$ HO
  unfold Enter
  icases HE with ⟨⟨%K, #HF⟩, #HB, Hbar, HK, Hcr, Htk, Hsc, Hpr⟩
  ihave HS := (Entails.of_eq (stages m c ((dat0 m c).before 5 t0_0 d5))) $$ [H0 H1 H2 H3 H4 H5]
  · isplitl [H0]; · iexact H0
    isplitl [H1]; · iexact H1
    isplitl [H2]; · iexact H2
    isplitl [H3]; · iexact H3
    isplitl [H4]; · iexact H4
    iexact H5
  icases HS with ⟨H0, H1, H2, H3, H4, H5⟩
  ihave HP := (entry (inp m) K c ((dat0 m c).before 5 t0_0 d5)) $$ [Hbar HK Hcr Htk HO' Hsc H0 H1 H2 H3 H4 H5]
  · isplitr; · iexact HF
    isplitl [Hbar HK Hcr Htk HO']
    · unfold ghosts
      isplitl [Hbar]; · iexact Hbar
      isplitl [HK]; · iexact HK
      isplitl [Hcr]; · iexact Hcr
      isplitl [Htk]; · iexact Htk
      iexact HO'
    isplitl [Hsc]; · iexact Hsc
    isplitl [H0 H1 H2 H3 H4]
    · unfold args Srcs Xq Wo
      isplitl [H2 H3]; · isplitl [H2] <;> iassumption
      isplitl [H0 H1]; · isplitl [H0] <;> iassumption
      iexact H4
    unfold Out
    iexact H5
  icases HP with ⟨HpA, HpR, Hsp⟩
  iapply (wp_fupd frame (wpE (defs₀ (F := F)) 𝒱₀ (c : Thread nD τ) none) Set.univ _ _)
  iapply (body_run (inp m) K c ((dat0 m c).before 5 t0_0 d5) _) $$ [HpA HpR]
  · isplitr; · iexact HF
    isplitr; · iexact HB
    isplitl [HpA] <;> iassumption
  iintro HP
  imod (exit (inp m) K c) $$ [HP Hsp] with ⟨Hbar, HK, Hsc, Hargs, Hout, ⟨%W, HO⟩⟩
  · isplitr; · iexact HF
    isplitl [HP] <;> iassumption
  imodintro
  unfold Leave args Srcs Xq Wo Out
  icases Hargs with ⟨⟨H2, H3⟩, ⟨H0, H1⟩, H4⟩
  isplitl [Hbar HK Hsc Hpr]
  · isplitl [Hbar]; · iexact Hbar
    isplitl [HK]; · iexact HK
    isplitl [Hsc]; · iexact Hsc
    iexact Hpr
  isplitl [HO]; · iapply (owesAt_intro (dat0 m c) t0_0.succ 0 (owed_last m c) W rfl) $$ HO
  iapply (Entails.of_eq (stages m c (outV (inp m) c)).symm)
  isplitl [H0]; · iexact H0
  isplitl [H1]; · iexact H1
  isplitl [H2]; · iexact H2
  isplitl [H3]; · iexact H3
  isplitl [H4]; · iexact H4
  iexact Hout

end Blocks

/-! ## The region -/

instance : DecidableEq KK :=
  fun a b => decidable_of_iff (toCl a = toCl b) toCl_inj.eq_iff

/-- A device's own semaphores. -/
abbrev osem (k : KK) : SemLoc sig := semOf (toCl k)

/-- The arrays around the region: as the host operations leave them, and with the result. -/
def W₁ (c : Dev nD) : Valuation τ sig (Elt F) := StableHlo.after hostOps0 fun b => m (c, b)
@[inherit_doc W₁] def W₂ (c : Dev nD) : Valuation τ sig (Elt F) := Function.update (W₁ m c) (Proc.devRef .tc main_v3) (outV (inp m) c)

/-- The arrays that no window stages. -/
def rest : Finset (DevRef τ sig) := {Proc.devRef .tc main_arg2, Proc.devRef .tc main_arg3}

section Talk
variable (c : Dev nD)

/-- What the launch deals a device. -/
def Dealt : sProp (MT nD τ sig ℕ (Elt F) ℕ UU ℕ) :=
  iprop((∃ K, invs (inp m) K) ∗ Bars ∗ At c .bar ∗ (bigSep Finset.univ fun k : KK => openTok ER (cell c (toCl k))) ∗ creds c ∗ toks c)
/-- The same with the device's own cells opened. -/
def Opened : sProp (MT nD τ sig ℕ (Elt F) ℕ UU ℕ) :=
  iprop((∃ K, Facts (inp m) K c) ∗ Bars ∗ At c .bar ∗ (bigSep Finset.univ fun k : KK => At c (toCl k)) ∗ creds c ∗ toks c)
/-- What is left of it after. -/
def Done : sProp (MT nD τ sig ℕ (Elt F) ℕ UU ℕ) := semVal (cell c .bar) 0

theorem open_one (K : GSem nD τ sig → ℕ) (k : KK) :
    iprop(invs (inp m) K ∗ (openTok ER (cell c (toCl k)) ∗ semVal (cell c (toCl k)) 0))
      ⊢ (iprop(|={Set.univ}=> (At c (toCl k) ∗ reached ER (cell c (toCl k)) 0)) : sProp (MT nD τ sig ℕ (Elt F) ℕ UU ℕ)) := by
  unfold At
  iintro ⟨#HI, Ho, Hv⟩
  iapply (Rounds.cell_open ER (Rd (inp m)) (g := cell c (toCl k)) (Set.mem_univ (K (cell c (toCl k)))))
  isplitr; · iapply (invs_at (inp m) K c (toCl k)); iexact HI
  isplitl [Ho] <;> iassumption

theorem reached_all : iprop(Bars ∗ bigSep Finset.univ fun k : KK => reached ER (cell c (toCl k)) 0)
    ⊢ (iprop(□ ∀ k, reached ER (cell c k) 0) : sProp (MT nD τ sig ℕ (Elt F) ℕ UU ℕ)) := by
  unfold Bars
  iintro ⟨#HB, #HR⟩
  imodintro
  iintro %k
  rcases toCl_surj k with rfl | ⟨i, rfl⟩
  · iapply HB
  · iapply (show (bigSep Finset.univ fun k : KK => (reached ER (cell c (toCl k)) 0 : sProp (MT nD τ sig ℕ (Elt F) ℕ UU ℕ)))
      ⊢ reached ER (cell c (toCl i)) 0 from bigSep_elim (Finset.mem_univ i))
    iexact HR

theorem hopen0 : iprop(Dealt m c ∗ Pipeline.ownSems0 osem c ∗ levAts (L 6) lv) ⊢ (|={Set.univ}=> Opened m c : sProp (MT nD τ sig ℕ (Elt F) ℕ UU ℕ)) := by
  unfold Dealt Opened Pipeline.ownSems0
  iintro ⟨⟨⟨%K, #HI⟩, #HB, Hbar, Ho, Hcr, Htk⟩, Hv, #Hlev⟩
  ihave H := (Entails.of_eq (bigSep_sep' Finset.univ (fun k : KK => iprop(openTok ER (cell c (toCl k)))) (fun k : KK => semVal (cell c (toCl k)) 0)).symm) $$ [Ho Hv]
  · isplitl [Ho] <;> iassumption
  ihave H := (bigSep_with_persistent (S := Finset.univ) (R := invs (inp m) K)
    (Φ := fun k : KK => (iprop(openTok ER (cell c (toCl k)) ∗ semVal (cell c (toCl k)) 0) : sProp (MT nD τ sig ℕ (Elt F) ℕ UU ℕ)))
    (Ψ := fun k : KK => (iprop(|={Set.univ}=> (At c (toCl k) ∗ reached ER (cell c (toCl k)) 0)) : sProp (MT nD τ sig ℕ (Elt F) ℕ UU ℕ)))
    fun k _ => open_one m c K k) $$ [H]
  · isplitr; · iexact HI
    iexact H
  ihave H := (bigSep_fupd Finset.univ fun k : KK => (iprop(At c (toCl k) ∗ reached ER (cell c (toCl k)) 0) : sProp (MT nD τ sig ℕ (Elt F) ℕ UU ℕ))) $$ H
  imod H
  ihave H := (Entails.of_eq (bigSep_sep' _ _ _)) $$ H
  icases H with ⟨HA, HR⟩
  ihave HR := (reached_all (F := F) c) $$ [HR]
  · isplitr; · iexact HB
    iexact HR
  icases HR with #HR
  imodintro
  isplitr
  · iexists K; unfold Facts
    isplitr; · iexact HI
    isplitr; · iexact Hlev
    iexact HR
  isplitr; · iexact HB
  isplitl [Hbar]; · iexact Hbar
  isplitl [HA]; · iexact HA
  isplitl [Hcr] <;> iassumption

theorem hin0 : iprop(Pipeline.scopedRest spec0 c ∗ (∃ r, prngReg c r) ∗ StableHlo.held (c.tc : Thread nD τ) ∅ (W₁ m c) ∗ Opened m c)
    ⊢ (dat0 m c).Φ 0 := by
  rw [phi_zero, scopedRest0_eq]
  unfold Enter Opened scratch
  iintro ⟨Hs, Hp, -, HF, HB, Hbar, HA, Hcr, Htk⟩
  isplitl [HF]; · iexact HF
  isplitl [HB]; · iexact HB
  isplitl [Hbar]; · iexact Hbar
  isplitl [HA]; · iexact HA
  isplitl [Hcr]; · iexact Hcr
  isplitl [Htk]; · iexact Htk
  isplitl [Hs] <;> iassumption

theorem hout0 : (dat0 m c).Φ (Fin.last cfg0.N)
    ⊢ iprop(Pipeline.scopedRest spec0 c ∗ (∃ r, prngReg c r) ∗ StableHlo.held (c.tc : Thread nD τ) ∅ (W₂ m c) ∗ Pipeline.ownSems0 osem c ∗ Done c) := by
  rw [phi_last, scopedRest0_eq]
  unfold Leave scratch Done Pipeline.ownSems0 StableHlo.held
  rw [bigSep_empty]
  iintro ⟨Hb, HK, Hs, Hp⟩
  isplitl [Hs]; · iexact Hs
  isplitl [Hp]; · iexact Hp
  isplitr; · iempintro
  isplitl [HK] <;> iassumption

theorem flushed_5 : (dat0 m c).flushed 5 t0_0 = outV (inp m) c := funext fun _ => rfl

theorem arrAt_5 : (dat0 m c).arrAt 5 cfg0.N = outV (inp m) c := by
  have hw : ((cfg0.win 5).blk t0_0).view.read (Elt F) ((dat0 m c).arrAt 5 cfg0.N) = (dat0 m c).flushed 5 t0_0 := by
    rw [show cfg0.N = t0_0.val + 1 from rfl, (dat0 m c).arrAt_succ (5 : Fin 6) t0_0, flush0_5, if_pos rfl]
    exact View.read_write_univ _ _
  rw [flushed_5] at hw
  exact (read_5 c _).symm.trans hw

theorem W₂_ne (b : DevRef τ sig) (h : b ≠ Proc.devRef .tc main_v3) : W₂ m c b = W₁ m c b := Function.update_of_ne h _ _
theorem W₂_res : W₂ m c (Proc.devRef .tc main_v3) = outV (inp m) c := Function.update_self _ _ _

theorem hW0 (w : Fin cfg0.W) : (dat0 m c).arrAt w 0 = W₁ m c (Proc.devRef .tc (Pipeline.arrRef spec0 w)) := rfl
theorem hW1 : ∀ w : Fin cfg0.W, (dat0 m c).arrAt w cfg0.N = W₂ m c (Proc.devRef .tc (Pipeline.arrRef spec0 w))
  | 0 => ((dat0 m c).arrAt_in 0 rfl _).trans (W₂_ne m c (Proc.devRef .tc main_arg0) (by decide)).symm
  | 1 => ((dat0 m c).arrAt_in 1 rfl _).trans (W₂_ne m c (Proc.devRef .tc main_arg1) (by decide)).symm
  | 2 => ((dat0 m c).arrAt_in 2 rfl _).trans (W₂_ne m c (Proc.devRef .tc main_v1) (by decide)).symm
  | 3 => ((dat0 m c).arrAt_in 3 rfl _).trans (W₂_ne m c (Proc.devRef .tc main_v2) (by decide)).symm
  | 4 => ((dat0 m c).arrAt_in 4 rfl _).trans (W₂_ne m c (Proc.devRef .tc main_arg4) (by decide)).symm
  | 5 => (arrAt_5 m c).trans (W₂_res m c).symm
  | ⟨_ + 6, h⟩ => absurd h (Nat.not_lt.2 (Nat.le_add_left _ _))

theorem cutD (t : Fin (cfg0.N + 1)) (g : GSem nD τ sig) (i : ℕ) (h : 0 < (dat0 m c).owed t g i) : i ∈ L 6 g ∧ (0 : ℕ) < lv g i := by
  have e : (dat0 m c).owed t = if t.val = 0 then owed (due c) else 0 := rfl
  rw [e] at h
  split at h
  · obtain ⟨x, hx, rfl, rfl⟩ := TalkSites.tallyL_pos h
    obtain ⟨y, hy, rfl⟩ := List.mem_map.mp hx
    refine ⟨SiteBlocks.mem_L' rfl ?_, ?_⟩
    · show lvl y.2 < 6
      cases y.2 <;> simp [lvl] <;> omega
    · show 0 < lvl y.2
      have hd : ∀ c : Dev nD, ∀ y ∈ due c, 0 < lvl y.2 := by decide
      exact hd c y hy
  · exact absurd h (Nat.lt_irrefl 0)

end Talk

theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem own_facts : Pipeline.OwnSemFacts spec0 osem := by decide

theorem share_full (c : Dev nD) (w : Fin cfg0.W) : (dat0 m c).share w = fullShare := by
  show (if _ then fullShare else fullShare) = fullShare; exact ite_self _

set_option backward.isDefEq.respectTransparency.types false in
def reg0 : Pipeline.RegionSeg (pcfgs (F := F)) adm (pdats m) 0 defs₀ 𝒱₀ (L 6) lv 0 :=
  Pipeline.RegionSeg.ofTalk (pcfgs (F := F)) adm (pdats m) 0 defs₀ 𝒱₀ (L 6) lv 0 osem own_facts
    ∅ rest (Finset.empty_subset _) kitP rfl (fun c => (body0 m c).loose)
    (fun _ => 0) (fun c => owed (due c)) (fun c => (owed_zero m c).trans (zero_add _).symm) (owed_last m) (fun _ => rfl) (share_full m)
    (W₁ m) (W₂ m) (fun c b hb => W₂_ne m c b (by
      intro h; subst h
      exact absurd hb (by decide)))
    (Dealt m) Done (Opened m) Done (hopen0 m) (hin0 m) (hout0 m)
    (fun c => by iintro H; imodintro; iexact H)
    (fun _ => 0)
    ⟨fun c _ _ => SiteBlocks.mem_L' rfl (by decide), fun _ _ _ => Nat.le_refl 0, fun c t g i h => cutD m c t g i h⟩
    (fun _ => iprop(emp))
    (fun c w => hW0 m c w) (fun c w => hW1 m c w)

end Cert.KernelIdeal.Mesh

end
-- ==== Proof.Launch.lean ====
/-
  The launch: every cell's invariant allocated, the rights to wait, to pay and to open dealt to the devices, and the
  run of the program — the result on every device, the arguments unchanged, every counter at zero.
-/
module

public import proofs.«01_k».proof.Proof.Region

@[expose] public section

set_option maxRecDepth 16384

noncomputable section

namespace Cert.KernelIdeal.Mesh

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.SiteBlocks (L lv)
open Idealize.ShloMosaic.TalkSites (Pay tallyL allPays credOf)

variable {F : FTy → Type} [FloatOps F]

variable (m : (ℓ : Loc nD τ sig) → Buf (Elt F) ℓ) (ρ : Dev nD → PrngReg)

/-! ## The credits -/

/-- All payments, and those to one device: in the order in which they are listed, and by cell. -/
def allDue : List (Dev nD × Cl) := (List.finRange nD).flatMap due
@[inherit_doc allDue] def credList (c : Dev nD) : List (Dev nD × Cl) := allDue.filter fun x => x.1 = c
@[inherit_doc allDue] def byCell (c : Dev nD) : List (Dev nD × Cl) :=
  List.replicate (payers c .bar).card (c, .bar) ++ (List.replicate (payers c .ex).card (c, .ex)
    ++ ((if c = snd 0 then [] else [(c, .kr 0 0 0), (c, .kr 0 0 1), (c, .kr 0 1 0), (c, .kr 0 1 1)])
    ++ ((if c = snd 1 then [] else [(c, .kr 1 0 0), (c, .kr 1 0 1), (c, .kr 1 1 0), (c, .kr 1 1 1)])
    ++ [(c, .br 0 0), (c, .br 0 1), (c, .br 1 0), (c, .br 1 1)])))

theorem byCell_perm (c : Dev nD) : (credList c).Perm (byCell c) := by revert c; decide

theorem owed_perm {l l' : List (Dev nD × Cl)} (h : l.Perm l') : owed l = owed l' := by
  induction h with
  | nil => rfl
  | cons x _ ih => rw [owed_cons, owed_cons, ih]
  | swap x y l => simp only [owed_cons]; exact add_right_comm _ _ _
  | trans _ _ h₁ h₂ => exact h₁.trans h₂

theorem owed_append (l l' : List (Dev nD × Cl)) : owed (l ++ l') = owed l + owed l' := by
  unfold owed; rw [List.map_append, TalkSites.tallyL_append]

theorem owed_replicate (x : Dev nD × Cl) (n : ℕ) : owed (List.replicate n x) = tallyAt (cell x.1 x.2) (lvl x.2) (n * units x.2) := by
  induction n with
  | zero => rw [Nat.zero_mul, tallyAt_zero]; rfl
  | succ n ih => rw [List.replicate_succ, owed_cons, ih, tallyAt_add, Nat.succ_mul]

theorem credOf_eq (c : Dev nD) : credOf (fun d => (due d).map pay) c = (credList c).map pay := by
  unfold credOf credList allPays allDue
  rw [← List.map_flatMap, List.filter_map]
  refine congrArg _ (List.filter_congr fun x _ => ?_)
  show decide (((x.1 : Dev nD) : Thread nD τ) = (c : Thread nD τ)) = decide (x.1 = c)
  exact decide_eq_decide.mpr ⟨fun h => congrArg (fun t : Thread nD τ => t.1) h, fun h => by rw [h]⟩

theorem cr_one (c : Dev nD) (k : Cl) (h : (payers c k).card = 1) :
    (cred (tallyAt (cell c k) (lvl k) (units k)) : sProp (MT nD τ sig ℕ (Elt F) ℕ UU ℕ)) ⊢ Cr c k := by
  unfold Cr; rw [h, Nat.one_mul]

theorem cred_list (l : List (Dev nD × Cl)) :
    (cred (owed l) : sProp (MT nD τ sig ℕ (Elt F) ℕ UU ℕ)) = bigSepL l fun x => cred (tallyAt (cell x.1 x.2) (lvl x.2) (units x.2)) := by
  unfold owed; rw [TalkSites.cred_tallyL, bigSepL_map]; rfl

theorem cred_app (l l' : List (Dev nD × Cl)) :
    (cred (owed (l ++ l')) : sProp (MT nD τ sig ℕ (Elt F) ℕ UU ℕ)) ⊢ iprop(cred (owed l) ∗ cred (owed l')) := by
  rw [owed_append]; exact (cred_add _ _).1

theorem cred_slot (c : Dev nD) (a : Fin 2) :
    (cred (owed (if c = snd a then [] else [(c, .kr a 0 0), (c, .kr a 0 1), (c, .kr a 1 0), (c, .kr a 1 1)])) : sProp (MT nD τ sig ℕ (Elt F) ℕ UU ℕ))
      ⊢ if c = snd a then emp else iprop(Cr c (.kr a 0 0) ∗ Cr c (.kr a 0 1) ∗ Cr c (.kr a 1 0) ∗ Cr c (.kr a 1 1)) := by
  rw [cred_list]
  by_cases h : c = snd a
  · rw [if_pos h, if_pos h, bigSepL_nil]; exact .rfl
  · rw [if_neg h, if_neg h]
    have hc : ∀ p t, (payers c (.kr a p t)).card = 1 := fun p t => by
      show (if c = snd a then (∅ : Finset (Dev nD)) else {snd a}).card = 1; rw [if_neg h]; rfl
    rw [bigSepL_cons', bigSepL_cons', bigSepL_cons', bigSepL_singleton]
    iintro ⟨H1, H2, H3, H4⟩
    isplitl [H1]; · iapply (cr_one c _ (hc 0 0)) $$ H1
    isplitl [H2]; · iapply (cr_one c _ (hc 0 1)) $$ H2
    isplitl [H3]; · iapply (cr_one c _ (hc 1 0)) $$ H3
    iapply (cr_one c _ (hc 1 1)) $$ H4

theorem br_list (c : Dev nD) (Φ : Dev nD × Cl → sProp (MT nD τ sig ℕ (Elt F) ℕ UU ℕ)) : bigSepL [(c, .br 0 0), (c, .br 0 1), (c, .br 1 0), (c, .br 1 1)] Φ
    = iprop(Φ (c, .br 0 0) ∗ Φ (c, .br 0 1) ∗ Φ (c, .br 1 0) ∗ Φ (c, .br 1 1)) := rfl

theorem launch_creds (c : Dev nD) : (Pipeline.launchCred (fun d => owed (due d)) c : sProp (MT nD τ sig ℕ (Elt F) ℕ UU ℕ)) ⊢ creds c := by
  rw [show (fun d => owed (due d)) = fun d => tallyL ((due d).map pay) from rfl,
    TalkSites.launchCred_tallyL (fun d => (due d).map pay) (fun d x hx => by obtain ⟨y, -, rfl⟩ := List.mem_map.mp hx; rfl) c, credOf_eq,
    show tallyL ((credList c).map pay) = owed (credList c) from rfl, owed_perm (byCell_perm c)]
  unfold byCell creds
  iintro H
  ihave H := (cred_app _ _) $$ H
  icases H with ⟨Hb, H⟩
  ihave H := (cred_app _ _) $$ H
  icases H with ⟨He, H⟩
  ihave H := (cred_app _ _) $$ H
  icases H with ⟨H0, H⟩
  ihave H := (cred_app _ _) $$ H
  icases H with ⟨H1, H⟩
  rw [owed_replicate, owed_replicate]
  isplitl [Hb]; · unfold Cr; iexact Hb
  isplitl [He]; · unfold Cr; iexact He
  isplitl [H0]; · iapply (cred_slot c 0) $$ H0
  isplitl [H1]; · iapply (cred_slot c 1) $$ H1
  ihave H := (Entails.of_eq ((cred_list _).trans (br_list c _))) $$ H
  icases H with ⟨R0, R1, R2, R3⟩
  isplitl [R0]; · iapply (cr_one c (.br 0 0) rfl) $$ R0
  isplitl [R1]; · iapply (cr_one c (.br 0 1) rfl) $$ R1
  isplitl [R2]; · iapply (cr_one c (.br 1 0) rfl) $$ R2
  iapply (cr_one c (.br 1 1) rfl) $$ R3

/-! ## The cells and the rights to pay -/

def barEmb : Dev nD ↪ GSem nD τ sig := ⟨fun c => cell c .bar, fun _ _ h => (cell_inj h).1⟩
def scEmb : Dev nD × KK ↪ GSem nD τ sig := ⟨fun x => cell x.1 (toCl x.2), fun _ _ h => Prod.ext (cell_inj h).1 (toCl_inj (cell_inj h).2)⟩

/-- The entry barriers, whose counters the launch holds; the cells that the region opens. -/
abbrev barCells : Finset (GSem nD τ sig) := Finset.univ.map barEmb
@[inherit_doc barCells] abbrev scCells : Finset (GSem nD τ sig) := Finset.univ.map scEmb

theorem disjoint_cells : Disjoint (barCells : Finset (GSem nD τ sig)) scCells := by
  rw [Finset.disjoint_left]
  rintro g h₁ h₂
  obtain ⟨c, -, rfl⟩ := Finset.mem_map.mp h₁
  obtain ⟨x, -, h⟩ := Finset.mem_map.mp h₂
  exact toCl_ne x.2 (cell_inj h).2

theorem cell_mem (c : Dev nD) (k : Cl) : cell c k ∈ (barCells ∪ scCells : Finset (GSem nD τ sig)) := by
  rcases toCl_surj k with rfl | ⟨i, rfl⟩
  · exact Finset.mem_union_left _ (Finset.mem_map_of_mem barEmb (Finset.mem_univ c))
  · exact Finset.mem_union_right _ (Finset.mem_map_of_mem scEmb (Finset.mem_univ (c, i)))

/-- The rights to pay, of one device and of all. -/
def tokList (c : Dev nD) : List (GSem nD τ sig × ℕ × Dev nD) := (due c ++ selfDue c).map fun x => (cell x.1 x.2, 0, c)
@[inherit_doc tokList] def talkToks : Finset (GSem nD τ sig × ℕ × Dev nD) := Finset.univ.biUnion fun c => (tokList c).toFinset

theorem tokList_nodup (c : Dev nD) : (tokList c).Nodup := by
  refine List.Nodup.map (fun x y h => ?_) (show (due c ++ selfDue c).Nodup by revert c; decide)
  have := cell_inj (congrArg Prod.fst h)
  exact Prod.ext this.1 this.2

theorem toks_eq : bigSep talkToks (fun x => (dutyTok ER x.1 x.2.1 x.2.2 : sProp (MT nD τ sig ℕ (Elt F) ℕ UU ℕ))) = bigSep Finset.univ fun c : Dev nD => toks c := by
  unfold talkToks
  rw [bigSep_biUnion_eq _ _ _ fun c _ d _ hcd => by
    rw [Finset.disjoint_left]
    intro x hx hy
    obtain ⟨a, -, rfl⟩ := List.mem_map.mp (List.mem_toFinset.mp hx)
    obtain ⟨b, -, hb⟩ := List.mem_map.mp (List.mem_toFinset.mp hy)
    exact hcd (congrArg (fun t : GSem nD τ sig × ℕ × Dev nD => t.2.2) hb).symm]
  refine bigSep_congr fun c _ => ?_
  rw [bigSep_eq_bigSepL_of_eq (tokList c) rfl (tokList_nodup c), tokList, bigSepL_map]
  rfl

/-! ## The launch -/

/-- The launch element: the staging's and the protocol's. -/
def u₀ : UU := (initOf (Pipeline.cells (Pipeline.pin (pcfgs (F := F)) adm) cellOf_inj) (Pipeline.launchToks (Pipeline.pin (pcfgs (F := F)) adm) cellOf_inj),
  launchOf barCells scCells talkToks)

/-- A resource kept on one device. -/
def onDev (c₀ : Dev nD) (X : sProp (MT nD τ sig ℕ (Elt F) ℕ UU ℕ)) (c : Dev nD) : sProp (MT nD τ sig ℕ (Elt F) ℕ UU ℕ) := if c = c₀ then X else iprop(emp)
theorem bigSep_onDev (c₀ : Dev nD) (X : sProp (MT nD τ sig ℕ (Elt F) ℕ UU ℕ)) : bigSep Finset.univ (onDev c₀ X) = X := by
  rw [bigSep_univ_at _ c₀, bigSep_congr (s := Finset.univ.erase c₀) (Ψ := fun _ => (BI.emp : sProp (MT nD τ sig ℕ (Elt F) ℕ UU ℕ)))
      fun c hc => by unfold onDev; rw [if_neg (Finset.ne_of_mem_erase hc)]; rfl, BI.bigSep_emp_const]
  unfold onDev; rw [if_pos rfl]
  exact BI.equiv_iff.mp sep_emp

def G : Dev nD → sProp (MT nD τ sig ℕ (Elt F) ℕ UU ℕ) := onDev 0 (BI.own (ER (launchOf barCells scCells talkToks)))

/-- The records that every device may consult. -/
def records (κ : GSem nD τ sig → ℕ) : sProp (MT nD τ sig ℕ (Elt F) ℕ UU ℕ) := iprop(invs (inp m) κ ∗ Bars)
instance records_persistent (κ : GSem nD τ sig → ℕ) : BI.Persistent (records m κ) := by unfold records; infer_instance

theorem invs_all (κ : GSem nD τ sig → ℕ) :
    (bigSep (barCells ∪ scCells) fun g => (cellInv ER (Rd (inp m)) (κ g) g : sProp (MT nD τ sig ℕ (Elt F) ℕ UU ℕ))) ⊢ invs (inp m) κ := by
  unfold invs
  iintro #H
  imodintro
  iintro %c %k
  iapply (show (bigSep (barCells ∪ scCells) fun g => (cellInv ER (Rd (inp m)) (κ g) g : sProp (MT nD τ sig ℕ (Elt F) ℕ UU ℕ)))
    ⊢ cellInv ER (Rd (inp m)) (κ (cell c k)) (cell c k) from bigSep_elim (cell_mem c k))
  iexact H

theorem bars_all : (bigSep barCells fun g => (reached ER g 0 : sProp (MT nD τ sig ℕ (Elt F) ℕ UU ℕ))) ⊢ Bars := by
  unfold Bars
  iintro #H
  imodintro
  iintro %c
  iapply (show (bigSep barCells fun g => (reached ER g 0 : sProp (MT nD τ sig ℕ (Elt F) ℕ UU ℕ))) ⊢ reached ER (cell c .bar) 0 from
    bigSep_elim (Finset.mem_map_of_mem barEmb (Finset.mem_univ c)))
  iexact H

/-- What rides beside the buffers up to the region. -/
def R (c : Dev nD) : sProp (MT nD τ sig ℕ (Elt F) ℕ UU ℕ) :=
  iprop(Dealt m c ∗ (∃ r, prngReg c r) ∗ ∃ W, owes (c : Thread nD τ) (owed (due c)) W)

abbrev V₀ (c : Dev nD) : Valuation τ sig (Elt F) := fun b => m (c, b)
abbrev bufs : Finset (DevRef τ sig) := Pipeline.ucRefs τ sig

abbrev T₀ (c : Dev nD) : sProp (MT nD τ sig ℕ (Elt F) ℕ UU ℕ) := iprop(StableHlo.held (c : Thread nD τ) bufs (V₀ m c) ∗ R m c)
abbrev Tₙ (c : Dev nD) : sProp (MT nD τ sig ℕ (Elt F) ℕ UU ℕ) := iprop(StableHlo.held (c : Thread nD τ) bufs (W₂ m c) ∗ Done c)

/-- A device's launch holdings, the protocol's apart; its part of the protocol's. -/
def bundle (c : Dev nD) : sProp (MT nD τ sig ℕ (Elt F) ℕ UU ℕ) :=
  iprop(StableHlo.held (c : Thread nD τ) bufs (V₀ m c) ∗ creds c ∗ owes (c : Thread nD τ) (owed (due c)) ∅ ∗ ∃ r, prngReg c r)
@[inherit_doc bundle] def part (c : Dev nD) : sProp (MT nD τ sig ℕ (Elt F) ℕ UU ℕ) :=
  iprop(At c .bar ∗ (bigSep Finset.univ fun k : KK => openTok ER (cell c (toCl k))) ∗ toks c)

theorem T₀_intro (κ : GSem nD τ sig → ℕ) (c : Dev nD) : iprop(records m κ ∗ (part c ∗ bundle m c)) ⊢ T₀ m c := by
  unfold bundle T₀ R Dealt records part
  iintro ⟨⟨#HI, #HB⟩, ⟨Ha, Ho, Ht⟩, Hh, Hc, HO, Hp⟩
  isplitl [Hh]; · iexact Hh
  isplitl [Ha Ho Ht Hc]
  · isplitr; · iexists κ; iexact HI
    isplitr; · iexact HB
    isplitl [Ha]; · iexact Ha
    isplitl [Ho]; · iexact Ho
    isplitl [Hc] <;> iassumption
  isplitl [Hp]; · iexact Hp
  iexists ∅; iexact HO

theorem unscopedSems0_eq (c : Dev nD) : (unscopedSems0 c : sProp (MT nD τ sig ℕ (Elt F) ℕ UU ℕ)) = semVal (cell c .bar) 0 := by
  unfold unscopedSems0
  rw [show (Finset.univ.filter fun sm : SemLoc sig => ¬ sm.isScoped .tc) = {semOf .bar} from by decide, BI.bigSep_singleton]

theorem init :
    iprop((bigSep Finset.univ fun c : Dev nD => iprop(unscopedBufs c (fun b => m ((c : Thread nD τ).loc b)) ∗ unscopedSems0 c
          ∗ owes (c : Thread nD τ) (owed (due c)) ∅ ∗ Pipeline.launchCred (fun d => owed (due d)) c ∗ prngReg c (ρ c) ∗ G c)) ∗ levAts (L 6) lv)
      ⊢ (|={Set.univ}=> bigSep Finset.univ (T₀ m) : sProp (MT nD τ sig ℕ (Elt F) ℕ UU ℕ)) := by
  have hcore (c : Dev nD) : iprop(unscopedBufs c (fun b => m ((c : Thread nD τ).loc b)) ∗ unscopedSems0 c
        ∗ owes (c : Thread nD τ) (owed (due c)) ∅ ∗ Pipeline.launchCred (fun d => owed (due d)) c ∗ prngReg c (ρ c) ∗ G c)
      ⊢ (iprop(bundle m c ∗ (semVal (cell c .bar) 0 ∗ G c)) : sProp (MT nD τ sig ℕ (Elt F) ℕ UU ℕ)) := by
    rw [show unscopedBufs c (fun b => m ((c : Thread nD τ).loc b)) = StableHlo.held (c : Thread nD τ) bufs (V₀ m c) from Pipeline.unscopedBufs_held c (V₀ m c),
      unscopedSems0_eq]
    unfold bundle
    iintro ⟨Hh, Hus, HO, Hcr, Hp, HG⟩
    ihave Hc := (launch_creds (F := F) c) $$ Hcr
    isplitl [Hh Hc HO Hp]
    · isplitl [Hh]; · iexact Hh
      isplitl [Hc]; · iexact Hc
      isplitl [HO]; · iexact HO
      iexists (ρ c); iexact Hp
    isplitl [Hus] <;> iassumption
  have hv : bigSep Finset.univ (fun c : Dev nD => (semVal (cell c .bar) 0 : sProp (MT nD τ sig ℕ (Elt F) ℕ UU ℕ))) ⊢ bigSep barCells (fun g => (semVal g 0 : sProp (MT nD τ sig ℕ (Elt F) ℕ UU ℕ))) :=
    Entails.of_eq (bigSep_map (s := Finset.univ) barEmb (Φ := fun g : GSem nD τ sig => (semVal g 0 : sProp (MT nD τ sig ℕ (Elt F) ℕ UU ℕ)))).symm
  have hat : bigSep barCells (fun g => (atPos ER g 0 ∅ 0 : sProp (MT nD τ sig ℕ (Elt F) ℕ UU ℕ))) ⊢ bigSep Finset.univ (fun c : Dev nD => (At c .bar : sProp (MT nD τ sig ℕ (Elt F) ℕ UU ℕ))) :=
    Entails.of_eq (bigSep_map (s := Finset.univ) barEmb (Φ := fun g : GSem nD τ sig => (atPos ER g 0 ∅ 0 : sProp (MT nD τ sig ℕ (Elt F) ℕ UU ℕ))))
  have hopen : bigSep scCells (fun g => (openTok ER g : sProp (MT nD τ sig ℕ (Elt F) ℕ UU ℕ)))
      ⊢ bigSep Finset.univ (fun c : Dev nD => (bigSep Finset.univ fun k : KK => openTok ER (cell c (toCl k)) : sProp (MT nD τ sig ℕ (Elt F) ℕ UU ℕ))) :=
    Entails.of_eq (by rw [bigSep_map, bigSep_univ_prod]; rfl)
  iintro ⟨H, -⟩
  ihave H' := (show (bigSep Finset.univ fun c : Dev nD => iprop(unscopedBufs c (fun b => m ((c : Thread nD τ).loc b)) ∗ unscopedSems0 c
          ∗ owes (c : Thread nD τ) (owed (due c)) ∅ ∗ Pipeline.launchCred (fun d => owed (due d)) c ∗ prngReg c (ρ c) ∗ G c))
      ⊢ (bigSep Finset.univ fun c : Dev nD => iprop(bundle m c ∗ (semVal (cell c .bar) 0 ∗ G c)) : sProp (MT nD τ sig ℕ (Elt F) ℕ UU ℕ)) from bigSep_mono fun c _ => hcore c) $$ H
  ihave H2 := (Entails.of_eq (bigSep_sep' _ _ _)) $$ H'; icases H2 with ⟨HB, H3⟩
  ihave H4 := (Entails.of_eq (bigSep_sep' _ _ _)) $$ H3; icases H4 with ⟨Hv, HG⟩
  ihave Hu := (show bigSep Finset.univ (G (F := F)) ⊢ BI.own (ER (launchOf barCells scCells talkToks)) from
    Entails.of_eq (bigSep_onDev (F := F) 0 (BI.own (ER (launchOf barCells scCells talkToks))))) $$ HG
  imod (Rounds.fund_launch ER (Rd (inp m)) disjoint_cells (fun g _ h => h) talkToks) $$ [Hv Hu] with ⟨%κ, -, #Hinv, #Hr, Hat, Hopen, Htok⟩
  · isplitl [Hv]
    · iapply hv $$ Hv
    · iexact Hu
  imodintro
  iapply (bigSep_with_persistent (R := records m κ) (Φ := fun c => iprop(part c ∗ bundle m c)) fun c _ => T₀_intro m κ c)
  isplitr
  · unfold records
    isplitr; · iapply (invs_all m κ); iexact Hinv
    iapply bars_all; iexact Hr
  rw [bigSep_sep']
  isplitr [HB]
  · unfold part
    rw [bigSep_sep', bigSep_sep']
    isplitl [Hat]; · iapply hat $$ Hat
    isplitl [Hopen]; · iapply hopen $$ Hopen
    iapply (Entails.of_eq (toks_eq (F := F))) $$ Htok
  · iexact HB

/-! ## The program -/

theorem ops_sub : ∀ op ∈ (hostOps0 : List (HloOp τ sig (Elt F))), op.bufs ⊆ bufs := fun op h =>
  Pipeline.sub_ucRefs op (List.forall_iff_forall_mem.mp hostOps0_sub op h)

def seg0 : Pipeline.HostSeg (Name := ℕ) (U := UU) (pcfgs (F := F)) defs₀ 𝒱₀ (L 6) lv :=
  Pipeline.HostSeg.ofOps _ _ _ _ _ bufs hostOps0 ops_sub (List.forall_iff_forall_mem.mp hostOps0_fresh) (V₀ m) (R m)

def segs : List (Pipeline.Seg (pcfgs (F := F)) adm (pdats m) 0 defs₀ 𝒱₀ (L 6) lv) := [.host (seg0 m), .region (reg0 m)]

theorem main_eq (c : Dev nD) : main (F := F) c = Pipeline.Seg.run (segs m) :=
  main_segs adm (pdats m) 0 𝒱₀ (L 6) lv (seg0 m) (reg0 m) rfl c

theorem arr_sub : Pipeline.arrRefs (τ := τ) spec0 ⊆ bufs := by decide
theorem arr_rest : bufs \ Pipeline.arrRefs (τ := τ) spec0 = rest := by decide

theorem held_split (c : Dev nD) (W : Valuation τ sig (Elt F)) : (StableHlo.held (c : Thread nD τ) bufs W : sProp (MT nD τ sig ℕ (Elt F) ℕ UU ℕ))
    = iprop(StableHlo.held (c.tc : Thread nD τ) (Pipeline.arrRefs (τ := τ) spec0) W ∗ StableHlo.held (c.tc : Thread nD τ) rest W) := by
  rw [StableHlo.held_sub_split (c : Thread nD τ) arr_sub, arr_rest]

theorem reg0_pre (c : Dev nD) : iprop(StableHlo.held (c : Thread nD τ) bufs (W₁ m c) ∗ R m c) ⊢ (reg0 m).pre c := by
  show _ ⊢ iprop(StableHlo.held (c.tc : Thread nD τ) (Pipeline.arrRefs (τ := τ) spec0) (W₁ m c) ∗ (∃ r, prngReg c r)
    ∗ (StableHlo.held (c.tc : Thread nD τ) rest (W₁ m c) ∗ emp) ∗ Dealt m c ∗ ∃ Wd, owes (c : Thread nD τ) (0 + owed (due c)) Wd)
  rw [held_split, zero_add]
  unfold R
  iintro ⟨⟨Ha, Hr⟩, HD, Hp, HO⟩
  isplitl [Ha]; · iexact Ha
  isplitl [Hp]; · iexact Hp
  isplitl [Hr]; · isplitl [Hr]; · iexact Hr
                  iempintro
  isplitl [HD] <;> iassumption

theorem reg0_post (c : Dev nD) : (reg0 m).post c ⊢ iprop(Tₙ m c ∗ ∃ W, owes (c : Thread nD τ) (0 : CellTallies nD τ sig ℕ) W) := by
  show iprop(StableHlo.held (c.tc : Thread nD τ) (Pipeline.arrRefs (τ := τ) spec0) (W₂ m c) ∗ (∃ r, prngReg c r)
    ∗ (StableHlo.held (c.tc : Thread nD τ) rest (W₂ m c) ∗ emp) ∗ Done c ∗ ∃ Wd, owes (c : Thread nD τ) (0 : CellTallies nD τ sig ℕ) Wd) ⊢ _
  dsimp only [Tₙ]
  rw [held_split]
  iintro ⟨Ha, -, ⟨Hr, -⟩, HD, HO⟩
  isplitr [HO]
  · isplitl [Ha Hr]; · isplitl [Ha] <;> iassumption
    iexact HD
  iexact HO

theorem bufs_eq (c : Dev nD) (W : Valuation τ sig (Elt F)) : (StableHlo.held (c : Thread nD τ) bufs W : sProp (MT nD τ sig ℕ (Elt F) ℕ UU ℕ))
    = iprop(((c : Thread nD τ).loc main_v3 ↦{fullShare} W (Proc.devRef .tc main_v3)) ∗ ((c : Thread nD τ).loc main_arg0 ↦{fullShare} W (Proc.devRef .tc main_arg0))
      ∗ ((c : Thread nD τ).loc main_arg1 ↦{fullShare} W (Proc.devRef .tc main_arg1)) ∗ ((c : Thread nD τ).loc main_arg2 ↦{fullShare} W (Proc.devRef .tc main_arg2))
      ∗ ((c : Thread nD τ).loc main_arg3 ↦{fullShare} W (Proc.devRef .tc main_arg3)) ∗ ((c : Thread nD τ).loc main_arg4 ↦{fullShare} W (Proc.devRef .tc main_arg4))
      ∗ ((c : Thread nD τ).loc main_v1 ↦{fullShare} W (Proc.devRef .tc main_v1)) ∗ ((c : Thread nD τ).loc main_v2 ↦{fullShare} W (Proc.devRef .tc main_v2))) := by
  unfold StableHlo.held
  rw [bigSep_eq_bigSepL_of_eq [Proc.devRef .tc main_v3, Proc.devRef .tc main_arg0, Proc.devRef .tc main_arg1, Proc.devRef .tc main_arg2,
    Proc.devRef .tc main_arg3, Proc.devRef .tc main_arg4, Proc.devRef .tc main_v1, Proc.devRef .tc main_v2] (by decide) (by decide)]
  rfl

theorem unscoped_eq : ∀ sm : SemLoc sig, sm.isScoped .tc = false → sm = semOf .bar := by decide

/-- What a final state holds on device `c`. -/
def Fin0 (c : Dev nD) (s : MemSt nD τ sig (Elt F)) : Prop :=
  s.mem ((c : Thread nD τ).loc main_v3) = outV (inp m) c
  ∧ s.mem ((c : Thread nD τ).loc main_arg0) = m ((c : Thread nD τ).loc main_arg0) ∧ s.mem ((c : Thread nD τ).loc main_arg1) = m ((c : Thread nD τ).loc main_arg1)
  ∧ s.mem ((c : Thread nD τ).loc main_arg2) = m ((c : Thread nD τ).loc main_arg2) ∧ s.mem ((c : Thread nD τ).loc main_arg3) = m ((c : Thread nD τ).loc main_arg3)
  ∧ s.mem ((c : Thread nD τ).loc main_arg4) = m ((c : Thread nD τ).loc main_arg4)

set_option backward.isDefEq.respectTransparency.types false in
/-- From any memory with zero counters, every weakly fair execution of the program on the four devices terminates, with
    the result on every device, the arguments unchanged, and every semaphore counter at zero. -/
theorem run_main : θ_run defs (onTc (τ := τ) (main (F := F))) ⟨m, fun _ => 0, ρ⟩
    (fun r => (∀ c : Dev nD, Fin0 m c r.2) ∧ r.2.sem = fun _ => 0) :=
  Pipeline.θ_run_regions_kit_sems (pcfgs (F := F)) adm (pdats m) 0 cellOf_inj EP defs₀ 𝒱₀ (L 6) lv m ρ main (segs m)
    (fun c Q => by rw [main_eq m c])
    (by simp only [segs, Pipeline.Seg.pipes_host, Pipeline.Seg.pipes_region, Pipeline.Seg.pipes_nil]; decide)
    (O₀ := fun d => owed (due d)) (hL := SiteBlocks.hL 6) (G := G) (u₀ := u₀ (F := F))
    (hu₀ := by
      unfold u₀ G
      iintro Hu
      ihave H := (ownU_pair _ _) $$ Hu
      icases H with ⟨HP, HX⟩
      imodintro
      isplitl [HP]; · iexact HP
      rw [bigSep_onDev]; iexact HX)
    (T₀ := T₀ m) (Tₙ := Tₙ m)
    (hch := ⟨fun c => .rfl, fun c => reg0_pre m c, fun c => reg0_post m c⟩)
    (hinit := init m ρ)
    (QY := fun c s => Fin0 m c s ∧ s.sem (cell c .bar) = 0)
    (hfin := fun c s' => by
      dsimp only [Tₙ]; rw [bufs_eq]
      unfold Done
      iintro ⟨⟨⟨H3, Ha0, Ha1, Ha2, Ha3, Ha4, -⟩, Hb⟩, HSI⟩
      icombine HSI H3 gives %h3
      icombine HSI Ha0 gives %h0
      icombine HSI Ha1 gives %h1
      icombine HSI Ha2 gives %h2
      icombine HSI Ha3 gives %h5
      icombine HSI Ha4 gives %h4
      icombine HSI Hb gives %hb
      imodintro
      isplitr
      · ipureintro
        exact ⟨⟨(Buf.eq_of_forall_mem_univ h3).trans (W₂_res m c),
          (Buf.eq_of_forall_mem_univ h0).trans ((W₂_ne m c _ (by decide)).trans (V_main_arg0 m c)),
          (Buf.eq_of_forall_mem_univ h1).trans ((W₂_ne m c _ (by decide)).trans (V_main_arg1 m c)),
          (Buf.eq_of_forall_mem_univ h2).trans ((W₂_ne m c _ (by decide)).trans (V_main_arg2 m c)),
          (Buf.eq_of_forall_mem_univ h5).trans ((W₂_ne m c _ (by decide)).trans (V_main_arg3 m c)),
          (Buf.eq_of_forall_mem_univ h4).trans ((W₂_ne m c _ (by decide)).trans (V_main_arg4 m c))⟩, by simpa using hb⟩
      iexact HSI)
    (hQ := fun s h hs => ⟨fun c => (h c).1, sem_eq_zero hs fun c sm hsm => by
      obtain rfl := unscoped_eq sm hsm
      exact (h c).2⟩)

end Cert.KernelIdeal.Mesh

end
-- ==== Proof.Same.lean ====
module

public import proofs.«01_k».proof.Defs
public import proofs.«01_k».proof.Proof.Gen.Kernel
public import proofs.«01_k».proof.Proof.Gen.KernelIdeal

/-! The two printings of the kernel, at the bit-exact instance, are one program: what is proved of the
    one over any float values is so a fact about the other. -/

@[expose] public section

namespace Cert.Same

open Idealize.ShloMosaic Idealize.SL.Sem

set_option maxRecDepth 100000 in
theorem body_eq : (Cert.Kernel.cc0_body (F := Bits)) = (Cert.KernelIdeal.cc0_body (F := Bits)) := rfl

theorem defs₀_eq : (Cert.Kernel.defs₀ (F := Bits)) = (Cert.KernelIdeal.defs₀ (F := Bits)) := by
  unfold Cert.Kernel.defs₀ Cert.KernelIdeal.defs₀
  refine congrArg Defs.onTc ?_
  funext l a
  match l, a with
  | 0, (t, s) =>
    show Cert.Kernel.cc0_body (F := Bits) _ _ _ _ _ _ _ _ _ _ _ _ _ _ _ _ _ _ _ _ _ _ _ _ _ = _
    rw [body_eq]
  | ⟨n + 1, h⟩, _ => exact absurd h (Nat.not_lt.2 (Nat.le_add_left _ _))

theorem defs_eq : (Cert.Kernel.defs (F := Bits)) = (Cert.KernelIdeal.defs (F := Bits)) := by
  unfold Cert.Kernel.defs Cert.KernelIdeal.defs
  exact congrArg (Pipeline.defs _) defs₀_eq

/-- The run of the one is the run of the other. -/
theorem run_eq (m : (ℓ : Loc Cert.Kernel.nD Cert.Kernel.τ Cert.Kernel.sig) → Buf (Elt Bits) ℓ) (ρ : Dev Cert.Kernel.nD → PrngReg) :
    θ_run (Cert.Kernel.defs (F := Bits)) (onTc (τ := Cert.Kernel.τ) (Cert.Kernel.main (F := Bits))) ⟨m, fun _ => 0, ρ⟩
    = θ_run (Cert.KernelIdeal.defs (F := Bits)) (onTc (τ := Cert.KernelIdeal.τ) (Cert.KernelIdeal.main (F := Bits))) ⟨m, fun _ => 0, ρ⟩ := by
  rw [defs_eq]
  rfl

end Cert.Same

end
-- ==== Proof.Pre.lean ====
/-
  The precondition read back: where it holds on a device's blocks, the queries' source, the query projection and the keys
  hold real numbers.
-/
module

public import proofs.«01_k».proof.Pre_finite_KernelIdeal
public import proofs.«01_k».proof.Pre_finite_ReferenceIdeal
public import Idealize.ShloMosaic.Lib.ReduceAll
public import Idealize.ShloMosaic.Lib.Pointwise
public import Idealize.ShloMosaic.PureOps.Ideal

@[expose] public section

set_option maxRecDepth 16384

noncomputable section

namespace Cert.Pre

open Idealize.ShloMosaic

theorem facts_kernel : Cert.Pre_finite_KernelIdeal.Facts := by constructor <;> decide
theorem facts_reference : Cert.Pre_finite_ReferenceIdeal.Facts := by constructor <;> decide

theorem word_top : Ideal.ofBits .f32 0x7F800000#32 = (⊤ : EReal) := by
  simp [Ideal.ofBits, Ideal.ieee]

/-- A value below +∞ in absolute value is real. -/
theorem real_of {x : EReal} (h : Ideal.cmp .olt (max x (-x) : EReal) (Ideal.ofBits .f32 0x7F800000#32) = 1#1) : ∃ r : ℝ, x = r := by
  rw [word_top] at h
  induction x using EReal.rec with
  | bot => simp [Ideal.cmp] at h
  | coe r => exact ⟨r, rfl⟩
  | top => simp [Ideal.cmp] at h

attribute [local instance] facts_kernel

open Cert.Pre_finite_KernelIdeal in
theorem real_args (a : FVec Ideal S2x128x512 .bf16) (q : FVec Ideal S512x256 .bf16) (k v : FVec Ideal S2x128x16x64 .bf16) (o : FVec Ideal S256x512 .bf16)
    (h : fn (F := Ideal) a q k v o = (fun _ => 1#1)) :
    (∀ i, ∃ r : ℝ, (a i : EReal) = r) ∧ (∀ i, ∃ r : ℝ, (q i : EReal) = r) ∧ (∀ i, ∃ r : ℝ, (k i : EReal) = r) := by
  have h := congrFun h ix0
  dsimp only [fn] at h
  obtain ⟨h1, h3⟩ := IntOp.andi_eq_one.1 h
  obtain ⟨h1, h2⟩ := IntOp.andi_eq_one.1 h1
  haveI : Subsingleton S_.Idx := ⟨fun a b => funext fun x => x.elim0⟩
  exact ⟨fun i => real_of (Host.reduce_andi_all _ _ _ _ _ h1 i), fun i => real_of (Host.reduce_andi_all _ _ _ _ _ h2 i),
    fun i => real_of (Host.reduce_andi_all _ _ _ _ _ h3 i)⟩

end Cert.Pre

end
-- ==== Proof.Soft.lean ====
/-
  Softmax-weighted sums over the extended reals, and the one fact of the mathematics: a row whose entries off some
  kept places are −∞, and whose kept entries are real, has the weighted sum of its kept places alone.
-/
module

public import Idealize.ShloMosaic.PureOps.Ideal
public import Idealize.ShloMosaic.PureOps.Ideal.Laws
public import Idealize.ShloMosaic.Lib.Pointwise

@[expose] public section

set_option maxRecDepth 16384

noncomputable section

namespace Cert.Soft

open Idealize.ShloMosaic

/-- The word of −∞. -/
theorem word_bot : Ideal.ofBits .f32 0xFF800000#32 = (⊥ : EReal) := by
  simp [Ideal.ofBits, Ideal.ieee]

/-- The word of 1/8. -/
theorem word_eighth : Ideal.ofBits .f32 0x3E000000#32 = (((1 : ℝ) / 8 : ℝ) : EReal) := by
  simp [Ideal.ofBits, Ideal.ieee]
  norm_num
  exact (EReal.coe_mul _ _).symm.trans (congrArg _ (by norm_num))

/-- The greatest entry of a row. -/
def mx {n : ℕ} (s : Fin n → EReal) : EReal := Finset.fold max (Ideal.ofBits .f32 0xFF800000#32) s Finset.univ

/-- A row's softmax weight at `j`. -/
def sm {n : ℕ} (s : Fin n → EReal) (j : Fin n) : EReal :=
  Ideal.div (Ideal.exp (s j - mx s)) (∑ j', Ideal.exp (s j' - mx s))

theorem mx_le {n : ℕ} (s : Fin n → EReal) (c : EReal) : mx s ≤ c ↔ ∀ j, s j ≤ c := by
  unfold mx
  rw [word_bot, Finset.fold_max_le]
  simp

theorem le_mx {n : ℕ} (s : Fin n → EReal) (j : Fin n) : s j ≤ mx s := (mx_le s _).1 le_rfl j

theorem mx_lt {n : ℕ} (s : Fin n → EReal) (c : EReal) (hc : ⊥ < c) (h : ∀ j, s j < c) : mx s < c := by
  unfold mx
  rw [word_bot, Finset.fold_max_lt]
  exact ⟨hc, fun j _ => h j⟩

/-- A row with real entries on the kept places and −∞ off them: the greatest entry is a kept one. -/
theorem mx_comp {n k : ℕ} (e : Fin k → Fin n) (s : Fin n → EReal) (hoff : ∀ j, j ∉ Set.range e → s j = ⊥) :
    mx s = mx (fun i => s (e i)) := by
  refine le_antisymm ((mx_le _ _).2 fun j => ?_) ((mx_le _ _).2 fun i => le_mx s (e i))
  by_cases hj : j ∈ Set.range e
  · obtain ⟨i, rfl⟩ := hj
    exact le_mx (fun i => s (e i)) i
  · rw [hoff j hj]; exact bot_le

theorem mx_real {k : ℕ} (s : Fin (k + 1) → EReal) (h : ∀ i, ∃ r : ℝ, s i = r) : ∃ r : ℝ, mx s = r := by
  have h1 : mx s ≠ ⊤ := ne_of_lt (mx_lt s _ bot_lt_top fun i => by obtain ⟨r, hr⟩ := h i; rw [hr]; exact EReal.coe_lt_top r)
  have h2 : mx s ≠ ⊥ := by
    intro hb
    obtain ⟨r, hr⟩ := h 0
    have := le_mx s 0
    rw [hb, hr, le_bot_iff] at this
    exact EReal.coe_ne_bot r this
  exact ⟨(mx s).toReal, (EReal.coe_toReal h1 h2).symm⟩

theorem exp_nonneg (x : EReal) : 0 ≤ Ideal.exp x := by
  induction x using EReal.rec with
  | bot => rw [Ideal.exp_bot]
  | coe r => rw [Ideal.exp_coe]; exact EReal.coe_nonneg.2 (Real.exp_pos r).le
  | top => rw [Ideal.exp_top]; exact le_top

/-- The masked row's weighted sum is the kept row's. -/
theorem masked {n k : ℕ} (e : Fin (k + 1) → Fin n) (he : Function.Injective e) (s : Fin n → EReal)
    (hon : ∀ i, ∃ r : ℝ, s (e i) = r) (hoff : ∀ j, j ∉ Set.range e → s j = ⊥) (V : Fin n → EReal) :
    ∑ j, V j * sm s j = ∑ i, sm (fun i => s (e i)) i * V (e i) := by
  have hm := mx_comp e s hoff
  obtain ⟨r, hr⟩ := mx_real (fun i => s (e i)) hon
  have hz : ∀ j, j ∉ Set.range e → Ideal.exp (s j - mx s) = 0 := fun j hj => by
    rw [hoff j hj, hm, hr, EReal.bot_sub, Ideal.exp_bot]
  have hS : ∑ i, Ideal.exp (s (e i) - mx (fun i => s (e i))) = ∑ j, Ideal.exp (s j - mx s) :=
    Fintype.sum_of_injective e he _ _ (fun j hj => hz j hj) (fun i => by rw [hm])
  have hne : (∑ i, Ideal.exp (s (e i) - mx (fun i => s (e i)))) ≠ 0 := by
    have h1 : Ideal.exp (s (e 0) - mx (fun i => s (e i))) ≤ ∑ i, Ideal.exp (s (e i) - mx (fun i => s (e i))) :=
      Finset.single_le_sum (f := fun i => Ideal.exp (s (e i) - mx (fun i => s (e i)))) (fun i _ => exp_nonneg _) (Finset.mem_univ 0)
    obtain ⟨a, ha⟩ := hon 0
    rw [hr, ha, ← EReal.coe_sub, Ideal.exp_coe] at h1
    have h2 : (0 : EReal) < (Real.exp (a - r) : EReal) := EReal.coe_pos.2 (Real.exp_pos _)
    rw [hr]
    exact ne_of_gt (lt_of_lt_of_le h2 h1)
  refine (Fintype.sum_of_injective e he _ _ (fun j hj => ?_) (fun i => ?_)).symm
  · unfold sm
    rw [hz j hj, ← hS]
    unfold Ideal.div
    rw [if_neg hne, zero_mul, mul_zero]
  · unfold sm
    rw [← hS, hm, mul_comm]

theorem real_mul {a b : EReal} (ha : ∃ r : ℝ, a = r) (hb : ∃ r : ℝ, b = r) : ∃ r : ℝ, a * b = r := by
  obtain ⟨x, rfl⟩ := ha; obtain ⟨y, rfl⟩ := hb
  exact ⟨x * y, (EReal.coe_mul x y).symm⟩

theorem real_sum {n : ℕ} (f : Fin n → EReal) (h : ∀ i, ∃ r : ℝ, f i = r) : ∃ r : ℝ, ∑ i, f i = r := by
  choose g hg using h
  refine ⟨∑ i, g i, ?_⟩
  rw [funext hg]
  exact (map_sum (⟨⟨Real.toEReal, EReal.coe_zero⟩, EReal.coe_add⟩ : ℝ →+ EReal) g Finset.univ).symm

end Cert.Soft

end
-- ==== Proof.ValK.lean ====
/-
  What the kernel computes, read at an index over the extended reals: a context entry is a softmax-weighted sum over the
  128 gathered keys of its half, a partial projection is the contexts' product with the device's rows of the output
  matrix, the result is the four devices' sum.
-/
module

public import proofs.«01_k».proof.Proof.Vals
public import proofs.«01_k».proof.Proof.Soft
public import Idealize.ShloMosaic.Lib.Pointwise

@[expose] public section

set_option maxRecDepth 16384

noncomputable section

namespace Cert.KernelIdeal.Mesh

open Cert.KernelIdeal Cert.KernelIdeal.Gen Cert.Soft
open Idealize.ShloMosaic

/-- The attention weight of query row `i` and head `h` (its lanes `64 h` and on) at the gathered key `k`. -/
def wt (q : FVec Ideal S2x128x256 .bf16) (K : Vec Ideal S1x1x2x128x256 .bf16) (b : Fin 2) (i : Fin 128) (h : Fin 4) (k : Fin 128) : EReal :=
  sm (fun k' : Fin 128 => (∑ d : Fin 64, q (ix3 b i ⟨64 * h.val + d.val, by omega⟩) * K (ix5 0 0 b k' ⟨64 * h.val + d.val, by omega⟩))
    * Ideal.ofBits .f32 0x3E000000#32) k

/-- A context entry of half `p`, of the queries `q` and the gathered keys `K` and values `V`. -/
def kctx (q : FVec Ideal S2x128x256 .bf16) (K V : Vec Ideal S1x1x2x128x256 .bf16) (p : Fin 2) (b : Fin 2) (r : Fin 64) (l : Fin 256) : EReal :=
  ∑ k : Fin 128, wt q K b ⟨64 * p.val + r.val, by omega⟩ ⟨l.val / 64, by omega⟩ k * V (ix5 0 0 b k l)

section weights
variable (q : FVec Ideal S2x128x256 .bf16) (K V : Vec Ideal S1x1x2x128x256 .bf16) (b : Fin 2) (r : Fin 64) (k : Fin 128)

theorem wt_at {q : FVec Ideal S2x128x256 .bf16} {K : Vec Ideal S1x1x2x128x256 .bf16} {b : Fin 2} {k : Fin 128} {w : EReal} (i : Fin 128) (h : Fin 4)
    (g g' : Fin 64 → Fin 256) (j : Fin 128) (hg : ∀ d, (g d).val = 64 * h.val + d.val) (hg' : ∀ d, (g' d).val = 64 * h.val + d.val) (hj : j.val = i.val)
    (hw : w = sm (fun k' : Fin 128 => (∑ d : Fin 64, q (ix3 b j (g d)) * K (ix5 0 0 b k' (g' d))) * Ideal.ofBits .f32 0x3E000000#32) k) :
    w = wt q K b i h k := by
  have e : j = i := Fin.ext hj
  have e1 : g = fun d => ⟨64 * h.val + d.val, by omega⟩ := funext fun d => Fin.ext (hg d)
  have e2 : g' = fun d => ⟨64 * h.val + d.val, by omega⟩ := funext fun d => Fin.ext (hg' d)
  rw [hw, e, e1, e2]
  rfl

theorem pay42_at : k0_pay42 q K (ix3 b r k) = wt q K b ⟨r.val, by omega⟩ 0 k := by
  refine wt_at _ 0 (fun d => ⟨d.val, by omega⟩) (fun d => ⟨d.val, by omega⟩) ⟨r.val, by omega⟩ (by simp) (by simp) rfl ?_
  pointwise [k0_pay42, k0_pay40, k0_pay41]
  rfl

theorem pay43_at : k0_pay43 q K (ix3 b r k) = wt q K b ⟨r.val, by omega⟩ 1 k := by
  refine wt_at _ 1 (fun d => ⟨64 + d.val, by omega⟩) (fun d => ⟨64 + d.val, by omega⟩) ⟨r.val, by omega⟩ (by simp) (by simp) rfl ?_
  pointwise [k0_pay43, k0_pay40, k0_pay41]
  rfl

theorem pay46_at : k0_pay46 (k0_pay44 q) (k0_pay45 K) (constant S2x64x128 .f32 0x00000000#32) (ix3 b r k) = wt q K b ⟨r.val, by omega⟩ 2 k := by
  refine wt_at _ 2 (fun d => ⟨128 + d.val, by omega⟩) (fun d => ⟨128 + d.val, by omega⟩) ⟨r.val, by omega⟩ (by simp) (by simp) rfl ?_
  pointwise [k0_pay46, k0_pay44, k0_pay45, k0_pay40, k0_pay41]
  rfl

theorem pay47_at : k0_pay47 (k0_pay40 q) (k0_pay41 K) (ix3 b r k) = wt q K b ⟨r.val, by omega⟩ 3 k := by
  refine wt_at _ 3 (fun d => ⟨192 + d.val, by omega⟩) (fun d => ⟨192 + d.val, by omega⟩) ⟨r.val, by omega⟩ (by simp) (by simp) rfl ?_
  pointwise [k0_pay47, k0_pay40, k0_pay41]
  rfl

theorem pay55_at : k0_pay55 q K (ix3 b r k) = wt q K b ⟨64 + r.val, by omega⟩ 0 k := by
  refine wt_at _ 0 (fun d => ⟨d.val, by omega⟩) (fun d => ⟨d.val, by omega⟩) ⟨64 + r.val, by omega⟩ (by simp) (by simp) rfl ?_
  pointwise [k0_pay55, k0_pay53, k0_pay54]
  rfl

theorem pay56_at : k0_pay56 q K (ix3 b r k) = wt q K b ⟨64 + r.val, by omega⟩ 1 k := by
  refine wt_at _ 1 (fun d => ⟨64 + d.val, by omega⟩) (fun d => ⟨64 + d.val, by omega⟩) ⟨64 + r.val, by omega⟩ (by simp) (by simp) rfl ?_
  pointwise [k0_pay56, k0_pay53, k0_pay54]
  rfl

theorem pay59_wt2 :
    Ideal.div (Ideal.exp (k0_pay57 q K (ix3 b r k) - k0_pay58 q K (ix3 b r k))) (∑ x : Fin 128, Ideal.exp (k0_pay57 q K (ix3 b r x) - k0_pay58 q K (ix3 b r x)))
    = wt q K b ⟨64 + r.val, by omega⟩ 2 k := by
  refine wt_at _ 2 (fun d => ⟨128 + d.val, by omega⟩) (fun d => ⟨128 + d.val, by omega⟩) ⟨64 + r.val, by omega⟩ (by simp) (by simp) rfl ?_
  pointwise [k0_pay57, k0_pay58, k0_pay53, k0_pay54]
  rfl

end weights

/-- A ladder of four blocks of 64 lanes, read by the block that holds the lane. -/
theorem ladder {α : Type} (l : Fin 256) (f : Fin 4 → Fin 256 → α) (v : α)
    (a : l.val < 64 → α) (b : ¬ l.val < 64 → l.val - 64 < 64 → α) (c : ¬ l.val < 64 → ¬ l.val - 64 < 64 → l.val - 64 - 64 < 64 → α)
    (d : ¬ l.val < 64 → ¬ l.val - 64 < 64 → ¬ l.val - 64 - 64 < 64 → α)
    (ha : ∀ h, a h = f 0 l) (hb : ∀ h h', b h h' = f 1 l) (hc : ∀ h h' h'', c h h' h'' = f 2 l) (hd : ∀ h h' h'', d h h' h'' = f 3 l)
    (hv : f ⟨l.val / 64, by omega⟩ l = v) :
    (if h : l.val < 64 then a h else if h' : l.val - 64 < 64 then b h h' else if h'' : l.val - 64 - 64 < 64 then c h h' h'' else d h h' h'') = v := by
  rw [← hv]
  split_ifs with h1 h2 h3
  · rw [ha]; exact congrArg (fun t => f t l) (Fin.ext (by simp; omega))
  · rw [hb]; exact congrArg (fun t => f t l) (Fin.ext (by simp; omega))
  · rw [hc]; exact congrArg (fun t => f t l) (Fin.ext (by simp; omega))
  · rw [hd]; exact congrArg (fun t => f t l) (Fin.ext (by simp; omega))

/-- The contexts of a half are its weights' products with the gathered values. -/
theorem pay51_at (q : FVec Ideal S2x128x256 .bf16) (K V : Vec Ideal S1x1x2x128x256 .bf16) (wo : Vec Ideal S256x512 .bf16) (b : Fin 2) (r : Fin 64) (j : Fin 512) :
    k0_pay51 (k0_pay46 (k0_pay44 q) (k0_pay45 K) (constant S2x64x128 .f32 0x00000000#32)) (k0_pay47 (k0_pay40 q) (k0_pay41 K)) (k0_pay48 V)
      (k0_pay49 (k0_pay42 q K) V) (k0_pay50 (k0_pay43 q K) V) wo (ix3 b r j)
    = ∑ l : Fin 256, kctx q K V 0 b r l * wo (ix2 l j) := by
  have e42 := pay42_at q K
  have e43 := pay43_at q K
  have e46 := pay46_at q K
  have e47 := pay47_at q K
  generalize k0_pay42 q K = w42 at e42 ⊢
  generalize k0_pay43 q K = w43 at e43 ⊢
  generalize k0_pay46 (k0_pay44 q) (k0_pay45 K) (constant S2x64x128 .f32 0x00000000#32) = w46 at e46 ⊢
  generalize k0_pay47 (k0_pay40 q) (k0_pay41 K) = w47 at e47 ⊢
  pointwise [k0_pay51, k0_pay48, k0_pay49, k0_pay50]
  refine Finset.sum_congr rfl fun l _ => congrArg (· * wo (ix2 l j)) ?_
  simp only [e42, e43, e46, e47]
  refine ladder l (fun h l => ∑ k : Fin 128, wt q K b ⟨r.val, by omega⟩ h k * V (ix5 0 0 b k l)) _ _ _ _ _ ?_ ?_ ?_ ?_ ?_
  · intro h; rfl
  · intro h h'
    have e : (⟨64 + (l.val - 64), by omega⟩ : Fin 256) = l := Fin.ext (by simp; omega)
    simp only [e]
  · intro h h' h''
    have e : (⟨128 + (l.val - 64 - 64), by omega⟩ : Fin 256) = l := Fin.ext (by simp; omega)
    simp only [e]
  · intro h h' h''
    have e : (⟨192 + (l.val - 64 - 64 - 64), by omega⟩ : Fin 256) = l := Fin.ext (by simp; omega)
    simp only [e]
  · unfold kctx
    simp

theorem pay60_at (q : FVec Ideal S2x128x256 .bf16) (K V : Vec Ideal S1x1x2x128x256 .bf16) (wo : Vec Ideal S256x512 .bf16) (b : Fin 2) (r : Fin 64) (j : Fin 512) :
    k0_pay60 (k0_pay59 (k0_pay53 q) (k0_pay54 K) (k0_pay55 q K) (k0_pay56 q K) (k0_pay57 q K) (k0_pay58 q K) V) wo (ix3 b r j)
    = ∑ l : Fin 256, kctx q K V 1 b r l * wo (ix2 l j) := by
  have e55 := pay55_at q K
  have e56 := pay56_at q K
  have e57 := pay59_wt2 q K
  have e53 : ∀ (b : Fin 2) (r : Fin 64) (l : Fin 256), k0_pay53 q (ix3 b r l) = q (ix3 b ⟨64 + r.val, by omega⟩ l) := by
    intro b r l; pointwise [k0_pay53]
  have e54 : ∀ (b : Fin 2) (k : Fin 128) (l : Fin 256), k0_pay54 K (ix3 b k l) = K (ix5 0 0 b k l) := by
    intro b r l; pointwise [k0_pay54]
  generalize k0_pay53 q = w53 at e53 ⊢
  generalize k0_pay54 K = w54 at e54 ⊢
  generalize k0_pay55 q K = w55 at e55 ⊢
  generalize k0_pay56 q K = w56 at e56 ⊢
  generalize k0_pay57 q K = w57 at e57 ⊢
  generalize k0_pay58 q K = w58 at e57 ⊢
  pointwise [k0_pay60, k0_pay59]
  refine Finset.sum_congr rfl fun l _ => congrArg (· * wo (ix2 l j)) ?_
  simp only [e53, e54, e55, e56, e57]
  refine ladder l (fun h l => ∑ k : Fin 128, wt q K b ⟨64 + r.val, by omega⟩ h k * V (ix5 0 0 b k l)) _ _ _ _ _ ?_ ?_ ?_ ?_ ?_
  · intro h; rfl
  · intro h h'
    have e : (⟨64 + (l.val - 64), by omega⟩ : Fin 256) = l := Fin.ext (by simp; omega)
    simp only [e]
  · intro h h' h''
    have e : (⟨128 + (l.val - 64 - 64), by omega⟩ : Fin 256) = l := Fin.ext (by simp; omega)
    simp only [e]
  · intro h h' h''
    have e : (⟨192 + (l.val - 64 - 64 - 64), by omega⟩ : Fin 256) = l := Fin.ext (by simp; omega)
    simp only [e]
    refine Finset.sum_congr rfl fun k _ => congrArg (· * _) ?_
    refine wt_at _ 3 (fun d => ⟨192 + d.val, by omega⟩) (fun d => ⟨192 + d.val, by omega⟩) ⟨64 + r.val, by omega⟩ (by simp) (by simp) rfl rfl
  · unfold kctx
    simp

end Cert.KernelIdeal.Mesh

end
-- ==== Proof.ValAll.lean ====
/-
  The four devices' arrays as blocks of whole arrays: a partial projection of the kernel is the masked attention's
  contexts times the device's rows of the output matrix, and the result is their sum over the devices.
-/
module

public import proofs.«01_k».proof.Proof.ValK
public import Idealize.ShloMosaic.Lib.Pipeline.ValueKit

@[expose] public section

set_option maxRecDepth 16384

noncomputable section

namespace Cert.KernelIdeal.Mesh

open Cert.KernelIdeal Cert.KernelIdeal.Gen Cert.Soft
open Idealize.ShloMosaic

/-- The staged inputs are the blocks of whole arrays: queries' source replicated, the projection cut by columns, keys and
    values by rows, the output matrix by rows. -/
structure Holds (I : Inp Ideal) (X : S2x128x512.Idx → EReal) (Q : (⟨2, ![512, 1024]⟩ : Shape).Idx → EReal)
    (K V : (⟨4, ![2, 512, 16, 64]⟩ : Shape).Idx → EReal) (O : (⟨2, ![1024, 512]⟩ : Shape).Idx → EReal) : Prop where
  x : ∀ (c : Dev nD) (b : Fin 2) (i : Fin 128) (e : Fin 512), I.x c (ix3 b i e) = X (ix3 b i e)
  q : ∀ (c : Dev nD) (e : Fin 512) (l : Fin 256) (l' : Fin 1024), l'.val = 256 * c.val + l.val → I.wq c (ix2 e l) = Q (ix2 e l')
  k : ∀ (c : Dev nD) (b : Fin 2) (r : Fin 128) (z : Fin 1024) (r' : Fin 512) (h : Fin 16) (d : Fin 64),
    r'.val = 128 * c.val + r.val → h.val = z.val / 64 → d.val = z.val % 64 → I.k c (ix3 b r z) = K (ix4 b r' h d)
  v : ∀ (c : Dev nD) (b : Fin 2) (r : Fin 128) (z : Fin 1024) (r' : Fin 512) (h : Fin 16) (d : Fin 64),
    r'.val = 128 * c.val + r.val → h.val = z.val / 64 → d.val = z.val % 64 → I.v c (ix3 b r z) = V (ix4 b r' h d)
  o : ∀ (c : Dev nD) (l : Fin 256) (j : Fin 512) (l' : Fin 1024), l'.val = 256 * c.val + l.val → I.wo c (ix2 l j) = O (ix2 l' j)

/-- The whole array's row of the gathered key `k` of half `p`. -/
def key (p : Fin 2) (k : Fin 128) : Fin 512 := ⟨256 * (k.val / 64) + 64 * p.val + k.val % 64, by omega⟩

section specs
variable (X : S2x128x512.Idx → EReal) (Q : (⟨2, ![512, 1024]⟩ : Shape).Idx → EReal)
  (K V : (⟨4, ![2, 512, 16, 64]⟩ : Shape).Idx → EReal) (O : (⟨2, ![1024, 512]⟩ : Shape).Idx → EReal)

/-- The scaled score of query row `i` and key `j` at head `h`. -/
def scG (b : Fin 2) (h : Fin 16) (i : Fin 128) (j : Fin 512) : EReal :=
  (∑ x : Fin 64, (∑ e : Fin 512, X (ix3 b i e) * Q (ix2 e ⟨h.val * 64 + x.val, by omega⟩)) * K (ix4 b j h x)) * Ideal.ofBits .f32 0x3E000000#32

/-- The context of query row `i` at the lane `y` of all heads' lanes: over the keys of the row's half. -/
def ctxG (b : Fin 2) (i : Fin 128) (y : Fin 1024) : EReal :=
  ∑ k : Fin 128, sm (fun k' : Fin 128 => scG X Q K b ⟨y.val / 64, by omega⟩ i (key ⟨i.val / 64, by omega⟩ k')) k
    * V (ix4 b (key ⟨i.val / 64, by omega⟩ k) ⟨y.val / 64, by omega⟩ ⟨y.val % 64, by omega⟩)

/-- Device `c`'s part of the result. -/
def partG (c : Fin 4) (b : Fin 2) (i : Fin 128) (j : Fin 512) : EReal :=
  ∑ l : Fin 256, ctxG X Q K V b i ⟨c.val * 256 + l.val, by omega⟩ * O (ix2 ⟨c.val * 256 + l.val, by omega⟩ j)

end specs

section tie
variable {I : Inp Ideal} {X : S2x128x512.Idx → EReal} {Q : (⟨2, ![512, 1024]⟩ : Shape).Idx → EReal}
  {K V : (⟨4, ![2, 512, 16, 64]⟩ : Shape).Idx → EReal} {O : (⟨2, ![1024, 512]⟩ : Shape).Idx → EReal} (H : Holds I X Q K V O)
include H

theorem qry_at (c : Dev nD) (b : Fin 2) (i : Fin 128) (l : Fin 256) (l' : Fin 1024) (hl : l'.val = 256 * c.val + l.val) :
    qry I c (ix3 b i l) = ∑ e : Fin 512, X (ix3 b i e) * Q (ix2 e l') := by
  have e1 : qry I c (ix3 b i l) = ∑ e : Fin 512, I.x c (ix3 b i e) * I.wq c (ix2 e l) := by
    pointwise [qry, k0_pay39]
  rw [e1]
  exact Finset.sum_congr rfl fun e _ => by rw [H.x, H.q c e l l' hl]

theorem box_at (c : Dev nD) (p t : Fin 2) (b : Fin 2) (k : Fin 128) (l : Fin 256) (h : Fin 16) (d : Fin 64)
    (hh : h.val = (256 * c.val + l.val) / 64) (hd : d.val = (256 * c.val + l.val) % 64) :
    kvBox I c p t (ix5 0 0 b k l) = (if t = 0 then K else V) (ix4 b (key p k) h d) := by
  have hc : c.val < 4 := c.isLt
  have e0 : kvBox I c p t (ix5 0 0 b k l) = kvAt I (snd ⟨k.val / 64, by omega⟩) t
      (ix3 b ⟨64 * p.val + k.val % 64, by omega⟩ ⟨256 * c.val + l.val, by omega⟩) := by
    unfold kvBox kvB
    simp only [ix3_eq_valueIdx]
    rfl
  have hs : ∀ a : Fin 2, (snd a).val = 2 * a.val := by decide
  have e1 : (key p k).val = 128 * (snd ⟨k.val / 64, by omega⟩).val + (64 * p.val + k.val % 64) := by
    rw [hs]; show 256 * (k.val / 64) + 64 * p.val + k.val % 64 = 128 * (2 * (k.val / 64)) + _; omega
  rw [e0]
  unfold kvAt
  split
  · exact H.k _ b _ _ (key p k) h d e1 hh hd
  · exact H.v _ b _ _ (key p k) h d e1 hh hd

theorem kctx_at (c : Dev nD) (p : Fin 2) (b : Fin 2) (r : Fin 64) (l : Fin 256) (i : Fin 128) (hi : i.val = 64 * p.val + r.val)
    (hc : c.val < 4) :
    kctx (qry I c) (kvBox I c p 0) (kvBox I c p 1) p b r l = ctxG X Q K V b i ⟨c.val * 256 + l.val, by omega⟩ := by
  have ei : (⟨64 * p.val + r.val, by omega⟩ : Fin 128) = i := Fin.ext hi.symm
  have ep : p = ⟨i.val / 64, by omega⟩ := Fin.ext (by show p.val = i.val / 64; omega)
  unfold kctx ctxG wt
  rw [ei, ← ep]
  refine Finset.sum_congr rfl fun k _ => ?_
  rw [box_at H c p 1 b k l ⟨(c.val * 256 + l.val) / 64, by omega⟩ ⟨(c.val * 256 + l.val) % 64, by omega⟩ (by simp; omega) (by simp; omega)]
  refine congrArg₂ (· * ·) (congrArg (fun s => sm s k) (funext fun k' => congrArg (· * _) (Finset.sum_congr rfl fun d _ => ?_))) rfl
  rw [qry_at H c b i _ ⟨(c.val * 256 + l.val) / 64 * 64 + d.val, by omega⟩ (by simp; omega),
    box_at H c p 0 b k' _ ⟨(c.val * 256 + l.val) / 64, by omega⟩ d (by simp; omega) (by simp; omega)]
  rfl

theorem accA_at (c : Dev nD) (b : Fin 2) (r : Fin 64) (j : Fin 512) :
    accA I c (ix3 b r j) = partG X Q K V O c b ⟨r.val, by omega⟩ j := by
  unfold accA
  rw [pay51_at]
  have hc : c.val < 4 := c.isLt
  refine Finset.sum_congr rfl fun l _ => ?_
  rw [kctx_at H c 0 b r l ⟨r.val, by omega⟩ (by simp) hc, H.o c l j ⟨c.val * 256 + l.val, by omega⟩ (by simp; omega)]

theorem accB_at (c : Dev nD) (b : Fin 2) (r : Fin 64) (j : Fin 512) :
    accB I c (ix3 b r j) = partG X Q K V O c b ⟨64 + r.val, by omega⟩ j := by
  unfold accB ctxB
  rw [pay60_at]
  have hc : c.val < 4 := c.isLt
  refine Finset.sum_congr rfl fun l _ => ?_
  rw [kctx_at H c 1 b r l ⟨64 + r.val, by omega⟩ (by simp) hc, H.o c l j ⟨c.val * 256 + l.val, by omega⟩ (by simp; omega)]

end tie

section sums
variable (I : Inp Ideal)

theorem asBox_at (a : Vec Ideal S2x64x512 .bf16) (b : Fin 2) (r : Fin 64) (j : Fin 512) : asBox a (ix5 0 0 b r j) = a (ix3 b r j) := by
  unfold asBox
  rw [ix3_eq_valueIdx]
  rfl

theorem pay62_at (a : FVec Ideal S2x64x512 .bf16) (x : Vec Ideal S1x1x2x64x512 .bf16) (b : Fin 2) (r : Fin 64) (j : Fin 512) :
    k0_pay62 a x (ix3 b r j) = a (ix3 b r j) + x (ix5 0 0 b r j) := by
  pointwise [k0_pay62]
theorem pay64_at (a : FVec Ideal S2x64x512 .bf16) (x : Vec Ideal S1x1x2x64x512 .bf16) (b : Fin 2) (r : Fin 64) (j : Fin 512) :
    k0_pay64 a x (ix3 b r j) = a (ix3 b r j) + x (ix5 0 0 b r j) := by
  pointwise [k0_pay64]
theorem pay66_at (a : FVec Ideal S2x64x512 .bf16) (x : Vec Ideal S1x1x2x64x512 .bf16) (b : Fin 2) (r : Fin 64) (j : Fin 512) :
    k0_pay66 a x (ix3 b r j) = a (ix3 b r j) + x (ix5 0 0 b r j) := by
  pointwise [k0_pay66]
theorem pay67_at (a : FVec Ideal S2x64x512 .bf16) (x : Vec Ideal S1x1x2x64x512 .bf16) (b : Fin 2) (r : Fin 64) (j : Fin 512) :
    k0_pay67 a x (ix3 b r j) = a (ix3 b r j) + x (ix5 0 0 b r j) := by
  pointwise [k0_pay67]

/-- The two exchanges add every device's value once. -/
theorem exch (f : Dev nD → EReal) (c : Dev nD) : (f c + f (par 0 c)) + (f (par 1 c) + f (par 0 (par 1 c))) = ∑ d : Fin 4, f d := by
  rw [Fin.sum_univ_four]
  have h : ∀ c : Dev nD, c = 0 ∨ c = 1 ∨ c = 2 ∨ c = 3 := by decide
  rcases h c with rfl | rfl | rfl | rfl
  · show f 0 + f 1 + (f 3 + f 2) = _; abel
  · show f 1 + f 0 + (f 2 + f 3) = _; abel
  · show f 2 + f 3 + (f 1 + f 0) = _; abel
  · show f 3 + f 2 + (f 0 + f 1) = _; abel

theorem outA_at (c : Dev nD) (b : Fin 2) (r : Fin 64) (j : Fin 512) : outA I c (ix3 b r j) = ∑ d : Fin 4, (accA I d (ix3 b r j) : EReal) := by
  unfold outA accA'
  rw [pay66_at, asBox_at, pay62_at, pay62_at, asBox_at, asBox_at]
  exact exch (fun d => accA I d (ix3 b r j)) c

theorem outB_at (c : Dev nD) (b : Fin 2) (r : Fin 64) (j : Fin 512) : outB I c (ix3 b r j) = ∑ d : Fin 4, (accB I d (ix3 b r j) : EReal) := by
  unfold outB accB'
  rw [pay67_at, asBox_at, pay64_at, pay64_at, asBox_at, asBox_at]
  exact exch (fun d => accB I d (ix3 b r j)) c

end sums

/-- The result on any device: the contexts of all lanes times the output matrix. -/
theorem outV_at {I : Inp Ideal} {X : S2x128x512.Idx → EReal} {Q : (⟨2, ![512, 1024]⟩ : Shape).Idx → EReal}
    {K V : (⟨4, ![2, 512, 16, 64]⟩ : Shape).Idx → EReal} {O : (⟨2, ![1024, 512]⟩ : Shape).Idx → EReal} (H : Holds I X Q K V O)
    (c : Dev nD) (b : Fin 2) (i : Fin 128) (j : Fin 512) :
    outV I c (ix3 b i j) = ∑ y : Fin 1024, ctxG X Q K V b i y * O (ix2 y j) := by
  have e : outV I c (ix3 b i j) = ∑ d : Fin 4, partG X Q K V O d b i j := by
    unfold outV
    split
    · rename_i h
      have h' : i.val < 64 := h
      have e := outA_at I c b ⟨i.val, h'⟩ j
      rw [ix3_eq_valueIdx] at e
      refine e.trans (Finset.sum_congr rfl fun d _ => ?_)
      rw [← ix3_eq_valueIdx]
      exact accA_at H d b ⟨i.val, h'⟩ j
    · rename_i h
      have h' : ¬ i.val < 64 := h
      have e := outB_at I c b ⟨i.val - 64, by omega⟩ j
      rw [ix3_eq_valueIdx] at e
      refine e.trans (Finset.sum_congr rfl fun d _ => ?_)
      rw [← ix3_eq_valueIdx]
      rw [accB_at H d b ⟨i.val - 64, by omega⟩ j]
      exact congrArg (fun i => partG X Q K V O d b i j) (Fin.ext (by show 64 + (i.val - 64) = i.val; omega))
  rw [e]
  exact Fin.sum_mul_add_fin 4 256 (fun y : Fin 1024 => ctxG X Q K V b i y * O (ix2 y j))

end Cert.KernelIdeal.Mesh

end
-- ==== Proof.RefVal.lean ====
/-
  The reference read at an index over the extended reals: the block mask as a condition on the places, the weights as
  masked softmaxes, the result as the contexts' product with the output matrix.
-/
module

public import proofs.«01_k».proof.Proof.Gen.ReferenceIdeal.Run
public import proofs.«01_k».proof.Proof.Soft
public import Idealize.ShloMosaic.Lib.Pointwise
public import Idealize.ShloMosaic.Lib.Tactic.CleanTypes
public import Idealize.ShloMosaic.Lib.Routing.OpsOrder

@[expose] public section

set_option maxRecDepth 16384

noncomputable section

namespace Cert.ReferenceIdeal.Value

open Cert.ReferenceIdeal Cert.ReferenceIdeal.Gen Cert.Soft
open Idealize.ShloMosaic Idealize.ShloMosaic.TcCoe

/-- The query blocks: a row's number over 64. -/
def qbT : IVec S128 32 := (select (andi (cmpi .ne (signi (iotaInDim S128 32 0)) (broadcastInDim S128 ![] bcast_S_S128 (signi (id (constantI S_ 32 64#32))))) (cmpi .ne (Host.remsi (iotaInDim S128 32 0) (broadcastInDim S128 ![] bcast_S_S128 (id (constantI S_ 32 64#32)))) (broadcastInDim S128 ![] bcast_S_S128 (constantI S_ 32 0#32)))) (subi (Host.divsi (iotaInDim S128 32 0) (broadcastInDim S128 ![] bcast_S_S128 (id (constantI S_ 32 64#32)))) (broadcastInDim S128 ![] bcast_S_S128 (constantI S_ 32 1#32))) (Host.divsi (iotaInDim S128 32 0) (broadcastInDim S128 ![] bcast_S_S128 (id (constantI S_ 32 64#32)))))
/-- The key blocks. -/
def kbT : IVec S512 32 := (select (andi (cmpi .ne (signi (iotaInDim S512 32 0)) (broadcastInDim S512 ![] bcast_S_S512 (signi (id (constantI S_ 32 64#32))))) (cmpi .ne (Host.remsi (iotaInDim S512 32 0) (broadcastInDim S512 ![] bcast_S_S512 (id (constantI S_ 32 64#32)))) (broadcastInDim S512 ![] bcast_S_S512 (constantI S_ 32 0#32)))) (subi (Host.divsi (iotaInDim S512 32 0) (broadcastInDim S512 ![] bcast_S_S512 (id (constantI S_ 32 64#32)))) (broadcastInDim S512 ![] bcast_S_S512 (constantI S_ 32 1#32))) (Host.divsi (iotaInDim S512 32 0) (broadcastInDim S512 ![] bcast_S_S512 (id (constantI S_ 32 64#32)))))
/-- The query blocks modulo 4. -/
def qmT : IVec S128x1 32 := (select (andi (cmpi .ne (cmpi .slt (Host.remsi (broadcastInDim S128x1 ![0] bcast_S128_S128x1_0 qbT) (broadcastInDim S128x1 ![] bcast_S_S128x1 (select (cmpi .eq (id (constantI S_ 32 4#32)) (constantI S_ 32 0#32)) (constantI S_ 32 1#32) (id (constantI S_ 32 4#32))))) (broadcastInDim S128x1 ![] bcast_S_S128x1 (constantI S_ 32 0#32))) (broadcastInDim S128x1 ![] bcast_S_S128x1 (cmpi .slt (select (cmpi .eq (id (constantI S_ 32 4#32)) (constantI S_ 32 0#32)) (constantI S_ 32 1#32) (id (constantI S_ 32 4#32))) (constantI S_ 32 0#32)))) (cmpi .ne (Host.remsi (broadcastInDim S128x1 ![0] bcast_S128_S128x1_0 qbT) (broadcastInDim S128x1 ![] bcast_S_S128x1 (select (cmpi .eq (id (constantI S_ 32 4#32)) (constantI S_ 32 0#32)) (constantI S_ 32 1#32) (id (constantI S_ 32 4#32))))) (broadcastInDim S128x1 ![] bcast_S_S128x1 (constantI S_ 32 0#32)))) (addi (Host.remsi (broadcastInDim S128x1 ![0] bcast_S128_S128x1_0 qbT) (broadcastInDim S128x1 ![] bcast_S_S128x1 (select (cmpi .eq (id (constantI S_ 32 4#32)) (constantI S_ 32 0#32)) (constantI S_ 32 1#32) (id (constantI S_ 32 4#32))))) (broadcastInDim S128x1 ![] bcast_S_S128x1 (select (cmpi .eq (id (constantI S_ 32 4#32)) (constantI S_ 32 0#32)) (constantI S_ 32 1#32) (id (constantI S_ 32 4#32))))) (Host.remsi (broadcastInDim S128x1 ![0] bcast_S128_S128x1_0 qbT) (broadcastInDim S128x1 ![] bcast_S_S128x1 (select (cmpi .eq (id (constantI S_ 32 4#32)) (constantI S_ 32 0#32)) (constantI S_ 32 1#32) (id (constantI S_ 32 4#32))))))
/-- The key blocks modulo 4. -/
def kmT : IVec S1x512 32 := (select (andi (cmpi .ne (cmpi .slt (Host.remsi (broadcastInDim S1x512 ![1] bcast_S512_S1x512_1 kbT) (broadcastInDim S1x512 ![] bcast_S_S1x512 (select (cmpi .eq (id (constantI S_ 32 4#32)) (constantI S_ 32 0#32)) (constantI S_ 32 1#32) (id (constantI S_ 32 4#32))))) (broadcastInDim S1x512 ![] bcast_S_S1x512 (constantI S_ 32 0#32))) (broadcastInDim S1x512 ![] bcast_S_S1x512 (cmpi .slt (select (cmpi .eq (id (constantI S_ 32 4#32)) (constantI S_ 32 0#32)) (constantI S_ 32 1#32) (id (constantI S_ 32 4#32))) (constantI S_ 32 0#32)))) (cmpi .ne (Host.remsi (broadcastInDim S1x512 ![1] bcast_S512_S1x512_1 kbT) (broadcastInDim S1x512 ![] bcast_S_S1x512 (select (cmpi .eq (id (constantI S_ 32 4#32)) (constantI S_ 32 0#32)) (constantI S_ 32 1#32) (id (constantI S_ 32 4#32))))) (broadcastInDim S1x512 ![] bcast_S_S1x512 (constantI S_ 32 0#32)))) (addi (Host.remsi (broadcastInDim S1x512 ![1] bcast_S512_S1x512_1 kbT) (broadcastInDim S1x512 ![] bcast_S_S1x512 (select (cmpi .eq (id (constantI S_ 32 4#32)) (constantI S_ 32 0#32)) (constantI S_ 32 1#32) (id (constantI S_ 32 4#32))))) (broadcastInDim S1x512 ![] bcast_S_S1x512 (select (cmpi .eq (id (constantI S_ 32 4#32)) (constantI S_ 32 0#32)) (constantI S_ 32 1#32) (id (constantI S_ 32 4#32))))) (Host.remsi (broadcastInDim S1x512 ![1] bcast_S512_S1x512_1 kbT) (broadcastInDim S1x512 ![] bcast_S_S1x512 (select (cmpi .eq (id (constantI S_ 32 4#32)) (constantI S_ 32 0#32)) (constantI S_ 32 1#32) (id (constantI S_ 32 4#32))))))
/-- The block mask. -/
def maskT : IVec S128x512 1 := (ori (cmpi .eq (broadcastInDim S128x512 ![0, 1] bcast_S128x1_S128x512_0_1 (broadcastInDim S128x1 ![0] bcast_S128_S128x1_0 qbT)) (broadcastInDim S128x512 ![0, 1] bcast_S1x512_S128x512_0_1 (broadcastInDim S1x512 ![1] bcast_S512_S1x512_1 kbT))) (cmpi .eq (broadcastInDim S128x512 ![0, 1] bcast_S1x512_S128x512_0_1 kmT) (broadcastInDim S128x512 ![0, 1] bcast_S128x1_S128x512_0_1 qmT)))

variable (m : (ℓ : Loc nD τ sig) → Buf (Elt Ideal) ℓ) (c : Dev nD)

/-- The queries by head. -/
def qT : FVec Ideal S2x128x16x64 .f32 := (shapeCast S2x128x16x64 (Host.dotGeneral dot_S2x128x512_S512x1024_S2x128x1024_2_0_01_1_n_n none (extf .f32 (m ((c.tc : Thread nD τ).loc main_arg0)) bitsLt_bf16_f32) (extf .f32 (m ((c.tc : Thread nD τ).loc main_arg1)) bitsLt_bf16_f32)) shapeCasts_S2x128x1024_S2x128x16x64)
/-- The masked scores. -/
def scT : FVec Ideal S2x16x128x512 .f32 := (select (broadcastInDim S2x16x128x512 ![0, 1, 2, 3] bcast_S1x1x128x512_S2x16x128x512_0_1_2_3 (broadcastInDim S1x1x128x512 ![2, 3] bcast_S128x512_S1x1x128x512_2_3 maskT)) (mulf (Host.dotGeneral dot_S2x128x16x64_S2x512x16x64_S2x16x128x512_3_3_1_1_02_02 none (qT m c) (extf .f32 (m ((c.tc : Thread nD τ).loc main_arg2)) bitsLt_bf16_f32)) (broadcastInDim S2x16x128x512 ![] bcast_S_S2x16x128x512 (constant S_ .f32 0x3E000000#32))) (broadcastInDim S2x16x128x512 ![] bcast_S_S2x16x128x512 (id (constant S_ .f32 0xFF800000#32))))
/-- The weights of scores. -/
def wT (sc : FVec Ideal S2x16x128x512 .f32) : FVec Ideal S2x16x128x512 .f32 := (select (broadcastInDim S2x16x128x512 ![0, 1, 2, 3] bcast_S1x1x128x1_S2x16x128x512_0_1_2_3 (broadcastInDim S1x1x128x1 ![2] bcast_S128_S1x1x128x1_2 (Host.reduce IntOp.ori maskT (constantI S_ 1 0#1) reducesTo_S128x512_S128_d1 h_S_))) (Host.divf (Host.exp (subf sc (broadcastInDim S2x16x128x512 ![0, 1, 2, 3] bcast_S2x16x128x1_S2x16x128x512_0_1_2_3 (broadcastInDim S2x16x128x1 ![0, 1, 2] bcast_S2x16x128_S2x16x128x1_0_1_2 (Host.reduce FloatOps.maximumf sc (constant S_ .f32 0xFF800000#32) reducesTo_S2x16x128x512_S2x16x128_d3 h_S_))))) (broadcastInDim S2x16x128x512 ![0, 1, 2, 3] bcast_S2x16x128x1_S2x16x128x512_0_1_2_3 (select (broadcastInDim S2x16x128x1 ![0, 1, 2, 3] bcast_S1x1x128x1_S2x16x128x1_0_1_2_3 (broadcastInDim S1x1x128x1 ![2] bcast_S128_S1x1x128x1_2 (Host.reduce IntOp.ori maskT (constantI S_ 1 0#1) reducesTo_S128x512_S128_d1 h_S_))) (broadcastInDim S2x16x128x1 ![0, 1, 2] bcast_S2x16x128_S2x16x128x1_0_1_2 (Host.reduceAdd (Host.exp (subf sc (broadcastInDim S2x16x128x512 ![0, 1, 2, 3] bcast_S2x16x128x1_S2x16x128x512_0_1_2_3 (broadcastInDim S2x16x128x1 ![0, 1, 2] bcast_S2x16x128_S2x16x128x1_0_1_2 (Host.reduce FloatOps.maximumf sc (constant S_ .f32 0xFF800000#32) reducesTo_S2x16x128x512_S2x16x128_d3 h_S_))))) (constant S_ .f32 0x00000000#32) reducesTo_S2x16x128x512_S2x16x128_d3 h_S_)) (broadcastInDim S2x16x128x1 ![] bcast_S_S2x16x128x1 (id (constant S_ .f32 0x3F800000#32)))))) (broadcastInDim S2x16x128x512 ![] bcast_S_S2x16x128x512 (id (constant S_ .f32 0x00000000#32))))

theorem res_eq : res_main_v45 m c = truncf .bf16 (Host.dotGeneral dot_S2x128x1024_S1024x512_S2x128x512_2_0_01_1_n_n none (shapeCast _ (transpose S2x128x16x64 [0, 3, 1, 2] (Host.dotGeneral dot_S2x512x16x64_S2x16x128x512_S2x16x64x128_1_3_3_2_02_01 none (extf .f32 (m ((c.tc : Thread nD τ).loc main_arg3)) bitsLt_bf16_f32) (wT (scT m c))) transposes_S2x16x64x128_S2x128x16x64_0_3_1_2) shapeCasts_S2x128x16x64_S2x128x1024) (extf .f32 (m ((c.tc : Thread nD τ).loc main_arg4)) bitsLt_bf16_f32)) bitsLt_bf16_f32 := by
  unfold res_main_v45
  rfl

theorem qbT_at (i : Fin 128) : qbT (ix1 i) = BitVec.ofNat 32 (i.val / 64) := by
  pointwise [qbT]
  revert i
  decide +kernel

theorem kbT_at (j : Fin 512) : kbT (ix1 j) = BitVec.ofNat 32 (j.val / 64) := by
  pointwise [kbT]
  revert j
  decide +kernel

theorem qmT_at (i : Fin 128) : qmT (ix2 i 0) = BitVec.ofNat 32 (i.val / 64) := by
  pointwise [qmT]
  simp only [qbT_at]
  revert i
  decide +kernel

theorem kmT_at (j : Fin 512) : kmT (ix2 0 j) = BitVec.ofNat 32 (j.val / 64 % 4) := by
  pointwise [kmT]
  simp only [kbT_at]
  revert j
  decide +kernel

/-- A key is kept for a query where its block modulo 4 is the query's block. -/
theorem maskT_at (i : Fin 128) (j : Fin 512) : maskT (ix2 i j) = if j.val / 64 % 4 = i.val / 64 then 1#1 else 0#1 := by
  pointwise [maskT]
  simp only [qbT_at, kbT_at, qmT_at, kmT_at]
  have h : ∀ (a : Fin 2) (b : Fin 8), IntOp.ori (IntOp.cmpi CmpIPredicate.eq (BitVec.ofNat 32 a.val) (BitVec.ofNat 32 b.val))
      (IntOp.cmpi CmpIPredicate.eq (BitVec.ofNat 32 (b.val % 4)) (BitVec.ofNat 32 a.val)) = if b.val % 4 = a.val then 1#1 else 0#1 := by decide +kernel
  exact h ⟨i.val / 64, by omega⟩ ⟨j.val / 64, by omega⟩

/-- Every query keeps a key. -/
theorem keep_at (i : Fin 128) : Host.reduce IntOp.ori maskT (constantI S_ 1 0#1) reducesTo_S128x512_S128_d1 h_S_ (ix1 i) = 1#1 := by
  pointwise
  rw [Routing.fold_ori]
  refine ⟨⟨64 * (i.val / 64), by omega⟩, Finset.mem_univ _, ?_⟩
  rw [maskT_at, if_pos (by show 64 * (i.val / 64) / 64 % 4 = i.val / 64; omega)]

/-- The weights are the masked softmax of the scores. -/
theorem wT_at (sc : FVec Ideal S2x16x128x512 .f32) (b : Fin 2) (h : Fin 16) (i : Fin 128) (j : Fin 512) :
    wT sc (ix4 b h i j) = sm (fun j' : Fin 512 => sc (ix4 b h i j')) j := by
  unfold wT
  generalize hk : Host.reduce IntOp.ori maskT _ _ _ = keep
  have hk' : ∀ i, keep (ix1 i) = 1#1 := fun i => by rw [← hk]; exact keep_at i
  pointwise
  simp only [hk']
  rfl

/-- The arguments as arrays of extended reals. -/
def aX : S2x128x512.Idx → EReal := m (c.tc.loc main_arg0)
@[inherit_doc aX] def aQ : S512x1024.Idx → EReal := m (c.tc.loc main_arg1)
@[inherit_doc aX] def aK : S2x512x16x64.Idx → EReal := m (c.tc.loc main_arg2)
@[inherit_doc aX] def aV : S2x512x16x64.Idx → EReal := m (c.tc.loc main_arg3)
@[inherit_doc aX] def aO : S1024x512.Idx → EReal := m (c.tc.loc main_arg4)
/-- The result as an array of extended reals. -/
def aR : S2x128x512.Idx → EReal := res_main_v45 m c

/-- A score: the scaled product of query and key where the key is kept, the least extended real elsewhere. -/
theorem scT_at (b : Fin 2) (h : Fin 16) (i : Fin 128) (j : Fin 512) :
    scT m c (ix4 b h i j) = if j.val / 64 % 4 = i.val / 64 then
      (∑ x : Fin 64, (∑ e : Fin 512, aX m c (ix3 b i e) * aQ m c (ix2 e ⟨h.val * 64 + x.val, by omega⟩))
        * aK m c (ix4 b j h x)) * Ideal.ofBits .f32 0x3E000000#32 else ⊥ := by
  unfold scT qT
  clean_types
  pointwise
  simp only [maskT_at]
  split
  · rfl
  · exact word_bot

/-- The result: the contexts of all heads times the output matrix. -/
theorem res_at (b : Fin 2) (i : Fin 128) (j : Fin 512) :
    aR m c (ix3 b i j) = ∑ y : Fin 1024,
      (∑ k : Fin 512, aV m c (ix4 b k ⟨y.val / 64, by omega⟩ ⟨y.val % 64, by omega⟩)
        * wT (scT m c) (ix4 b ⟨y.val / 64, by omega⟩ i k)) * aO m c (ix2 y j) := by
  unfold aR
  rw [res_eq]
  clean_types
  pointwise
  rfl

end Cert.ReferenceIdeal.Value

end
-- ==== Proof.Tie.lean ====
/-
  The kernel's result against the reference's: the devices' arrays are blocks of the reference's whole arrays, a masked
  softmax over 512 keys is the softmax over the 128 kept ones, and the sum over the devices is the sum over all lanes.
-/
module

public import proofs.«01_k».proof.Proof.ValAll
public import proofs.«01_k».proof.Proof.RefVal
public import proofs.«01_k».proof.Proof.Region
public import proofs.«01_k».proof.Proof.Pre
public import Idealize.ShloMosaic.Lib.LayoutAt
public import Idealize.ShloMosaic.Lib.StableHlo.Run

@[expose] public section

set_option maxRecDepth 16384

noncomputable section

namespace Cert.Tie

open Cert.Soft Cert.ReferenceIdeal.Value Cert.KernelIdeal.Mesh
open Idealize.ShloMosaic Idealize.ShloMosaic.TcCoe

/-- Every entry is a real number. -/
def AllReal {S : Shape} (A : S.Idx → EReal) : Prop := ∀ i, ∃ r : ℝ, A i = r

section reference
variable (m : (ℓ : Loc Cert.ReferenceIdeal.nD Cert.ReferenceIdeal.τ Cert.ReferenceIdeal.sig) → Buf (Elt Ideal) ℓ) (c : Dev Cert.ReferenceIdeal.nD)
variable (hx : ∀ i, ∃ r : ℝ, aX m c i = r) (hq : ∀ i, ∃ r : ℝ, aQ m c i = r) (hk : ∀ i, ∃ r : ℝ, aK m c i = r)
include hx hq hk

/-- The reference's result: its 512 keys are the half's 128 kept ones and others of weight zero. -/
theorem ref_at (b : Fin 2) (i : Fin 128) (j : Fin 512) :
    aR m c (ix3 b i j) = ∑ y : Fin 1024, ctxG (aX m c) (aQ m c) (aK m c) (aV m c) b i y * aO m c (ix2 y j) := by
  rw [res_at]
  refine Finset.sum_congr rfl fun y _ => congrArg (· * _) ?_
  simp only [wT_at]
  have hval : ∀ k : Fin 128, (key ⟨i.val / 64, by omega⟩ k).val = 256 * (k.val / 64) + 64 * (i.val / 64) + k.val % 64 := fun _ => rfl
  have hsc : ∀ k : Fin 128, scT m c (ix4 b ⟨y.val / 64, by omega⟩ i (key ⟨i.val / 64, by omega⟩ k))
      = scG (aX m c) (aQ m c) (aK m c) b ⟨y.val / 64, by omega⟩ i (key ⟨i.val / 64, by omega⟩ k) := fun k => by
    rw [scT_at, if_pos (by rw [hval]; omega)]
    rfl
  refine (masked (n := 512) (k := 127) (key ⟨i.val / 64, by omega⟩) ?_ (fun j' => scT m c (ix4 b ⟨y.val / 64, by omega⟩ i j')) ?_ ?_
    (fun k => aV m c (ix4 b k ⟨y.val / 64, by omega⟩ ⟨y.val % 64, by omega⟩))).trans ?_
  · intro k k' e
    have e' := congrArg Fin.val e
    rw [hval, hval] at e'
    exact Fin.ext (by omega)
  · intro k
    show ∃ r : ℝ, scT m c (ix4 b ⟨y.val / 64, by omega⟩ i (key ⟨i.val / 64, by omega⟩ k)) = r
    rw [hsc]
    unfold scG
    exact real_mul (real_sum _ fun d => real_mul (real_sum _ fun e => real_mul (hx _) (hq _)) (hk _)) ⟨_, word_eighth⟩
  · intro j' hj'
    show scT m c (ix4 b ⟨y.val / 64, by omega⟩ i j') = ⊥
    rw [scT_at, if_neg]
    intro hm
    refine hj' ⟨⟨64 * (j'.val / 256) + j'.val % 64, by omega⟩, Fin.ext ?_⟩
    rw [hval]
    show 256 * ((64 * (j'.val / 256) + j'.val % 64) / 64) + 64 * (i.val / 64) + (64 * (j'.val / 256) + j'.val % 64) % 64 = j'.val
    omega
  · unfold ctxG
    exact Finset.sum_congr rfl fun k _ => congrArg (· * _) (congrArg (fun s => sm s k) (funext fun k' => hsc k'))

end reference

section blocks
open Cert.KernelIdeal Cert.KernelIdeal.Gen
variable (m : (ℓ : Loc nD τ sig) → Buf (Elt Ideal) ℓ)

theorem V_v1 (c : Dev nD) : V m c main_v1 = (shapeCast S2x128x1024 (m (c.tc.loc main_arg2) : FVec Ideal S2x128x16x64 .bf16) shapeCasts_S2x128x16x64_S2x128x1024) := by
  simp only [V, hostOps0]
  after_results_simp <;> rfl

theorem V_v2 (c : Dev nD) : V m c main_v2 = (shapeCast S2x128x1024 (m (c.tc.loc main_arg3) : FVec Ideal S2x128x16x64 .bf16) shapeCasts_S2x128x16x64_S2x128x1024) := by
  simp only [V, hostOps0]
  after_results_simp <;> rfl

/-- Merging heads and dims into lanes. -/
theorem merged (K : FVec Ideal S2x128x16x64 .bf16) (b : Fin 2) (r : Fin 128) (z : Fin 1024) :
    shapeCast S2x128x1024 K shapeCasts_S2x128x16x64_S2x128x1024 (ix3 b r z) = K (ix4 b r ⟨z.val / 64, by omega⟩ ⟨z.val % 64, by omega⟩) := by
  pointwise

theorem block_q (A : (⟨2, ![512, 1024]⟩ : Shape).Idx → EReal) (c : Fin 4) (e : Fin 512) (l : Fin 256) (l' : Fin 1024) (hl : l'.val = 256 * c.val + l.val) :
    Layout.block ⟨2, ![512, 256]⟩ ⟨2, ![512, 1024]⟩ 1 4 c A (by decide) (ix2 e l) = A (ix2 e l') := by
  shard_ext

theorem block_k (A : (⟨4, ![2, 512, 16, 64]⟩ : Shape).Idx → EReal) (c : Fin 4) (b : Fin 2) (r : Fin 128) (h : Fin 16) (d : Fin 64) (r' : Fin 512)
    (hr : r'.val = 128 * c.val + r.val) :
    Layout.block ⟨4, ![2, 128, 16, 64]⟩ ⟨4, ![2, 512, 16, 64]⟩ 1 4 c A (by decide) (ix4 b r h d) = A (ix4 b r' h d) := by
  shard_ext

theorem block_o (A : (⟨2, ![1024, 512]⟩ : Shape).Idx → EReal) (c : Fin 4) (l : Fin 256) (j : Fin 512) (l' : Fin 1024) (hl : l'.val = 256 * c.val + l.val) :
    Layout.block ⟨2, ![256, 512]⟩ ⟨2, ![1024, 512]⟩ 0 4 c A (by decide) (ix2 l j) = A (ix2 l' j) := by
  shard_ext

variable (X : S2x128x512.Idx → EReal) (Q : (⟨2, ![512, 1024]⟩ : Shape).Idx → EReal)
  (K W : (⟨4, ![2, 512, 16, 64]⟩ : Shape).Idx → EReal) (O : (⟨2, ![1024, 512]⟩ : Shape).Idx → EReal)

/-- Memories cut from whole arrays stage the blocks of those arrays. -/
theorem holds_of (h : ∀ c : Dev nD, m (c.tc.loc main_arg0) = X
      ∧ m (c.tc.loc main_arg1) = Layout.block ⟨2, ![512, 256]⟩ ⟨2, ![512, 1024]⟩ 1 4 c Q
      ∧ m (c.tc.loc main_arg2) = Layout.block ⟨4, ![2, 128, 16, 64]⟩ ⟨4, ![2, 512, 16, 64]⟩ 1 4 c K
      ∧ m (c.tc.loc main_arg3) = Layout.block ⟨4, ![2, 128, 16, 64]⟩ ⟨4, ![2, 512, 16, 64]⟩ 1 4 c W
      ∧ m (c.tc.loc main_arg4) = Layout.block ⟨2, ![256, 512]⟩ ⟨2, ![1024, 512]⟩ 0 4 c O) :
    Holds (inp m) X Q K W O where
  x c b i e := congrFun ((V_main_arg0 m c).trans (h c).1) (ix3 b i e)
  q c e l l' hl := (congrFun ((V_main_arg1 m c).trans (h c).2.1) (ix2 e l)).trans (block_q Q c e l l' hl)
  k c b r z r' h' d hr hh hd := by
    refine (congrFun (V_v1 m c) (ix3 b r z)).trans ((merged _ b r z).trans ((congrFun (h c).2.2.1 _).trans ?_))
    rw [← show h' = ⟨z.val / 64, by omega⟩ from Fin.ext hh, ← show d = ⟨z.val % 64, by omega⟩ from Fin.ext hd]
    exact block_k K c b r h' d r' hr
  v c b r z r' h' d hr hh hd := by
    refine (congrFun (V_v2 m c) (ix3 b r z)).trans ((merged _ b r z).trans ((congrFun (h c).2.2.2.1 _).trans ?_))
    rw [← show h' = ⟨z.val / 64, by omega⟩ from Fin.ext hh, ← show d = ⟨z.val % 64, by omega⟩ from Fin.ext hd]
    exact block_k W c b r h' d r' hr
  o c l j l' hl := (congrFun ((V_main_arg4 m c).trans (h c).2.2.2.2) (ix2 l j)).trans (block_o O c l j l' hl)

/-- Finite blocks make finite whole arrays. -/
theorem real_x (c : Dev nD) (h : m (c.tc.loc main_arg0) = X) (hr : AllReal (S := S2x128x512) (m (c.tc.loc main_arg0)))
    (i : S2x128x512.Idx) : ∃ r : ℝ, X i = r := by
  obtain ⟨r, e⟩ := hr i
  exact ⟨r, (congrFun h i).symm.trans e⟩

theorem idx2 {n k : ℕ} (i : (⟨2, ![n, k]⟩ : Shape).Idx) : ∃ (a : Fin n) (b : Fin k), i = ix2 a b :=
  ⟨i 0, i 1, funext fun a => by fin_cases a <;> rfl⟩
theorem idx4 {n k p q : ℕ} (i : (⟨4, ![n, k, p, q]⟩ : Shape).Idx) : ∃ (a : Fin n) (b : Fin k) (c : Fin p) (d : Fin q), i = ix4 a b c d :=
  ⟨i 0, i 1, i 2, i 3, funext fun a => by fin_cases a <;> rfl⟩

theorem real_q (h : ∀ c : Dev nD, m (c.tc.loc main_arg1) = Layout.block ⟨2, ![512, 256]⟩ ⟨2, ![512, 1024]⟩ 1 4 c Q)
    (hr : ∀ c : Dev nD, AllReal (S := S512x256) (m (c.tc.loc main_arg1))) (i : (⟨2, ![512, 1024]⟩ : Shape).Idx) : ∃ r : ℝ, Q i = r := by
  obtain ⟨e, l, rfl⟩ := idx2 i
  obtain ⟨r, hr⟩ := hr (⟨l.val / 256, by show l.val / 256 < 4; omega⟩ : Fin 4) (ix2 e ⟨l.val % 256, by omega⟩)
  exact ⟨r, ((congrFun (h _) _).trans (block_q Q ⟨l.val / 256, by omega⟩ e ⟨l.val % 256, by omega⟩ l (by simp; omega))).symm.trans hr⟩

theorem real_k (h : ∀ c : Dev nD, m (c.tc.loc main_arg2) = Layout.block ⟨4, ![2, 128, 16, 64]⟩ ⟨4, ![2, 512, 16, 64]⟩ 1 4 c K)
    (hr : ∀ c : Dev nD, AllReal (S := S2x128x16x64) (m (c.tc.loc main_arg2))) (i : (⟨4, ![2, 512, 16, 64]⟩ : Shape).Idx) :
    ∃ r : ℝ, K i = r := by
  obtain ⟨b, j, h', d, rfl⟩ := idx4 i
  obtain ⟨r, hr⟩ := hr (⟨j.val / 128, by show j.val / 128 < 4; omega⟩ : Fin 4) (ix4 b ⟨j.val % 128, by omega⟩ h' d)
  exact ⟨r, ((congrFun (h _) _).trans (block_k K ⟨j.val / 128, by omega⟩ b ⟨j.val % 128, by omega⟩ h' d j (by simp; omega))).symm.trans hr⟩

end blocks

/-- The kernel's result on every device is the reference's. -/
theorem out_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (h : ∀ c : Dev Cert.KernelIdeal.nD, m (c.tc.loc Cert.KernelIdeal.main_arg0) = aX m' 0
      ∧ m (c.tc.loc Cert.KernelIdeal.main_arg1) = Layout.block ⟨2, ![512, 256]⟩ ⟨2, ![512, 1024]⟩ 1 4 c (aQ m' 0)
      ∧ m (c.tc.loc Cert.KernelIdeal.main_arg2) = Layout.block ⟨4, ![2, 128, 16, 64]⟩ ⟨4, ![2, 512, 16, 64]⟩ 1 4 c (aK m' 0)
      ∧ m (c.tc.loc Cert.KernelIdeal.main_arg3) = Layout.block ⟨4, ![2, 128, 16, 64]⟩ ⟨4, ![2, 512, 16, 64]⟩ 1 4 c (aV m' 0)
      ∧ m (c.tc.loc Cert.KernelIdeal.main_arg4) = Layout.block ⟨2, ![256, 512]⟩ ⟨2, ![1024, 512]⟩ 0 4 c (aO m' 0))
    (hp : ∀ c : Dev Cert.KernelIdeal.nD, (AllReal (S := Cert.KernelIdeal.S2x128x512) (m (c.tc.loc Cert.KernelIdeal.main_arg0)))
      ∧ (AllReal (S := Cert.KernelIdeal.S512x256) (m (c.tc.loc Cert.KernelIdeal.main_arg1)))
      ∧ (AllReal (S := Cert.KernelIdeal.S2x128x16x64) (m (c.tc.loc Cert.KernelIdeal.main_arg2))))
    (c : Dev Cert.KernelIdeal.nD) : outV (inp m) c = aR m' 0 := by
  funext i
  have hi : i = ix3 (i 0) (i 1) (i 2) := funext fun a => by fin_cases a <;> rfl
  rw [hi]
  refine (outV_at (holds_of m _ _ _ _ _ h) c (i 0) (i 1) (i 2)).trans (ref_at m' 0 ?_ ?_ ?_ (i 0) (i 1) (i 2)).symm
  · exact real_x m _ 0 (h 0).1 (hp 0).1
  · exact real_q m _ (fun c => (h c).2.1) fun c => (hp c).2.1
  · exact real_k m _ (fun c => (h c).2.2.1) fun c => (hp c).2.2

end Cert.Tie

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Same
public import proofs.«01_k».proof.Proof.Pre
public import proofs.«01_k».proof.Proof.Tie
public import Idealize.ShloMosaic.Adequacy
public import Idealize.ShloMosaic.Init

@[expose] public section

noncomputable section

namespace Cert.Proof

open Idealize.ShloMosaic Idealize.SL.Sem

/-- The kernel's run over any float values, read at its arguments and at the counters. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0) :=
  (θ_run Cert.KernelIdeal.defs _ _).mono (fun _ h => ⟨fun c => (h.1 c).2, h.2⟩) (Cert.KernelIdeal.Mesh.run_main (F := F) m ρ)

/-- The kernel at the bit-exact instance: its text is the ideal program's, whose run is over any float values. -/
theorem frame_kernel : Cert.quiescent_Kernel := by
  intro m ρ _
  rw [Cert.Same.run_eq]
  exact frame_any (F := Bits) m ρ

/-- The same at the extended reals. -/
theorem frame_ideal : Cert.quiescent_KernelIdeal := fun m ρ _ => frame_any (F := Ideal) m ρ

/-- The reference declares no semaphore, so its counters are zero throughout. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The frames hold with the precondition too: they need none. -/
theorem frame_ideal_pre : Cert.quiescent_KernelIdeal_pre_finite_KernelIdeal (hPre_finite_KernelIdeal := Cert.Pre.facts_kernel) :=
  fun m ρ _ => frame_any (F := Ideal) m ρ

@[inherit_doc frame_ideal_pre] theorem frame_reference_pre :
    Cert.quiescent_ReferenceIdeal_pre_finite_ReferenceIdeal (hPre_finite_ReferenceIdeal := Cert.Pre.facts_reference) :=
  fun m ρ _ => frame_reference m ρ trivial

/-- Over the extended reals every device ends with the reference's result. -/
theorem algebraic : Cert.algebraic_KernelIdeal_ReferenceIdeal_pre_finite_KernelIdeal (hPre_finite_KernelIdeal := Cert.Pre.facts_kernel) := by
  intro m ρ m' ρ' hp h
  refine ⟨Cert.ReferenceIdeal.Value.res_main_v45 m' 0,
    (θ_run Cert.KernelIdeal.defs _ _).mono (fun r hr c => ⟨(hr.1 c).1.trans ?_, (hr.1 c).2⟩) (Cert.KernelIdeal.Mesh.run_main (F := Ideal) m ρ),
    (θ_run Cert.ReferenceIdeal.defs _ _).mono (fun r hr => hr 0) (Cert.ReferenceIdeal.Value.run (F := Ideal) m' ρ')⟩
  exact Cert.Tie.out_eq m m' h (fun c => Cert.Pre.real_args _ _ _ _ _ (hp c)) c

theorem claim : Cert.Claim :=
  ⟨Cert.Kernel.Gen.facts, Cert.KernelIdeal.Gen.facts, Cert.ReferenceIdeal.Gen.facts, Cert.Pre.facts_kernel, Cert.Pre.facts_reference,
    frame_kernel, frame_ideal, frame_ideal_pre, frame_reference, frame_reference_pre, trivial, algebraic⟩

end Cert.Proof

end
